-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x8x128 .f32 := Host.absf main_arg2
  let main_cst_2 : FVec F S_ .f32 := constant S_ .f32 0x7F800000#32
  let main_v10 : FVec F S1x32768x8x128 .f32 := broadcastInDim S1x32768x8x128 ![] bcast_S_S1x32768x8x128 main_cst_2
  let main_v11 : IVec S1x32768x8x128 1 := cmpf .olt main_v9 main_v10
  let main_c_3 : IVec S_ 1 := constantI S_ 1 1#1
  let main_v12 : IVec S_ 1 := (fun x v => Host.reduce IntOp.andi x v reducesTo_S1x32768x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S2x8x4x4x64x128 : Shape := ⟨6, ![2, 8, 4, 4, 64, 128]⟩
abbrev S2x8x4x2x4x64 : Shape := ⟨6, ![2, 8, 4, 2, 4, 64]⟩
abbrev S4x8x1024x128 : Shape := ⟨4, ![4, 8, 1024, 128]⟩
abbrev S2x4x4x64x128 : Shape := ⟨5, ![2, 4, 4, 64, 128]⟩
abbrev S2x4096x128 : Shape := ⟨3, ![2, 4096, 128]⟩
abbrev S2x2 : Shape := ⟨2, ![2, 2]⟩
abbrev S2x8 : Shape := ⟨2, ![2, 8]⟩
abbrev S2x2x8x4 : Shape := ⟨4, ![2, 2, 8, 4]⟩
abbrev S_ : Shape := ⟨0, ![]⟩
abbrev S256x1024 : Shape := ⟨2, ![256, 1024]⟩
abbrev S64x128 : Shape := ⟨2, ![64, 128]⟩
abbrev S1x1x1x1x64x128 : Shape := ⟨6, ![1, 1, 1, 1, 64, 128]⟩
abbrev S1x1 : Shape := ⟨2, ![1, 1]⟩
abbrev S1x1x4x4x64x128 : Shape := ⟨6, ![1, 1, 4, 4, 64, 128]⟩
abbrev S4x4x64x128 : Shape := ⟨4, ![4, 4, 64, 128]⟩
abbrev S1x4096x128 : Shape := ⟨3, ![1, 4096, 128]⟩
abbrev S4096x128 : Shape := ⟨2, ![4096, 128]⟩
abbrev S1x4096x1x128 : Shape := ⟨4, ![1, 4096, 1, 128]⟩
abbrev S16x4x64x128 : Shape := ⟨4, ![16, 4, 64, 128]⟩
abbrev S16x1x64x128 : Shape := ⟨4, ![16, 1, 64, 128]⟩
abbrev S16x64x128 : Shape := ⟨3, ![16, 64, 128]⟩
abbrev S1024x128 : Shape := ⟨2, ![1024, 128]⟩
abbrev S1x1x1024x128 : Shape := ⟨4, ![1, 1, 1024, 128]⟩
abbrev S4x64 : Shape := ⟨2, ![4, 64]⟩
abbrev S1x1x1x1x4x64 : Shape := ⟨6, ![1, 1, 1, 1, 4, 64]⟩
abbrev S1x1x1x4x64x128 : Shape := ⟨6, ![1, 1, 1, 4, 64, 128]⟩
abbrev S4x64x128 : Shape := ⟨3, ![4, 64, 128]⟩
abbrev S1x4x1024x128 : Shape := ⟨4, ![1, 4, 1024, 128]⟩
abbrev S4x1024x128 : Shape := ⟨3, ![4, 1024, 128]⟩
abbrev S4x64x1024 : Shape := ⟨3, ![4, 64, 1024]⟩
abbrev S4x64x1 : Shape := ⟨3, ![4, 64, 1]⟩
abbrev S1x1x1x1 : Shape := ⟨4, ![1, 1, 1, 1]⟩
abbrev S1x1x1x2x4x64 : Shape := ⟨6, ![1, 1, 1, 2, 4, 64]⟩
abbrev S2x4x64 : Shape := ⟨3, ![2, 4, 64]⟩
abbrev S1x1x4x1x4x64 : Shape := ⟨6, ![1, 1, 4, 1, 4, 64]⟩
abbrev S4x4x64 : Shape := ⟨3, ![4, 4, 64]⟩
abbrev S4x4x64x1 : Shape := ⟨4, ![4, 4, 64, 1]⟩
abbrev S1x4x4x64x128 : Shape := ⟨5, ![1, 4, 4, 64, 128]⟩
abbrev S1x4x1x64x128 : Shape := ⟨5, ![1, 4, 1, 64, 128]⟩
abbrev S256x128 : Shape := ⟨2, ![256, 128]⟩
abbrev S128x1024 : Shape := ⟨2, ![128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x8x4x4x64x128, .bf16⟩
  | .local _ .vmem, ⟨5, _⟩ => ⟨S2x8x4x4x64x128, .bf16⟩
  | .local _ .vmem, ⟨6, _⟩ => ⟨S2x8x4x2x4x64, .f32⟩
  | .local _ .vmem, ⟨7, _⟩ => ⟨S4x8x1024x128, .bf16⟩
  | .local _ .vmem, ⟨8, _⟩ => ⟨S4x8x1024x128, .bf16⟩
  | .local _ .vmem, ⟨9, _⟩ => ⟨S2x4x4x64x128, .bf16⟩
  | .local _ .vmem, ⟨10, _⟩ => ⟨S2x4x4x64x128, .bf16⟩
  | .local _ .vmem, ⟨11, _⟩ => ⟨S2x4096x128, .f32⟩
  | .local _ .vmem, ⟨12, _⟩ => ⟨S2x4096x128, .f32⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 300 → Bool
  | ⟨i, _⟩ => dmaSemScopedAt i

abbrev sig : RefSig :=
  (ofTc nBuf bufTy 1 300 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_125 : BitVec 32 := 1#32
  let v104 : BitVec 32 := Scalar.muli v24 c1_i32_125
  let v105 : BitVec 32 := Scalar.addi c0_i32_126 v104
  v105.toNat
def k0_dev4 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_239 : BitVec 32 := 1#32
  let v178 : BitVec 32 := Scalar.muli v13 c1_i32_239
  let v179 : BitVec 32 := Scalar.addi c0_i32_240 v178
  v179.toNat
def k0_dev5 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1026 : BitVec 32 := 1#32
  let v989 : BitVec 32 := Scalar.muli v24 c1_i32_1026
  let v990 : BitVec 32 := Scalar.addi c0_i32_1027 v989
  v990.toNat
def k0_dev6 (d0 : Dev nD) : Nat :=
  let c0_i32_1049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1048 : BitVec 32 := 1#32
  let v999 : BitVec 32 := Scalar.muli v24 c1_i32_1048
  let v1000 : BitVec 32 := Scalar.addi c0_i32_1049 v999
  v1000.toNat
def k0_dev7 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1124 : BitVec 32 := 1#32
  let v1050 : BitVec 32 := Scalar.muli v13 c1_i32_1124
  let v1051 : BitVec 32 := Scalar.addi c0_i32_1125 v1050
  v1051.toNat
def k0_dev8 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1146 : BitVec 32 := 1#32
  let v1060 : BitVec 32 := Scalar.muli v13 c1_i32_1146
  let v1061 : BitVec 32 := Scalar.addi c0_i32_1147 v1060
  v1061.toNat
def k0_dev9 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1222 : BitVec 32 := 1#32
  let v1111 : BitVec 32 := Scalar.muli v24 c1_i32_1222
  let v1112 : BitVec 32 := Scalar.addi c0_i32_1223 v1111
  v1112.toNat
def k0_dev10 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1244 : BitVec 32 := 1#32
  let v1121 : BitVec 32 := Scalar.muli v24 c1_i32_1244
  let v1122 : BitVec 32 := Scalar.addi c0_i32_1245 v1121
  v1122.toNat
def k0_dev11 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1320 : BitVec 32 := 1#32
  let v1172 : BitVec 32 := Scalar.muli v13 c1_i32_1320
  let v1173 : BitVec 32 := Scalar.addi c0_i32_1321 v1172
  v1173.toNat
def k0_dev12 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1342 : BitVec 32 := 1#32
  let v1182 : BitVec 32 := Scalar.muli v13 c1_i32_1342
  let v1183 : BitVec 32 := Scalar.addi c0_i32_1343 v1182
  v1183.toNat
def k0_dev13 (d0 : Dev nD) : Nat :=
  let c0_i32_1419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1418 : BitVec 32 := 1#32
  let v1233 : BitVec 32 := Scalar.muli v24 c1_i32_1418
  let v1234 : BitVec 32 := Scalar.addi c0_i32_1419 v1233
  v1234.toNat
def k0_dev14 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1440 : BitVec 32 := 1#32
  let v1243 : BitVec 32 := Scalar.muli v24 c1_i32_1440
  let v1244 : BitVec 32 := Scalar.addi c0_i32_1441 v1243
  v1244.toNat
def k0_dev15 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1516 : BitVec 32 := 1#32
  let v1294 : BitVec 32 := Scalar.muli v13 c1_i32_1516
  let v1295 : BitVec 32 := Scalar.addi c0_i32_1517 v1294
  v1295.toNat
def k0_dev16 (d0 : Dev nD) : Nat :=
  let c0_i32_1539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1538 : BitVec 32 := 1#32
  let v1304 : BitVec 32 := Scalar.muli v13 c1_i32_1538
  let v1305 : BitVec 32 := Scalar.addi c0_i32_1539 v1304
  v1305.toNat
def k0_dev17 (d0 : Dev nD) : Nat :=
  let c0_i32_1615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1614 : BitVec 32 := 1#32
  let v1355 : BitVec 32 := Scalar.muli v24 c1_i32_1614
  let v1356 : BitVec 32 := Scalar.addi c0_i32_1615 v1355
  v1356.toNat
def k0_dev18 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1636 : BitVec 32 := 1#32
  let v1365 : BitVec 32 := Scalar.muli v24 c1_i32_1636
  let v1366 : BitVec 32 := Scalar.addi c0_i32_1637 v1365
  v1366.toNat
def k0_dev19 (d0 : Dev nD) : Nat :=
  let c0_i32_1713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1712 : BitVec 32 := 1#32
  let v1416 : BitVec 32 := Scalar.muli v13 c1_i32_1712
  let v1417 : BitVec 32 := Scalar.addi c0_i32_1713 v1416
  v1417.toNat
def k0_dev20 (d0 : Dev nD) : Nat :=
  let c0_i32_1735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1734 : BitVec 32 := 1#32
  let v1426 : BitVec 32 := Scalar.muli v13 c1_i32_1734
  let v1427 : BitVec 32 := Scalar.addi c0_i32_1735 v1426
  v1427.toNat
def k0_dev21 (d0 : Dev nD) : Nat :=
  let c0_i32_1769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1768 : BitVec 32 := 1#32
  let v1444 : BitVec 32 := Scalar.muli v24 c1_i32_1768
  let v1445 : BitVec 32 := Scalar.addi c0_i32_1769 v1444
  v1445.toNat
def k0_dev22 (d0 : Dev nD) : Nat :=
  let c0_i32_1805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1804 : BitVec 32 := 1#32
  let v1462 : BitVec 32 := Scalar.muli v13 c1_i32_1804
  let v1463 : BitVec 32 := Scalar.addi c0_i32_1805 v1462
  v1463.toNat
def k0_dev23 (d0 : Dev nD) : Nat :=
  let c0_i32_1927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1926 : BitVec 32 := 1#32
  let v1529 : BitVec 32 := Scalar.muli v24 c1_i32_1926
  let v1530 : BitVec 32 := Scalar.addi c0_i32_1927 v1529
  v1530.toNat
def k0_dev24 (d0 : Dev nD) : Nat :=
  let c0_i32_1949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1948 : BitVec 32 := 1#32
  let v1539 : BitVec 32 := Scalar.muli v24 c1_i32_1948
  let v1540 : BitVec 32 := Scalar.addi c0_i32_1949 v1539
  v1540.toNat
def k0_dev25 (d0 : Dev nD) : Nat :=
  let c0_i32_2069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2068 : BitVec 32 := 1#32
  let v1606 : BitVec 32 := Scalar.muli v13 c1_i32_2068
  let v1607 : BitVec 32 := Scalar.addi c0_i32_2069 v1606
  v1607.toNat
def k0_dev26 (d0 : Dev nD) : Nat :=
  let c0_i32_2091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2090 : BitVec 32 := 1#32
  let v1616 : BitVec 32 := Scalar.muli v13 c1_i32_2090
  let v1617 : BitVec 32 := Scalar.addi c0_i32_2091 v1616
  v1617.toNat
def k0_dev27 (d0 : Dev nD) : Nat :=
  let c0_i32_2211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2210 : BitVec 32 := 1#32
  let v1683 : BitVec 32 := Scalar.muli v24 c1_i32_2210
  let v1684 : BitVec 32 := Scalar.addi c0_i32_2211 v1683
  v1684.toNat
def k0_dev28 (d0 : Dev nD) : Nat :=
  let c0_i32_2233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2232 : BitVec 32 := 1#32
  let v1693 : BitVec 32 := Scalar.muli v24 c1_i32_2232
  let v1694 : BitVec 32 := Scalar.addi c0_i32_2233 v1693
  v1694.toNat
def k0_dev29 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2352 : BitVec 32 := 1#32
  let v1760 : BitVec 32 := Scalar.muli v13 c1_i32_2352
  let v1761 : BitVec 32 := Scalar.addi c0_i32_2353 v1760
  v1761.toNat
def k0_dev30 (d0 : Dev nD) : Nat :=
  let c0_i32_2375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2374 : BitVec 32 := 1#32
  let v1770 : BitVec 32 := Scalar.muli v13 c1_i32_2374
  let v1771 : BitVec 32 := Scalar.addi c0_i32_2375 v1770
  v1771.toNat
def k0_dev31 (d0 : Dev nD) : Nat :=
  let c0_i32_2495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2494 : BitVec 32 := 1#32
  let v1837 : BitVec 32 := Scalar.muli v24 c1_i32_2494
  let v1838 : BitVec 32 := Scalar.addi c0_i32_2495 v1837
  v1838.toNat
def k0_dev32 (d0 : Dev nD) : Nat :=
  let c0_i32_2517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2516 : BitVec 32 := 1#32
  let v1847 : BitVec 32 := Scalar.muli v24 c1_i32_2516
  let v1848 : BitVec 32 := Scalar.addi c0_i32_2517 v1847
  v1848.toNat
def k0_dev33 (d0 : Dev nD) : Nat :=
  let c0_i32_2637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2636 : BitVec 32 := 1#32
  let v1914 : BitVec 32 := Scalar.muli v13 c1_i32_2636
  let v1915 : BitVec 32 := Scalar.addi c0_i32_2637 v1914
  v1915.toNat
def k0_dev34 (d0 : Dev nD) : Nat :=
  let c0_i32_2659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2658 : BitVec 32 := 1#32
  let v1924 : BitVec 32 := Scalar.muli v13 c1_i32_2658
  let v1925 : BitVec 32 := Scalar.addi c0_i32_2659 v1924
  v1925.toNat
def k0_dev35 (d0 : Dev nD) : Nat :=
  let c0_i32_2779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2778 : BitVec 32 := 1#32
  let v1991 : BitVec 32 := Scalar.muli v24 c1_i32_2778
  let v1992 : BitVec 32 := Scalar.addi c0_i32_2779 v1991
  v1992.toNat
def k0_dev36 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2800 : BitVec 32 := 1#32
  let v2001 : BitVec 32 := Scalar.muli v24 c1_i32_2800
  let v2002 : BitVec 32 := Scalar.addi c0_i32_2801 v2001
  v2002.toNat
def k0_dev37 (d0 : Dev nD) : Nat :=
  let c0_i32_2921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2920 : BitVec 32 := 1#32
  let v2068 : BitVec 32 := Scalar.muli v13 c1_i32_2920
  let v2069 : BitVec 32 := Scalar.addi c0_i32_2921 v2068
  v2069.toNat
def k0_dev38 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2942 : BitVec 32 := 1#32
  let v2078 : BitVec 32 := Scalar.muli v13 c1_i32_2942
  let v2079 : BitVec 32 := Scalar.addi c0_i32_2943 v2078
  v2079.toNat
def k0_dev39 (d0 : Dev nD) : Nat :=
  let c0_i32_2977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2976 : BitVec 32 := 1#32
  let v2096 : BitVec 32 := Scalar.muli v24 c1_i32_2976
  let v2097 : BitVec 32 := Scalar.addi c0_i32_2977 v2096
  v2097.toNat
def k0_dev40 (d0 : Dev nD) : Nat :=
  let c0_i32_3013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3012 : BitVec 32 := 1#32
  let v2114 : BitVec 32 := Scalar.muli v13 c1_i32_3012
  let v2115 : BitVec 32 := Scalar.addi c0_i32_3013 v2114
  v2115.toNat
def k0_dev41 (d0 : Dev nD) : Nat :=
  let c0_i32_3135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3134 : BitVec 32 := 1#32
  let v2181 : BitVec 32 := Scalar.muli v24 c1_i32_3134
  let v2182 : BitVec 32 := Scalar.addi c0_i32_3135 v2181
  v2182.toNat
def k0_dev42 (d0 : Dev nD) : Nat :=
  let c0_i32_3157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3156 : BitVec 32 := 1#32
  let v2191 : BitVec 32 := Scalar.muli v24 c1_i32_3156
  let v2192 : BitVec 32 := Scalar.addi c0_i32_3157 v2191
  v2192.toNat
def k0_dev43 (d0 : Dev nD) : Nat :=
  let c0_i32_3277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3276 : BitVec 32 := 1#32
  let v2258 : BitVec 32 := Scalar.muli v13 c1_i32_3276
  let v2259 : BitVec 32 := Scalar.addi c0_i32_3277 v2258
  v2259.toNat
def k0_dev44 (d0 : Dev nD) : Nat :=
  let c0_i32_3299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3298 : BitVec 32 := 1#32
  let v2268 : BitVec 32 := Scalar.muli v13 c1_i32_3298
  let v2269 : BitVec 32 := Scalar.addi c0_i32_3299 v2268
  v2269.toNat
def k0_dev45 (d0 : Dev nD) : Nat :=
  let c0_i32_3419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3418 : BitVec 32 := 1#32
  let v2335 : BitVec 32 := Scalar.muli v24 c1_i32_3418
  let v2336 : BitVec 32 := Scalar.addi c0_i32_3419 v2335
  v2336.toNat
def k0_dev46 (d0 : Dev nD) : Nat :=
  let c0_i32_3441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3440 : BitVec 32 := 1#32
  let v2345 : BitVec 32 := Scalar.muli v24 c1_i32_3440
  let v2346 : BitVec 32 := Scalar.addi c0_i32_3441 v2345
  v2346.toNat
def k0_dev47 (d0 : Dev nD) : Nat :=
  let c0_i32_3561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3560 : BitVec 32 := 1#32
  let v2412 : BitVec 32 := Scalar.muli v13 c1_i32_3560
  let v2413 : BitVec 32 := Scalar.addi c0_i32_3561 v2412
  v2413.toNat
def k0_dev48 (d0 : Dev nD) : Nat :=
  let c0_i32_3583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3582 : BitVec 32 := 1#32
  let v2422 : BitVec 32 := Scalar.muli v13 c1_i32_3582
  let v2423 : BitVec 32 := Scalar.addi c0_i32_3583 v2422
  v2423.toNat
def k0_dev49 (d0 : Dev nD) : Nat :=
  let c0_i32_3703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3702 : BitVec 32 := 1#32
  let v2489 : BitVec 32 := Scalar.muli v24 c1_i32_3702
  let v2490 : BitVec 32 := Scalar.addi c0_i32_3703 v2489
  v2490.toNat
def k0_dev50 (d0 : Dev nD) : Nat :=
  let c0_i32_3725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3724 : BitVec 32 := 1#32
  let v2499 : BitVec 32 := Scalar.muli v24 c1_i32_3724
  let v2500 : BitVec 32 := Scalar.addi c0_i32_3725 v2499
  v2500.toNat
def k0_dev51 (d0 : Dev nD) : Nat :=
  let c0_i32_3845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3844 : BitVec 32 := 1#32
  let v2566 : BitVec 32 := Scalar.muli v13 c1_i32_3844
  let v2567 : BitVec 32 := Scalar.addi c0_i32_3845 v2566
  v2567.toNat
def k0_dev52 (d0 : Dev nD) : Nat :=
  let c0_i32_3867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3866 : BitVec 32 := 1#32
  let v2576 : BitVec 32 := Scalar.muli v13 c1_i32_3866
  let v2577 : BitVec 32 := Scalar.addi c0_i32_3867 v2576
  v2577.toNat
def k0_dev53 (d0 : Dev nD) : Nat :=
  let c0_i32_3987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3986 : BitVec 32 := 1#32
  let v2643 : BitVec 32 := Scalar.muli v24 c1_i32_3986
  let v2644 : BitVec 32 := Scalar.addi c0_i32_3987 v2643
  v2644.toNat
def k0_dev54 (d0 : Dev nD) : Nat :=
  let c0_i32_4009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4008 : BitVec 32 := 1#32
  let v2653 : BitVec 32 := Scalar.muli v24 c1_i32_4008
  let v2654 : BitVec 32 := Scalar.addi c0_i32_4009 v2653
  v2654.toNat
def k0_dev55 (d0 : Dev nD) : Nat :=
  let c0_i32_4129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4128 : BitVec 32 := 1#32
  let v2720 : BitVec 32 := Scalar.muli v13 c1_i32_4128
  let v2721 : BitVec 32 := Scalar.addi c0_i32_4129 v2720
  v2721.toNat
def k0_dev56 (d0 : Dev nD) : Nat :=
  let c0_i32_4151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4150 : BitVec 32 := 1#32
  let v2730 : BitVec 32 := Scalar.muli v13 c1_i32_4150
  let v2731 : BitVec 32 := Scalar.addi c0_i32_4151 v2730
  v2731.toNat
def k0_dev57 (d0 : Dev nD) : Nat :=
  let c0_i32_4185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4184 : BitVec 32 := 1#32
  let v2748 : BitVec 32 := Scalar.muli v24 c1_i32_4184
  let v2749 : BitVec 32 := Scalar.addi c0_i32_4185 v2748
  v2749.toNat
def k0_dev58 (d0 : Dev nD) : Nat :=
  let c0_i32_4221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4220 : BitVec 32 := 1#32
  let v2766 : BitVec 32 := Scalar.muli v13 c1_i32_4220
  let v2767 : BitVec 32 := Scalar.addi c0_i32_4221 v2766
  v2767.toNat
def k0_dev59 (d0 : Dev nD) : Nat :=
  let c0_i32_4343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4342 : BitVec 32 := 1#32
  let v2833 : BitVec 32 := Scalar.muli v24 c1_i32_4342
  let v2834 : BitVec 32 := Scalar.addi c0_i32_4343 v2833
  v2834.toNat
def k0_dev60 (d0 : Dev nD) : Nat :=
  let c0_i32_4365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4364 : BitVec 32 := 1#32
  let v2843 : BitVec 32 := Scalar.muli v24 c1_i32_4364
  let v2844 : BitVec 32 := Scalar.addi c0_i32_4365 v2843
  v2844.toNat
def k0_dev61 (d0 : Dev nD) : Nat :=
  let c0_i32_4485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4484 : BitVec 32 := 1#32
  let v2910 : BitVec 32 := Scalar.muli v13 c1_i32_4484
  let v2911 : BitVec 32 := Scalar.addi c0_i32_4485 v2910
  v2911.toNat
def k0_dev62 (d0 : Dev nD) : Nat :=
  let c0_i32_4507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4506 : BitVec 32 := 1#32
  let v2920 : BitVec 32 := Scalar.muli v13 c1_i32_4506
  let v2921 : BitVec 32 := Scalar.addi c0_i32_4507 v2920
  v2921.toNat
def k0_dev63 (d0 : Dev nD) : Nat :=
  let c0_i32_4627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4626 : BitVec 32 := 1#32
  let v2987 : BitVec 32 := Scalar.muli v24 c1_i32_4626
  let v2988 : BitVec 32 := Scalar.addi c0_i32_4627 v2987
  v2988.toNat
def k0_dev64 (d0 : Dev nD) : Nat :=
  let c0_i32_4649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4648 : BitVec 32 := 1#32
  let v2997 : BitVec 32 := Scalar.muli v24 c1_i32_4648
  let v2998 : BitVec 32 := Scalar.addi c0_i32_4649 v2997
  v2998.toNat
def k0_dev65 (d0 : Dev nD) : Nat :=
  let c0_i32_4769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4768 : BitVec 32 := 1#32
  let v3064 : BitVec 32 := Scalar.muli v13 c1_i32_4768
  let v3065 : BitVec 32 := Scalar.addi c0_i32_4769 v3064
  v3065.toNat
def k0_dev66 (d0 : Dev nD) : Nat :=
  let c0_i32_4791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4790 : BitVec 32 := 1#32
  let v3074 : BitVec 32 := Scalar.muli v13 c1_i32_4790
  let v3075 : BitVec 32 := Scalar.addi c0_i32_4791 v3074
  v3075.toNat
def k0_dev67 (d0 : Dev nD) : Nat :=
  let c0_i32_4911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4910 : BitVec 32 := 1#32
  let v3141 : BitVec 32 := Scalar.muli v24 c1_i32_4910
  let v3142 : BitVec 32 := Scalar.addi c0_i32_4911 v3141
  v3142.toNat
def k0_dev68 (d0 : Dev nD) : Nat :=
  let c0_i32_4933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4932 : BitVec 32 := 1#32
  let v3151 : BitVec 32 := Scalar.muli v24 c1_i32_4932
  let v3152 : BitVec 32 := Scalar.addi c0_i32_4933 v3151
  v3152.toNat
def k0_dev69 (d0 : Dev nD) : Nat :=
  let c0_i32_5053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5052 : BitVec 32 := 1#32
  let v3218 : BitVec 32 := Scalar.muli v13 c1_i32_5052
  let v3219 : BitVec 32 := Scalar.addi c0_i32_5053 v3218
  v3219.toNat
def k0_dev70 (d0 : Dev nD) : Nat :=
  let c0_i32_5075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5074 : BitVec 32 := 1#32
  let v3228 : BitVec 32 := Scalar.muli v13 c1_i32_5074
  let v3229 : BitVec 32 := Scalar.addi c0_i32_5075 v3228
  v3229.toNat
def k0_dev71 (d0 : Dev nD) : Nat :=
  let c0_i32_5195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5194 : BitVec 32 := 1#32
  let v3295 : BitVec 32 := Scalar.muli v24 c1_i32_5194
  let v3296 : BitVec 32 := Scalar.addi c0_i32_5195 v3295
  v3296.toNat
def k0_dev72 (d0 : Dev nD) : Nat :=
  let c0_i32_5217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5216 : BitVec 32 := 1#32
  let v3305 : BitVec 32 := Scalar.muli v24 c1_i32_5216
  let v3306 : BitVec 32 := Scalar.addi c0_i32_5217 v3305
  v3306.toNat
def k0_dev73 (d0 : Dev nD) : Nat :=
  let c0_i32_5337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5336 : BitVec 32 := 1#32
  let v3372 : BitVec 32 := Scalar.muli v13 c1_i32_5336
  let v3373 : BitVec 32 := Scalar.addi c0_i32_5337 v3372
  v3373.toNat
def k0_dev74 (d0 : Dev nD) : Nat :=
  let c0_i32_5359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5358 : BitVec 32 := 1#32
  let v3382 : BitVec 32 := Scalar.muli v13 c1_i32_5358
  let v3383 : BitVec 32 := Scalar.addi c0_i32_5359 v3382
  v3383.toNat
def k0_dev75 (d0 : Dev nD) : Nat :=
  let c0_i32_5393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5392 : BitVec 32 := 1#32
  let v3400 : BitVec 32 := Scalar.muli v24 c1_i32_5392
  let v3401 : BitVec 32 := Scalar.addi c0_i32_5393 v3400
  v3401.toNat
def k0_dev76 (d0 : Dev nD) : Nat :=
  let c0_i32_5429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5428 : BitVec 32 := 1#32
  let v3418 : BitVec 32 := Scalar.muli v13 c1_i32_5428
  let v3419 : BitVec 32 := Scalar.addi c0_i32_5429 v3418
  v3419.toNat
def k0_dev77 (d0 : Dev nD) : Nat :=
  let c0_i32_5551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5550 : BitVec 32 := 1#32
  let v3485 : BitVec 32 := Scalar.muli v24 c1_i32_5550
  let v3486 : BitVec 32 := Scalar.addi c0_i32_5551 v3485
  v3486.toNat
def k0_dev78 (d0 : Dev nD) : Nat :=
  let c0_i32_5573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5572 : BitVec 32 := 1#32
  let v3495 : BitVec 32 := Scalar.muli v24 c1_i32_5572
  let v3496 : BitVec 32 := Scalar.addi c0_i32_5573 v3495
  v3496.toNat
def k0_dev79 (d0 : Dev nD) : Nat :=
  let c0_i32_5693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5692 : BitVec 32 := 1#32
  let v3562 : BitVec 32 := Scalar.muli v13 c1_i32_5692
  let v3563 : BitVec 32 := Scalar.addi c0_i32_5693 v3562
  v3563.toNat
def k0_dev80 (d0 : Dev nD) : Nat :=
  let c0_i32_5715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5714 : BitVec 32 := 1#32
  let v3572 : BitVec 32 := Scalar.muli v13 c1_i32_5714
  let v3573 : BitVec 32 := Scalar.addi c0_i32_5715 v3572
  v3573.toNat
def k0_dev81 (d0 : Dev nD) : Nat :=
  let c0_i32_5835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5834 : BitVec 32 := 1#32
  let v3639 : BitVec 32 := Scalar.muli v24 c1_i32_5834
  let v3640 : BitVec 32 := Scalar.addi c0_i32_5835 v3639
  v3640.toNat
def k0_dev82 (d0 : Dev nD) : Nat :=
  let c0_i32_5857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5856 : BitVec 32 := 1#32
  let v3649 : BitVec 32 := Scalar.muli v24 c1_i32_5856
  let v3650 : BitVec 32 := Scalar.addi c0_i32_5857 v3649
  v3650.toNat
def k0_dev83 (d0 : Dev nD) : Nat :=
  let c0_i32_5977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5976 : BitVec 32 := 1#32
  let v3716 : BitVec 32 := Scalar.muli v13 c1_i32_5976
  let v3717 : BitVec 32 := Scalar.addi c0_i32_5977 v3716
  v3717.toNat
def k0_dev84 (d0 : Dev nD) : Nat :=
  let c0_i32_5999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5998 : BitVec 32 := 1#32
  let v3726 : BitVec 32 := Scalar.muli v13 c1_i32_5998
  let v3727 : BitVec 32 := Scalar.addi c0_i32_5999 v3726
  v3727.toNat
def k0_dev85 (d0 : Dev nD) : Nat :=
  let c0_i32_6119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6118 : BitVec 32 := 1#32
  let v3793 : BitVec 32 := Scalar.muli v24 c1_i32_6118
  let v3794 : BitVec 32 := Scalar.addi c0_i32_6119 v3793
  v3794.toNat
def k0_dev86 (d0 : Dev nD) : Nat :=
  let c0_i32_6141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6140 : BitVec 32 := 1#32
  let v3803 : BitVec 32 := Scalar.muli v24 c1_i32_6140
  let v3804 : BitVec 32 := Scalar.addi c0_i32_6141 v3803
  v3804.toNat
def k0_dev87 (d0 : Dev nD) : Nat :=
  let c0_i32_6261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6260 : BitVec 32 := 1#32
  let v3870 : BitVec 32 := Scalar.muli v13 c1_i32_6260
  let v3871 : BitVec 32 := Scalar.addi c0_i32_6261 v3870
  v3871.toNat
def k0_dev88 (d0 : Dev nD) : Nat :=
  let c0_i32_6283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6282 : BitVec 32 := 1#32
  let v3880 : BitVec 32 := Scalar.muli v13 c1_i32_6282
  let v3881 : BitVec 32 := Scalar.addi c0_i32_6283 v3880
  v3881.toNat
def k0_dev89 (d0 : Dev nD) : Nat :=
  let c0_i32_6403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6402 : BitVec 32 := 1#32
  let v3947 : BitVec 32 := Scalar.muli v24 c1_i32_6402
  let v3948 : BitVec 32 := Scalar.addi c0_i32_6403 v3947
  v3948.toNat
def k0_dev90 (d0 : Dev nD) : Nat :=
  let c0_i32_6425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6424 : BitVec 32 := 1#32
  let v3957 : BitVec 32 := Scalar.muli v24 c1_i32_6424
  let v3958 : BitVec 32 := Scalar.addi c0_i32_6425 v3957
  v3958.toNat
def k0_dev91 (d0 : Dev nD) : Nat :=
  let c0_i32_6545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6544 : BitVec 32 := 1#32
  let v4024 : BitVec 32 := Scalar.muli v13 c1_i32_6544
  let v4025 : BitVec 32 := Scalar.addi c0_i32_6545 v4024
  v4025.toNat
def k0_dev92 (d0 : Dev nD) : Nat :=
  let c0_i32_6567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6566 : BitVec 32 := 1#32
  let v4034 : BitVec 32 := Scalar.muli v13 c1_i32_6566
  let v4035 : BitVec 32 := Scalar.addi c0_i32_6567 v4034
  v4035.toNat
def k0_dev93 (d0 : Dev nD) : Nat :=
  let c0_i32_6601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6600 : BitVec 32 := 1#32
  let v4052 : BitVec 32 := Scalar.muli v24 c1_i32_6600
  let v4053 : BitVec 32 := Scalar.addi c0_i32_6601 v4052
  v4053.toNat
def k0_dev94 (d0 : Dev nD) : Nat :=
  let c0_i32_6637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6636 : BitVec 32 := 1#32
  let v4070 : BitVec 32 := Scalar.muli v13 c1_i32_6636
  let v4071 : BitVec 32 := Scalar.addi c0_i32_6637 v4070
  v4071.toNat
def k0_dev95 (d0 : Dev nD) : Nat :=
  let c0_i32_6759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6758 : BitVec 32 := 1#32
  let v4137 : BitVec 32 := Scalar.muli v24 c1_i32_6758
  let v4138 : BitVec 32 := Scalar.addi c0_i32_6759 v4137
  v4138.toNat
def k0_dev96 (d0 : Dev nD) : Nat :=
  let c0_i32_6781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6780 : BitVec 32 := 1#32
  let v4147 : BitVec 32 := Scalar.muli v24 c1_i32_6780
  let v4148 : BitVec 32 := Scalar.addi c0_i32_6781 v4147
  v4148.toNat
def k0_dev97 (d0 : Dev nD) : Nat :=
  let c0_i32_6901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6900 : BitVec 32 := 1#32
  let v4214 : BitVec 32 := Scalar.muli v13 c1_i32_6900
  let v4215 : BitVec 32 := Scalar.addi c0_i32_6901 v4214
  v4215.toNat
def k0_dev98 (d0 : Dev nD) : Nat :=
  let c0_i32_6923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6922 : BitVec 32 := 1#32
  let v4224 : BitVec 32 := Scalar.muli v13 c1_i32_6922
  let v4225 : BitVec 32 := Scalar.addi c0_i32_6923 v4224
  v4225.toNat
def k0_dev99 (d0 : Dev nD) : Nat :=
  let c0_i32_7043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7042 : BitVec 32 := 1#32
  let v4291 : BitVec 32 := Scalar.muli v24 c1_i32_7042
  let v4292 : BitVec 32 := Scalar.addi c0_i32_7043 v4291
  v4292.toNat
def k0_dev100 (d0 : Dev nD) : Nat :=
  let c0_i32_7065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7064 : BitVec 32 := 1#32
  let v4301 : BitVec 32 := Scalar.muli v24 c1_i32_7064
  let v4302 : BitVec 32 := Scalar.addi c0_i32_7065 v4301
  v4302.toNat
def k0_dev101 (d0 : Dev nD) : Nat :=
  let c0_i32_7185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7184 : BitVec 32 := 1#32
  let v4368 : BitVec 32 := Scalar.muli v13 c1_i32_7184
  let v4369 : BitVec 32 := Scalar.addi c0_i32_7185 v4368
  v4369.toNat
def k0_dev102 (d0 : Dev nD) : Nat :=
  let c0_i32_7207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7206 : BitVec 32 := 1#32
  let v4378 : BitVec 32 := Scalar.muli v13 c1_i32_7206
  let v4379 : BitVec 32 := Scalar.addi c0_i32_7207 v4378
  v4379.toNat
def k0_dev103 (d0 : Dev nD) : Nat :=
  let c0_i32_7327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7326 : BitVec 32 := 1#32
  let v4445 : BitVec 32 := Scalar.muli v24 c1_i32_7326
  let v4446 : BitVec 32 := Scalar.addi c0_i32_7327 v4445
  v4446.toNat
def k0_dev104 (d0 : Dev nD) : Nat :=
  let c0_i32_7349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7348 : BitVec 32 := 1#32
  let v4455 : BitVec 32 := Scalar.muli v24 c1_i32_7348
  let v4456 : BitVec 32 := Scalar.addi c0_i32_7349 v4455
  v4456.toNat
def k0_dev105 (d0 : Dev nD) : Nat :=
  let c0_i32_7469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7468 : BitVec 32 := 1#32
  let v4522 : BitVec 32 := Scalar.muli v13 c1_i32_7468
  let v4523 : BitVec 32 := Scalar.addi c0_i32_7469 v4522
  v4523.toNat
def k0_dev106 (d0 : Dev nD) : Nat :=
  let c0_i32_7491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7490 : BitVec 32 := 1#32
  let v4532 : BitVec 32 := Scalar.muli v13 c1_i32_7490
  let v4533 : BitVec 32 := Scalar.addi c0_i32_7491 v4532
  v4533.toNat
def k0_dev107 (d0 : Dev nD) : Nat :=
  let c0_i32_7611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7610 : BitVec 32 := 1#32
  let v4599 : BitVec 32 := Scalar.muli v24 c1_i32_7610
  let v4600 : BitVec 32 := Scalar.addi c0_i32_7611 v4599
  v4600.toNat
def k0_dev108 (d0 : Dev nD) : Nat :=
  let c0_i32_7633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7632 : BitVec 32 := 1#32
  let v4609 : BitVec 32 := Scalar.muli v24 c1_i32_7632
  let v4610 : BitVec 32 := Scalar.addi c0_i32_7633 v4609
  v4610.toNat
def k0_dev109 (d0 : Dev nD) : Nat :=
  let c0_i32_7753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7752 : BitVec 32 := 1#32
  let v4676 : BitVec 32 := Scalar.muli v13 c1_i32_7752
  let v4677 : BitVec 32 := Scalar.addi c0_i32_7753 v4676
  v4677.toNat
def k0_dev110 (d0 : Dev nD) : Nat :=
  let c0_i32_7775 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7774 : BitVec 32 := 1#32
  let v4686 : BitVec 32 := Scalar.muli v13 c1_i32_7774
  let v4687 : BitVec 32 := Scalar.addi c0_i32_7775 v4686
  v4687.toNat
def k0_dev111 (d0 : Dev nD) : Nat :=
  let c0_i32_7809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7808 : BitVec 32 := 1#32
  let v4704 : BitVec 32 := Scalar.muli v24 c1_i32_7808
  let v4705 : BitVec 32 := Scalar.addi c0_i32_7809 v4704
  v4705.toNat
def k0_dev112 (d0 : Dev nD) : Nat :=
  let c0_i32_7845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7844 : BitVec 32 := 1#32
  let v4722 : BitVec 32 := Scalar.muli v13 c1_i32_7844
  let v4723 : BitVec 32 := Scalar.addi c0_i32_7845 v4722
  v4723.toNat
def k0_dev113 (d0 : Dev nD) : Nat :=
  let c0_i32_7967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7966 : BitVec 32 := 1#32
  let v4789 : BitVec 32 := Scalar.muli v24 c1_i32_7966
  let v4790 : BitVec 32 := Scalar.addi c0_i32_7967 v4789
  v4790.toNat
def k0_dev114 (d0 : Dev nD) : Nat :=
  let c0_i32_7989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7988 : BitVec 32 := 1#32
  let v4799 : BitVec 32 := Scalar.muli v24 c1_i32_7988
  let v4800 : BitVec 32 := Scalar.addi c0_i32_7989 v4799
  v4800.toNat
def k0_dev115 (d0 : Dev nD) : Nat :=
  let c0_i32_8109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8108 : BitVec 32 := 1#32
  let v4866 : BitVec 32 := Scalar.muli v13 c1_i32_8108
  let v4867 : BitVec 32 := Scalar.addi c0_i32_8109 v4866
  v4867.toNat
def k0_dev116 (d0 : Dev nD) : Nat :=
  let c0_i32_8131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8130 : BitVec 32 := 1#32
  let v4876 : BitVec 32 := Scalar.muli v13 c1_i32_8130
  let v4877 : BitVec 32 := Scalar.addi c0_i32_8131 v4876
  v4877.toNat
def k0_dev117 (d0 : Dev nD) : Nat :=
  let c0_i32_8251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8250 : BitVec 32 := 1#32
  let v4943 : BitVec 32 := Scalar.muli v24 c1_i32_8250
  let v4944 : BitVec 32 := Scalar.addi c0_i32_8251 v4943
  v4944.toNat
def k0_dev118 (d0 : Dev nD) : Nat :=
  let c0_i32_8273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8272 : BitVec 32 := 1#32
  let v4953 : BitVec 32 := Scalar.muli v24 c1_i32_8272
  let v4954 : BitVec 32 := Scalar.addi c0_i32_8273 v4953
  v4954.toNat
def k0_dev119 (d0 : Dev nD) : Nat :=
  let c0_i32_8393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8392 : BitVec 32 := 1#32
  let v5020 : BitVec 32 := Scalar.muli v13 c1_i32_8392
  let v5021 : BitVec 32 := Scalar.addi c0_i32_8393 v5020
  v5021.toNat
def k0_dev120 (d0 : Dev nD) : Nat :=
  let c0_i32_8415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8414 : BitVec 32 := 1#32
  let v5030 : BitVec 32 := Scalar.muli v13 c1_i32_8414
  let v5031 : BitVec 32 := Scalar.addi c0_i32_8415 v5030
  v5031.toNat
def k0_dev121 (d0 : Dev nD) : Nat :=
  let c0_i32_8535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8534 : BitVec 32 := 1#32
  let v5097 : BitVec 32 := Scalar.muli v24 c1_i32_8534
  let v5098 : BitVec 32 := Scalar.addi c0_i32_8535 v5097
  v5098.toNat
def k0_dev122 (d0 : Dev nD) : Nat :=
  let c0_i32_8557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8556 : BitVec 32 := 1#32
  let v5107 : BitVec 32 := Scalar.muli v24 c1_i32_8556
  let v5108 : BitVec 32 := Scalar.addi c0_i32_8557 v5107
  v5108.toNat
def k0_dev123 (d0 : Dev nD) : Nat :=
  let c0_i32_8677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8676 : BitVec 32 := 1#32
  let v5174 : BitVec 32 := Scalar.muli v13 c1_i32_8676
  let v5175 : BitVec 32 := Scalar.addi c0_i32_8677 v5174
  v5175.toNat
def k0_dev124 (d0 : Dev nD) : Nat :=
  let c0_i32_8699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8698 : BitVec 32 := 1#32
  let v5184 : BitVec 32 := Scalar.muli v13 c1_i32_8698
  let v5185 : BitVec 32 := Scalar.addi c0_i32_8699 v5184
  v5185.toNat
def k0_dev125 (d0 : Dev nD) : Nat :=
  let c0_i32_8819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8818 : BitVec 32 := 1#32
  let v5251 : BitVec 32 := Scalar.muli v24 c1_i32_8818
  let v5252 : BitVec 32 := Scalar.addi c0_i32_8819 v5251
  v5252.toNat
def k0_dev126 (d0 : Dev nD) : Nat :=
  let c0_i32_8841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8840 : BitVec 32 := 1#32
  let v5261 : BitVec 32 := Scalar.muli v24 c1_i32_8840
  let v5262 : BitVec 32 := Scalar.addi c0_i32_8841 v5261
  v5262.toNat
def k0_dev127 (d0 : Dev nD) : Nat :=
  let c0_i32_8961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8960 : BitVec 32 := 1#32
  let v5328 : BitVec 32 := Scalar.muli v13 c1_i32_8960
  let v5329 : BitVec 32 := Scalar.addi c0_i32_8961 v5328
  v5329.toNat
def k0_dev128 (d0 : Dev nD) : Nat :=
  let c0_i32_8983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8982 : BitVec 32 := 1#32
  let v5338 : BitVec 32 := Scalar.muli v13 c1_i32_8982
  let v5339 : BitVec 32 := Scalar.addi c0_i32_8983 v5338
  v5339.toNat
def k0_dev129 (d0 : Dev nD) : Nat :=
  let c0_i32_9834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9833 : BitVec 32 := 1#32
  let v5832 : BitVec 32 := Scalar.muli v24 c1_i32_9833
  let v5833 : BitVec 32 := Scalar.addi c0_i32_9834 v5832
  v5833.toNat
def k0_dev130 (d0 : Dev nD) : Nat :=
  let c0_i32_9867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9866 : BitVec 32 := 1#32
  let v5854 : BitVec 32 := Scalar.muli v13 c1_i32_9866
  let v5855 : BitVec 32 := Scalar.addi c0_i32_9867 v5854
  v5855.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S32768 : Shape := ⟨1, ![32768]⟩
abbrev S1x32768 : Shape := ⟨2, ![1, 32768]⟩
abbrev S2048x32768 : Shape := ⟨2, ![2048, 32768]⟩
abbrev S1x8x2048x32768 : Shape := ⟨4, ![1, 8, 2048, 32768]⟩
abbrev S1x1x2048x32768 : Shape := ⟨4, ![1, 1, 2048, 32768]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 137
  | .vmem => 0
  | .smem => 0
  | _ => 0

abbrev hbmTy0_0 (i : Nat) : BufTy := match i % 128 with
  | 0 => ⟨S1x2048x1024, .f32⟩
  | 1 => ⟨S1024x1024, .f32⟩
  | 2 => ⟨S1x32768x8x128, .f32⟩
  | 3 => ⟨S1x32768x8x128, .f32⟩
  | 4 => ⟨S1024x1024, .f32⟩
  | 5 => ⟨S1x2048x1024, .f32⟩
  | 6 => ⟨S1x2048x8x128, .f32⟩
  | 7 => ⟨S2048, .i32⟩
  | 8 => ⟨S_, .i32⟩
  | 9 => ⟨S_, .i32⟩
  | 10 => ⟨S2048, .i32⟩
  | 11 => ⟨S2048, .i32⟩
  | 12 => ⟨S2048, .i32⟩
  | 13 => ⟨S_, .i32⟩
  | 14 => ⟨S2048, .i32⟩
  | 15 => ⟨S2048, .i1⟩
  | 16 => ⟨S2048, .i32⟩
  | 17 => ⟨S2048, .i32⟩
  | 18 => ⟨S_, .i32⟩
  | 19 => ⟨S2048, .i32⟩
  | 20 => ⟨S2048, .i1⟩
  | 21 => ⟨S2048, .i1⟩
  | 22 => ⟨S_, .i32⟩
  | 23 => ⟨S2048, .i32⟩
  | 24 => ⟨S2048, .i32⟩
  | 25 => ⟨S2048, .i32⟩
  | 26 => ⟨S2048x1, .i32⟩
  | 27 => ⟨S32768, .i32⟩
  | 28 => ⟨S_, .i32⟩
  | 29 => ⟨S_, .i32⟩
  | 30 => ⟨S32768, .i32⟩
  | 31 => ⟨S32768, .i32⟩
  | 32 => ⟨S32768, .i32⟩
  | 33 => ⟨S_, .i32⟩
  | 34 => ⟨S32768, .i32⟩
  | 35 => ⟨S32768, .i1⟩
  | 36 => ⟨S32768, .i32⟩
  | 37 => ⟨S32768, .i32⟩
  | 38 => ⟨S_, .i32⟩
  | 39 => ⟨S32768, .i32⟩
  | 40 => ⟨S32768, .i1⟩
  | 41 => ⟨S32768, .i1⟩
  | 42 => ⟨S_, .i32⟩
  | 43 => ⟨S32768, .i32⟩
  | 44 => ⟨S32768, .i32⟩
  | 45 => ⟨S32768, .i32⟩
  | 46 => ⟨S1x32768, .i32⟩
  | 47 => ⟨S2048x32768, .i32⟩
  | 48 => ⟨S2048x32768, .i32⟩
  | 49 => ⟨S2048x32768, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x32768, .i32⟩
  | 57 => ⟨S1x32768, .i32⟩
  | 58 => ⟨S_, .i32⟩
  | 59 => ⟨S1x32768, .i32⟩
  | 60 => ⟨S1x32768, .i1⟩
  | 61 => ⟨S_, .i32⟩
  | 62 => ⟨S1x32768, .i32⟩
  | 63 => ⟨S1x32768, .i1⟩
  | 64 => ⟨S_, .i32⟩
  | 65 => ⟨S_, .i1⟩
  | 66 => ⟨S1x32768, .i1⟩
  | 67 => ⟨S1x32768, .i1⟩
  | 68 => ⟨S1x32768, .i1⟩
  | 69 => ⟨S1x32768, .i32⟩
  | 70 => ⟨S1x32768, .i32⟩
  | 71 => ⟨S1x32768, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S2048x1, .i32⟩
  | 79 => ⟨S2048x1, .i32⟩
  | 80 => ⟨S_, .i32⟩
  | 81 => ⟨S2048x1, .i32⟩
  | 82 => ⟨S2048x1, .i1⟩
  | 83 => ⟨S_, .i32⟩
  | 84 => ⟨S2048x1, .i32⟩
  | 85 => ⟨S2048x1, .i1⟩
  | 86 => ⟨S_, .i32⟩
  | 87 => ⟨S_, .i1⟩
  | 88 => ⟨S2048x1, .i1⟩
  | 89 => ⟨S2048x1, .i1⟩
  | 90 => ⟨S2048x1, .i1⟩
  | 91 => ⟨S2048x1, .i32⟩
  | 92 => ⟨S2048x1, .i32⟩
  | 93 => ⟨S2048x1, .i32⟩
  | 94 => ⟨S2048x32768, .i32⟩
  | 95 => ⟨S2048x32768, .i32⟩
  | 96 => ⟨S2048x32768, .i1⟩
  | 97 => ⟨S2048x32768, .i1⟩
  | 98 => ⟨S1x8x2048x32768, .f32⟩
  | 99 => ⟨S_, .f32⟩
  | 100 => ⟨S1x8x2048x32768, .f32⟩
  | 101 => ⟨S1x8x2048x32768, .f32⟩
  | 102 => ⟨S1x1x2048x32768, .i1⟩
  | 103 => ⟨S_, .f32⟩
  | 104 => ⟨S_, .f32⟩
  | 105 => ⟨S1x8x2048x32768, .i1⟩
  | 106 => ⟨S1x8x2048x32768, .f32⟩
  | 107 => ⟨S1x8x2048x32768, .f32⟩
  | 108 => ⟨S_, .f32⟩
  | 109 => ⟨S1x8x2048, .f32⟩
  | 110 => ⟨S1x8x2048x1, .f32⟩
  | 111 => ⟨S1x8x2048x32768, .f32⟩
  | 112 => ⟨S1x8x2048x32768, .f32⟩
  | 113 => ⟨S1x8x2048x32768, .f32⟩
  | 114 => ⟨S_, .i1⟩
  | 115 => ⟨S2048, .i1⟩
  | 116 => ⟨S1x1x2048x1, .i1⟩
  | 117 => ⟨S_, .f32⟩
  | 118 => ⟨S1x8x2048, .f32⟩
  | 119 => ⟨S1x8x2048x1, .f32⟩
  | 120 => ⟨S_, .f32⟩
  | 121 => ⟨S_, .f32⟩
  | 122 => ⟨S1x8x2048x1, .i1⟩
  | 123 => ⟨S1x8x2048x1, .f32⟩
  | 124 => ⟨S1x8x2048x1, .f32⟩
  | 125 => ⟨S1x8x2048x32768, .f32⟩
  | 126 => ⟨S1x8x2048x32768, .f32⟩
  | 127 => ⟨S1x1x2048x1, .i1⟩
  | _ => ⟨S1x2048x1024, .f32⟩

abbrev hbmTy0_1 (i : Nat) : BufTy := match i % 128 with
  | 0 => ⟨S_, .f32⟩
  | 1 => ⟨S_, .f32⟩
  | 2 => ⟨S1x8x2048x32768, .i1⟩
  | 3 => ⟨S1x8x2048x32768, .f32⟩
  | 4 => ⟨S1x8x2048x32768, .f32⟩
  | 5 => ⟨S1x8x128x2048, .f32⟩
  | 6 => ⟨S1x2048x8x128, .f32⟩
  | 7 => ⟨S1x2048x1024, .f32⟩
  | 8 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Words.lean ====
module
public import Idealize.ShloMosaic.PureOps

/-! Words that hold small natural numbers: their quotient and remainder by a small positive number,
as the host's signed operations compute them. -/

public section
namespace Cert.Proof
open Idealize.ShloMosaic

/-- A number below two to the thirty-first is not negative as a word. -/
theorem small_msb (n : ℕ) (h : n < 2 ^ 31) : (BitVec.ofNat 32 n).msb = false := by
  rw [BitVec.msb_eq_decide]
  simp only [BitVec.toNat_ofNat, decide_eq_false_iff_not, not_le]
  omega

/-- Dividing small numbers by a positive one neither divides by zero nor overflows. -/
theorem small_corner (n d : ℕ) (hd : 0 < d) (h' : d < 2 ^ 31) :
    ¬ IntOp.SDivCorner (BitVec.ofNat 32 n) (BitVec.ofNat 32 d) := by
  rintro (h | ⟨-, h⟩)
  · have := congrArg BitVec.toNat h
    simp only [BitVec.toNat_ofNat, BitVec.ofNat_eq_ofNat] at this
    omega
  · have := congrArg BitVec.msb h
    rw [small_msb d h'] at this
    exact absurd this (by decide)

/-- The signed quotient of two small natural numbers is their natural quotient. -/
theorem divsi_small (n d : ℕ) (h : n < 2 ^ 31) (hd : 0 < d) (h' : d < 2 ^ 31) :
    IntOp.divsi .host (BitVec.ofNat 32 n) (BitVec.ofNat 32 d) = BitVec.ofNat 32 (n / d) := by
  rw [IntOp.divsi, if_neg (small_corner n d hd h'), BitVec.sdiv_eq, small_msb n h, small_msb d h']
  apply BitVec.eq_of_toNat_eq
  have := Nat.div_le_self n d
  simp only [BitVec.udiv_eq, BitVec.toNat_udiv, BitVec.toNat_ofNat]
  rw [Nat.mod_eq_of_lt (by omega), Nat.mod_eq_of_lt (by omega), Nat.mod_eq_of_lt (by omega)]

/-- The signed remainder of two small natural numbers is their natural remainder. -/
theorem remsi_small (n d : ℕ) (h : n < 2 ^ 31) (hd : 0 < d) (h' : d < 2 ^ 31) :
    IntOp.remsi .host (BitVec.ofNat 32 n) (BitVec.ofNat 32 d) = BitVec.ofNat 32 (n % d) := by
  rw [IntOp.remsi, if_neg (small_corner n d hd h'), BitVec.srem_eq, small_msb n h, small_msb d h']
  apply BitVec.eq_of_toNat_eq
  have := Nat.mod_le n d
  simp only [BitVec.umod_eq, BitVec.toNat_umod, BitVec.toNat_ofNat]
  rw [Nat.mod_eq_of_lt (a := n) (by omega), Nat.mod_eq_of_lt (a := d) (by omega), Nat.mod_eq_of_lt (a := n % d) (by omega)]

/-- Two small natural numbers are equal when their words are. -/
theorem small_inj {n m : ℕ} (hn : n < 2 ^ 32) (hm : m < 2 ^ 32) : BitVec.ofNat 32 n = BitVec.ofNat 32 m ↔ n = m := by
  refine ⟨fun h => ?_, fun h => h ▸ rfl⟩
  have := congrArg BitVec.toNat h
  simp only [BitVec.toNat_ofNat] at this
  omega

/-- Rounding the signed quotient of a small natural number down changes nothing: the number and its divisor
are both positive, or the remainder is zero. -/
theorem floor_small (n d : ℕ) (h : n < 2 ^ 31) (hd : 0 < d) (h' : d < 2 ^ 31) :
    Scalar.select
      (IntOp.andi
        (IntOp.cmpi .ne (if BitVec.ofNat 32 n = 0 then (0 : BitVec 32) else if (BitVec.ofNat 32 n).msb = true then -1 else 1)
          (if BitVec.ofNat 32 d = 0 then 0 else if (BitVec.ofNat 32 d).msb = true then -1 else 1))
        (IntOp.cmpi .ne (IntOp.remsi .host (BitVec.ofNat 32 n) (BitVec.ofNat 32 d)) 0#32))
      (IntOp.subi (IntOp.divsi .host (BitVec.ofNat 32 n) (BitVec.ofNat 32 d)) 1#32)
      (IntOp.divsi .host (BitVec.ofNat 32 n) (BitVec.ofNat 32 d)) = BitVec.ofNat 32 (n / d) := by
  rw [divsi_small n d h hd h', remsi_small n d h hd h', small_msb n h, small_msb d h',
    if_neg (c := BitVec.ofNat 32 d = 0) fun e => by
      have := (small_inj (m := 0) (by omega) (by decide)).1 e
      omega]
  rcases Nat.eq_zero_or_pos n with rfl | hn
  · rw [Nat.zero_mod]
    rfl
  · rw [if_neg (c := BitVec.ofNat 32 n = 0) fun e => by
      have := (small_inj (m := 0) (by omega) (by decide)).1 e
      omega]
    simp [IntOp.cmpi, IntOp.andi, Scalar.select]

/-- The remainder of a small natural number, taken with the divisor's sign, is its natural remainder. -/
theorem mod_small (n d : ℕ) (h : n < 2 ^ 31) (hd : 0 < d) (h' : d < 2 ^ 31) :
    Scalar.select
      (IntOp.andi
        (IntOp.cmpi .ne (IntOp.cmpi .slt (IntOp.remsi .host (BitVec.ofNat 32 n) (BitVec.ofNat 32 d)) 0#32)
          (IntOp.cmpi .slt (BitVec.ofNat 32 d) 0#32))
        (IntOp.cmpi .ne (IntOp.remsi .host (BitVec.ofNat 32 n) (BitVec.ofNat 32 d)) 0#32))
      (IntOp.addi (IntOp.remsi .host (BitVec.ofNat 32 n) (BitVec.ofNat 32 d)) (BitVec.ofNat 32 d))
      (IntOp.remsi .host (BitVec.ofNat 32 n) (BitVec.ofNat 32 d)) = BitVec.ofNat 32 (n % d) := by
  have := Nat.mod_lt n hd
  have neg : ∀ k, k < 2 ^ 31 → IntOp.cmpi .slt (BitVec.ofNat 32 k) 0#32 = 0#1 := fun k hk => by
    simp [IntOp.cmpi, BitVec.slt_zero_eq_msb, small_msb k hk]
  rw [remsi_small n d h hd h', neg _ (by omega), neg _ h']
  simp [IntOp.cmpi, IntOp.andi, Scalar.select]

end Cert.Proof
end
-- ==== Proof.Structured.lean ====
/-
  The kernel body as loops: the printed body of the pallas_call is straight-line text; here the same program is written
  once per kind of step (a load-compute-store round of attention, a send, a wait, the staging of one head's keys), the
  steps repeated over directions, slots, tiles and heads by folds over lists.  `Unrolled.lean` says that the two are the
  same program.
-/
module

public import proofs.«01_k».proof.Proof.Gen.KernelIdeal.Launch
public import Idealize.ShloMosaic.Lib.Tactic

@[expose] public section

noncomputable section

namespace Cert.Proof

open Cert.KernelIdeal Cert.KernelIdeal.Gen

open Idealize.ShloMosaic
open Idealize.ShloMosaic.TcCoe
open Idealize.SL.Sem

variable {F : FTy → Type} [FloatOps F]

/-- A program of the body's kind. -/
abbrev PR (F : FTy → Type) := Prog (TpuEff nD τ sig (Elt F) Λ₀ .tc) PUnit

/-! ### The buffers -/

abbrev xM : Memref sig .tc .vmem S1x256x1024 .f32 := Memref.whole cc0_stg0_0
abbrev wqM : Memref sig .tc .vmem S1024x1024 .f32 := Memref.whole cc0_stg1_0
abbrev kM : Memref sig .tc .hbm S1x4096x8x128 .f32 := Memref.whole main_arg2
abbrev vM : Memref sig .tc .hbm S1x4096x8x128 .f32 := Memref.whole main_arg3
abbrev woM : Memref sig .tc .vmem S1024x1024 .f32 := Memref.whole cc0_stg2_0
abbrev outM : Memref sig .tc .vmem S1x256x1024 .f32 := Memref.whole cc0_stg3_0
abbrev qM : Memref sig .tc .vmem S2x8x4x4x64x128 .bf16 := Memref.whole cc0_scratch0
abbrev accM : Memref sig .tc .vmem S2x8x4x4x64x128 .bf16 := Memref.whole cc0_scratch1
abbrev mlM : Memref sig .tc .vmem S2x8x4x2x4x64 .f32 := Memref.whole cc0_scratch2
abbrev krM : Memref sig .tc .vmem S4x8x1024x128 .bf16 := Memref.whole cc0_scratch3
abbrev vrM : Memref sig .tc .vmem S4x8x1024x128 .bf16 := Memref.whole cc0_scratch4
abbrev csM : Memref sig .tc .vmem S2x4x4x64x128 .bf16 := Memref.whole cc0_scratch5
abbrev crM : Memref sig .tc .vmem S2x4x4x64x128 .bf16 := Memref.whole cc0_scratch6
abbrev kgM : Memref sig .tc .vmem S2x4096x128 .f32 := Memref.whole cc0_scratch7
abbrev vgM : Memref sig .tc .vmem S2x4096x128 .f32 := Memref.whole cc0_scratch8

/-! ### The rectangles -/

/-- One head of a tile of the queries lies inside its buffer. -/
theorem inbQ1 : ∀ (d : Fin 2) (s : Fin 8) (t hl : Fin 4), ∀ a, (![(d : ℕ), (s : ℕ), (t : ℕ), (hl : ℕ), 0, 0] : Fin 6 → Nat) a +
    S1x1x1x1x64x128.size a ≤ S2x8x4x4x64x128.size a := by decide +kernel
/-- A tile of the queries or numerators lies inside its buffer. -/
theorem inbQt : ∀ (d : Fin 2) (s : Fin 8) (t : Fin 4), ∀ a, (![(d : ℕ), (s : ℕ), (t : ℕ), 0, 0, 0] : Fin 6 → Nat) a +
    S1x1x1x4x64x128.size a ≤ S2x8x4x4x64x128.size a := by decide +kernel
/-- A slot of the queries or numerators lies inside its buffer. -/
theorem inbQs : ∀ (d : Fin 2) (s : Fin 8), ∀ a, (![(d : ℕ), (s : ℕ), 0, 0, 0, 0] : Fin 6 → Nat) a +
    S1x1x4x4x64x128.size a ≤ S2x8x4x4x64x128.size a := by decide +kernel
/-- The maxima, or the denominators, of a tile lies inside its buffer. -/
theorem inbMi : ∀ (d : Fin 2) (s : Fin 8) (t : Fin 4) (i : Fin 2), ∀ a, (![(d : ℕ), (s : ℕ), (t : ℕ), (i : ℕ), 0, 0] : Fin 6 → Nat) a +
    S1x1x1x1x4x64.size a ≤ S2x8x4x2x4x64.size a := by decide +kernel
/-- A tile of the maxima and denominators lies inside its buffer. -/
theorem inbMt : ∀ (d : Fin 2) (s : Fin 8) (t : Fin 4), ∀ a, (![(d : ℕ), (s : ℕ), (t : ℕ), 0, 0, 0] : Fin 6 → Nat) a +
    S1x1x1x2x4x64.size a ≤ S2x8x4x2x4x64.size a := by decide +kernel
/-- The denominators' part of the last slot lies inside its buffer. -/
theorem inbMl : ∀ (d : Fin 2), ∀ a, (![(d : ℕ), 7, 0, 1, 0, 0] : Fin 6 → Nat) a +
    S1x1x4x1x4x64.size a ≤ S2x8x4x2x4x64.size a := by decide +kernel
/-- One head of a tile of the keys or values lies inside its buffer. -/
theorem inbK1 : ∀ (t : Fin 4) (h : Fin 8), ∀ a, (![(t : ℕ), (h : ℕ), 0, 0] : Fin 4 → Nat) a +
    S1x1x1024x128.size a ≤ S4x8x1024x128.size a := by decide +kernel
/-- One direction's four heads of a tile of the keys or values lies inside its buffer. -/
theorem inbK4 : ∀ (t : Fin 4) (d : Fin 2), ∀ a, (![(t : ℕ), 4 * (d : ℕ), 0, 0] : Fin 4 → Nat) a +
    S1x4x1024x128.size a ≤ S4x8x1024x128.size a := by decide +kernel
/-- A slot of a staging buffer lies inside its buffer. -/
theorem inbG : ∀ (b : Fin 2), ∀ a, (![(b : ℕ), 0, 0] : Fin 3 → Nat) a +
    S1x4096x128.size a ≤ S2x4096x128.size a := by decide +kernel
/-- One head of the whole keys or values lies inside its buffer. -/
theorem inbH : ∀ (h : Fin 8), ∀ a, (![0, 0, (h : ℕ), 0] : Fin 4 → Nat) a +
    S1x4096x1x128.size a ≤ S1x4096x8x128.size a := by decide +kernel
/-- One direction of the contexts lies inside its buffer. -/
theorem inbC : ∀ (d : Fin 2), ∀ a, (![(d : ℕ), 0, 0, 0, 0] : Fin 5 → Nat) a +
    S1x4x4x64x128.size a ≤ S2x4x4x64x128.size a := by decide +kernel
/-- One head of a direction's contexts lies inside its buffer. -/
theorem inbCh : ∀ (d : Fin 2) (hl : Fin 4), ∀ a, (![(d : ℕ), 0, (hl : ℕ), 0, 0] : Fin 5 → Nat) a +
    S1x4x1x64x128.size a ≤ S2x4x4x64x128.size a := by decide +kernel
/-- One head's rows of the output weights lies inside its buffer. -/
theorem inbW : ∀ (h : Fin 8), ∀ a, (![128 * (h : ℕ), 0] : Fin 2 → Nat) a +
    S128x1024.size a ≤ S1024x1024.size a := by decide +kernel
/-- A semaphore of a two by two array lies inside its buffer. -/
theorem inbS2x2 : ∀ (i j : Fin 2), ∀ a, (![(i : ℕ), (j : ℕ)] : Fin 2 → Nat) a + S1x1.size a ≤ S2x2.size a := by
  decide +kernel
/-- A semaphore of a two by eight array lies inside its buffer. -/
theorem inbS2x8 : ∀ (d : Fin 2) (s : Fin 8), ∀ a, (![(d : ℕ), (s : ℕ)] : Fin 2 → Nat) a + S1x1.size a ≤ S2x8.size a := by
  decide +kernel
/-- A semaphore of the tiles' array lies inside its buffer. -/
theorem inbS4 : ∀ (i d : Fin 2) (s : Fin 8) (t : Fin 4), ∀ a, (![(i : ℕ), (d : ℕ), (s : ℕ), (t : ℕ)] : Fin 4 → Nat) a +
    S1x1x1x1.size a ≤ S2x2x8x4.size a := by decide +kernel
/-- A tile of one head's queries lies inside the projection. -/
theorem slcQ : ∀ (d : Fin 2) (t hl : Fin 4), S256x1024.Slices ![64 * (t : ℕ), 128 * (4 * (d : ℕ) + (hl : ℕ))] S64x128 := by
  decide +kernel
/-- One class of key blocks lies inside a head's keys. -/
theorem slcK : ∀ t : Fin 4, S16x4x64x128.Slices ![0, (t : ℕ), 0, 0] S16x1x64x128 := by decide +kernel

abbrev rQ1 (d : Fin 2) (s : Fin 8) (t hl : Fin 4) : Rect S2x8x4x4x64x128 :=
  Rect.unit (s := S2x8x4x4x64x128) ![(d : ℕ), (s : ℕ), (t : ℕ), (hl : ℕ), 0, 0] S1x1x1x1x64x128.size (inbQ1 d s t hl)
abbrev rQt (d : Fin 2) (s : Fin 8) (t : Fin 4) : Rect S2x8x4x4x64x128 :=
  Rect.unit (s := S2x8x4x4x64x128) ![(d : ℕ), (s : ℕ), (t : ℕ), 0, 0, 0] S1x1x1x4x64x128.size (inbQt d s t)
abbrev rQs (d : Fin 2) (s : Fin 8) : Rect S2x8x4x4x64x128 :=
  Rect.unit (s := S2x8x4x4x64x128) ![(d : ℕ), (s : ℕ), 0, 0, 0, 0] S1x1x4x4x64x128.size (inbQs d s)
abbrev rMi (d : Fin 2) (s : Fin 8) (t : Fin 4) (i : Fin 2) : Rect S2x8x4x2x4x64 :=
  Rect.unit (s := S2x8x4x2x4x64) ![(d : ℕ), (s : ℕ), (t : ℕ), (i : ℕ), 0, 0] S1x1x1x1x4x64.size (inbMi d s t i)
abbrev rMt (d : Fin 2) (s : Fin 8) (t : Fin 4) : Rect S2x8x4x2x4x64 :=
  Rect.unit (s := S2x8x4x2x4x64) ![(d : ℕ), (s : ℕ), (t : ℕ), 0, 0, 0] S1x1x1x2x4x64.size (inbMt d s t)
abbrev rMl (d : Fin 2) : Rect S2x8x4x2x4x64 :=
  Rect.unit (s := S2x8x4x2x4x64) ![(d : ℕ), 7, 0, 1, 0, 0] S1x1x4x1x4x64.size (inbMl d)
abbrev rK1 (t : Fin 4) (h : Fin 8) : Rect S4x8x1024x128 :=
  Rect.unit (s := S4x8x1024x128) ![(t : ℕ), (h : ℕ), 0, 0] S1x1x1024x128.size (inbK1 t h)
abbrev rK4 (t : Fin 4) (d : Fin 2) : Rect S4x8x1024x128 :=
  Rect.unit (s := S4x8x1024x128) ![(t : ℕ), 4 * (d : ℕ), 0, 0] S1x4x1024x128.size (inbK4 t d)
abbrev rG (b : Fin 2) : Rect S2x4096x128 :=
  Rect.unit (s := S2x4096x128) ![(b : ℕ), 0, 0] S1x4096x128.size (inbG b)
abbrev rH (h : Fin 8) : Rect S1x4096x8x128 :=
  Rect.unit (s := S1x4096x8x128) ![0, 0, (h : ℕ), 0] S1x4096x1x128.size (inbH h)
abbrev rC (d : Fin 2) : Rect S2x4x4x64x128 :=
  Rect.unit (s := S2x4x4x64x128) ![(d : ℕ), 0, 0, 0, 0] S1x4x4x64x128.size (inbC d)
abbrev rCh (d : Fin 2) (hl : Fin 4) : Rect S2x4x4x64x128 :=
  Rect.unit (s := S2x4x4x64x128) ![(d : ℕ), 0, (hl : ℕ), 0, 0] S1x4x1x64x128.size (inbCh d hl)
abbrev rW (h : Fin 8) : Rect S1024x1024 :=
  Rect.unit (s := S1024x1024) ![128 * (h : ℕ), 0] S128x1024.size (inbW h)

/-- One head of a tile of the queries is made of whole packed rows. -/
theorem pkQ1 : ∀ (d : Fin 2) (s : Fin 8) (t hl : Fin 4), (rQ1 d s t hl).PackedRows (EltTy.packing .bf16) := by decide +kernel
/-- A tile of the queries or numerators is made of whole packed rows. -/
theorem pkQt : ∀ (d : Fin 2) (s : Fin 8) (t : Fin 4), (rQt d s t).PackedRows (EltTy.packing .bf16) := by decide +kernel
/-- A slot of the queries or numerators is made of whole packed rows. -/
theorem pkQs : ∀ (d : Fin 2) (s : Fin 8), (rQs d s).PackedRows (EltTy.packing .bf16) := by decide +kernel
/-- One head of a tile of the keys or values is made of whole packed rows. -/
theorem pkK1 : ∀ (t : Fin 4) (h : Fin 8), (rK1 t h).PackedRows (EltTy.packing .bf16) := by decide +kernel
/-- One direction of the contexts is made of whole packed rows. -/
theorem pkC : ∀ (d : Fin 2), (rC d).PackedRows (EltTy.packing .bf16) := by decide +kernel
/-- A slot of the queries is made of whole words. -/
theorem wwQs : ∀ (d : Fin 2) (s : Fin 8), (rQs d s).WholeWords (EltTy.packing .bf16) := by decide +kernel
/-- A tile of the numerators is made of whole words. -/
theorem wwQt : ∀ (d : Fin 2) (s : Fin 8) (t : Fin 4), (rQt d s t).WholeWords (EltTy.packing .bf16) := by decide +kernel
/-- One direction of the contexts is made of whole words. -/
theorem wwC : ∀ (d : Fin 2), (rC d).WholeWords (EltTy.packing .bf16) := by decide +kernel

/-! ### The memrefs the copies name -/

/-- Slot `s` of the query ring, direction `d`. -/
abbrev qS (d : Fin 2) (s : Fin 8) : Memref sig .tc .vmem S4x4x64x128 .bf16 :=
  (qM.slice (rQs d s) (fun _ => rfl)).squeeze S4x4x64x128 squeezes_S1x1x4x4x64x128_S4x4x64x128
/-- Tile `t` of slot `s` of the numerators. -/
abbrev accS (d : Fin 2) (s : Fin 8) (t : Fin 4) : Memref sig .tc .vmem S4x64x128 .bf16 :=
  (accM.slice (rQt d s t) (fun _ => rfl)).squeeze S4x64x128 squeezes_S1x1x1x4x64x128_S4x64x128
/-- Tile `t` of slot `s` of the running maxima and denominators. -/
abbrev mlS (d : Fin 2) (s : Fin 8) (t : Fin 4) : Memref sig .tc .vmem S2x4x64 .f32 :=
  (mlM.slice (rMt d s t) (fun _ => rfl)).squeeze S2x4x64 squeezes_S1x1x1x2x4x64_S2x4x64
abbrev csS (d : Fin 2) : Memref sig .tc .vmem S4x4x64x128 .bf16 :=
  (csM.slice (rC d) (fun _ => rfl)).squeeze S4x4x64x128 squeezes_S1x4x4x64x128_S4x4x64x128
abbrev crS (d : Fin 2) : Memref sig .tc .vmem S4x4x64x128 .bf16 :=
  (crM.slice (rC d) (fun _ => rfl)).squeeze S4x4x64x128 squeezes_S1x4x4x64x128_S4x4x64x128
abbrev kgS (b : Fin 2) : Memref sig .tc .vmem S4096x128 .f32 :=
  (kgM.slice (rG b) (fun _ => rfl)).squeeze S4096x128 squeezes_S1x4096x128_S4096x128
abbrev vgS (b : Fin 2) : Memref sig .tc .vmem S4096x128 .f32 :=
  (vgM.slice (rG b) (fun _ => rfl)).squeeze S4096x128 squeezes_S1x4096x128_S4096x128
abbrev kS (h : Fin 8) : Memref sig .tc .hbm S4096x128 .f32 :=
  (kM.slice (rH h) (fun _ => rfl)).squeeze S4096x128 squeezes_S1x4096x1x128_S4096x128
abbrev vS (h : Fin 8) : Memref sig .tc .hbm S4096x128 .f32 :=
  (vM.slice (rH h) (fun _ => rfl)).squeeze S4096x128 squeezes_S1x4096x1x128_S4096x128

/-! ### The semaphores -/

abbrev barS : Sem sig := (SemArray.scalar (sig.barrier 0 rfl) : Sems sig S_).sem
abbrev cpS (i j : Fin 2) : DmaSem sig :=
  ((cc0_scratch9.slice (Rect.unit (s := S2x2) ![(i : ℕ), (j : ℕ)] S1x1.size (inbS2x2 i j))).squeeze S_ squeezes_S1x1_S_).sem
abbrev qsS (d : Fin 2) (s : Fin 8) : DmaSem sig :=
  ((cc0_scratch10.slice (Rect.unit (s := S2x8) ![(d : ℕ), (s : ℕ)] S1x1.size (inbS2x8 d s))).squeeze S_ squeezes_S1x1_S_).sem
abbrev qrS (d : Fin 2) (s : Fin 8) : DmaSem sig :=
  ((cc0_scratch11.slice (Rect.unit (s := S2x8) ![(d : ℕ), (s : ℕ)] S1x1.size (inbS2x8 d s))).squeeze S_ squeezes_S1x1_S_).sem
abbrev ssS (i d : Fin 2) (s : Fin 8) (t : Fin 4) : DmaSem sig :=
  ((cc0_scratch12.slice (Rect.unit (s := S2x2x8x4) ![(i : ℕ), (d : ℕ), (s : ℕ), (t : ℕ)] S1x1x1x1.size (inbS4 i d s t))).squeeze S_
    squeezes_S1x1x1x1_S_).sem
abbrev srS (i d : Fin 2) (s : Fin 8) (t : Fin 4) : DmaSem sig :=
  ((cc0_scratch13.slice (Rect.unit (s := S2x2x8x4) ![(i : ℕ), (d : ℕ), (s : ℕ), (t : ℕ)] S1x1x1x1.size (inbS4 i d s t))).squeeze S_
    squeezes_S1x1x1x1_S_).sem
abbrev cxS (d i : Fin 2) : DmaSem sig :=
  ((cc0_scratch14.slice (Rect.unit (s := S2x2) ![(d : ℕ), (i : ℕ)] S1x1.size (inbS2x2 d i))).squeeze S_ squeezes_S1x1_S_).sem

/-- The device direction `d` sends to: the right neighbour in direction 0, the left one in direction 1. -/
def dest (d : Fin 2) (c : Dev nD) : Dev nD :=
  match d with
  | 0 => ⟨k0_dev2 c, k0_dev2_lt c⟩
  | 1 => ⟨k0_dev1 c, k0_dev1_lt c⟩

/-! ### The copies and their waits -/

/-- Start sending slot `j` of the query ring to the next device's slot `j + 1`. -/
def sendQ (c : Dev nD) (d : Fin 2) (j : Fin 7) (k : PR F) : PR F :=
  .op (.enqueueDma (qS d j.castSucc) (.remote (Dev.tc (dest d c)) (qS d j.succ) (.dma (qsS d j.succ))) (.dma (qrS d j.succ))
    (((Memref.isWhole_whole _).wordExact_slice rfl _ (wwQs d j.castSucc)).reshape _ _)
    (((Memref.isWhole_whole _).wordExact_slice rfl _ (wwQs d j.succ)).reshape _ _) ⟨⟨rfl, Or.inl rfl⟩, trivial⟩) fun _ => k
def sendA (c : Dev nD) (d : Fin 2) (j : Fin 7) (t : Fin 4) (k : PR F) : PR F :=
  .op (.enqueueDma (accS d j.castSucc t) (.remote (Dev.tc (dest d c)) (accS d j.succ t) (.dma (ssS 0 d j.succ t)))
    (.dma (srS 0 d j.succ t))
    (((Memref.isWhole_whole _).wordExact_slice rfl _ (wwQt d j.castSucc t)).reshape _ _)
    (((Memref.isWhole_whole _).wordExact_slice rfl _ (wwQt d j.succ t)).reshape _ _) ⟨⟨rfl, Or.inl rfl⟩, trivial⟩) fun _ => k
def sendM (c : Dev nD) (d : Fin 2) (j : Fin 7) (t : Fin 4) (k : PR F) : PR F :=
  .op (.enqueueDma (mlS d j.castSucc t) (.remote (Dev.tc (dest d c)) (mlS d j.succ t) (.dma (ssS 1 d j.succ t)))
    (.dma (srS 1 d j.succ t)) ((View.wordExact_bits rfl).reshape _ _) ((View.wordExact_bits rfl).reshape _ _)
    ⟨⟨rfl, Or.inl rfl⟩, trivial⟩) fun _ => k
def sendC (c : Dev nD) (d : Fin 2) (k : PR F) : PR F :=
  .op (.enqueueDma (csS d) (.remote (Dev.tc (dest d c)) (crS d) (.dma (cxS d 0))) (.dma (cxS d 1))
    (((Memref.isWhole_whole _).wordExact_slice rfl _ (wwC d)).reshape _ _)
    (((Memref.isWhole_whole _).wordExact_slice rfl _ (wwC d)).reshape _ _) ⟨⟨rfl, Or.inl rfl⟩, trivial⟩) fun _ => k

def waitQr (d : Fin 2) (j : Fin 7) (k : PR F) : PR F :=
  .op (.waitDma2 (qrS d j.succ) (qS d j.castSucc) (qS d j.succ)
    (((Memref.isWhole_whole _).wordExact_slice rfl _ (wwQs d j.castSucc)).reshape _ _)
    (((Memref.isWhole_whole _).wordExact_slice rfl _ (wwQs d j.succ)).reshape _ _)) fun _ => k
def waitQs (d : Fin 2) (j : Fin 7) (k : PR F) : PR F :=
  .op (.waitDma2 (qsS d j.succ) (qS d j.succ) (qS d j.castSucc)
    (((Memref.isWhole_whole _).wordExact_slice rfl _ (wwQs d j.succ)).reshape _ _)
    (((Memref.isWhole_whole _).wordExact_slice rfl _ (wwQs d j.castSucc)).reshape _ _)) fun _ => k
def waitAr (d : Fin 2) (j : Fin 7) (t : Fin 4) (k : PR F) : PR F :=
  .op (.waitDma2 (srS 0 d j.succ t) (accS d j.castSucc t) (accS d j.succ t)
    (((Memref.isWhole_whole _).wordExact_slice rfl _ (wwQt d j.castSucc t)).reshape _ _)
    (((Memref.isWhole_whole _).wordExact_slice rfl _ (wwQt d j.succ t)).reshape _ _)) fun _ => k
def waitAs (d : Fin 2) (j : Fin 7) (t : Fin 4) (k : PR F) : PR F :=
  .op (.waitDma2 (ssS 0 d j.succ t) (accS d j.succ t) (accS d j.castSucc t)
    (((Memref.isWhole_whole _).wordExact_slice rfl _ (wwQt d j.succ t)).reshape _ _)
    (((Memref.isWhole_whole _).wordExact_slice rfl _ (wwQt d j.castSucc t)).reshape _ _)) fun _ => k
def waitMr (d : Fin 2) (j : Fin 7) (t : Fin 4) (k : PR F) : PR F :=
  .op (.waitDma2 (srS 1 d j.succ t) (mlS d j.castSucc t) (mlS d j.succ t)
    ((View.wordExact_bits rfl).reshape _ _) ((View.wordExact_bits rfl).reshape _ _)) fun _ => k
def waitMs (d : Fin 2) (j : Fin 7) (t : Fin 4) (k : PR F) : PR F :=
  .op (.waitDma2 (ssS 1 d j.succ t) (mlS d j.succ t) (mlS d j.castSucc t)
    ((View.wordExact_bits rfl).reshape _ _) ((View.wordExact_bits rfl).reshape _ _)) fun _ => k
def waitCs (d : Fin 2) (k : PR F) : PR F :=
  .op (.waitDma2 (cxS d 0) (crS d) (csS d)
    (((Memref.isWhole_whole _).wordExact_slice rfl _ (wwC d)).reshape _ _)
    (((Memref.isWhole_whole _).wordExact_slice rfl _ (wwC d)).reshape _ _)) fun _ => k
def waitCr (d : Fin 2) (k : PR F) : PR F :=
  .op (.waitDma2 (cxS d 1) (csS d) (crS d)
    (((Memref.isWhole_whole _).wordExact_slice rfl _ (wwC d)).reshape _ _)
    (((Memref.isWhole_whole _).wordExact_slice rfl _ (wwC d)).reshape _ _)) fun _ => k

def stageK (h : Fin 8) (b : Fin 2) (k : PR F) : PR F :=
  .op (.enqueueDma (kS h) (.here (kgS b)) (.dma (cpS 0 b)) ((View.wordExact_bits rfl).reshape _ _)
    ((View.wordExact_bits rfl).reshape _ _) ⟨Or.inl rfl, trivial⟩) fun _ => k
def stageV (h : Fin 8) (b : Fin 2) (k : PR F) : PR F :=
  .op (.enqueueDma (vS h) (.here (vgS b)) (.dma (cpS 1 b)) ((View.wordExact_bits rfl).reshape _ _)
    ((View.wordExact_bits rfl).reshape _ _) ⟨Or.inl rfl, trivial⟩) fun _ => k
def waitK (h : Fin 8) (b : Fin 2) (k : PR F) : PR F :=
  .op (.waitDma2 (cpS 0 b) (kS h) (kgS b) ((View.wordExact_bits rfl).reshape _ _)
    ((View.wordExact_bits rfl).reshape _ _)) fun _ => k
def waitV (h : Fin 8) (b : Fin 2) (k : PR F) : PR F :=
  .op (.waitDma2 (cpS 1 b) (vS h) (vgS b) ((View.wordExact_bits rfl).reshape _ _)
    ((View.wordExact_bits rfl).reshape _ _)) fun _ => k

/-! ### The values -/

/-- The scaled queries of the device's own rows. -/
def qVal (x : Vec F S1x256x1024 .f32) (wq : Vec F S1024x1024 .f32) : FVec F S256x1024 .bf16 :=
  truncf .bf16 (mulf (matmul dot_S256x1024_S1024x1024_S256x1024_1_0_0_1_n_n none
    (truncf .bf16 (shapeCast S256x1024 x shapeCasts_S1x256x1024_S256x1024) bitsLt_bf16_f32)
    (truncf .bf16 (shapeCast S1024x1024 wq shapeCasts_S1024x1024_S1024x1024) bitsLt_bf16_f32)
    (constant S256x1024 .f32 0x00000000#32)) (broadcast S256x1024 (Scalar.ofBits .f32 0x3DB504F3#32))) bitsLt_bf16_f32

/-- One tile of one head of them. -/
def qTile (q : FVec F S256x1024 .bf16) (d : Fin 2) (t hl : Fin 4) : FVec F S1x1x1x1x64x128 .bf16 :=
  shapeCast S1x1x1x1x64x128 (extractStridedSlice S64x128 ![64 * (t : ℕ), 128 * (4 * (d : ℕ) + (hl : ℕ))] q (slcQ d t hl))
    shapeCasts_S64x128_S1x1x1x1x64x128

/-- The rows of one head that tile `t` attends to. -/
def kvTile (g : Vec F S1x4096x128 .f32) (t : Fin 4) : FVec F S1x1x1024x128 .bf16 :=
  shapeCast S1x1x1024x128 (truncf .bf16 (shapeCast S1024x128 (shapeCast S16x64x128
    (extractStridedSlice S16x1x64x128 ![0, (t : ℕ), 0, 0]
      (shapeCast S16x4x64x128 (shapeCast S4096x128 g shapeCasts_S1x4096x128_S4096x128) shapeCasts_S4096x128_S16x4x64x128) (slcK t))
    shapeCasts_S16x1x64x128_S16x64x128) shapeCasts_S16x64x128_S1024x128) bitsLt_bf16_f32) shapeCasts_S1024x128_S1x1x1024x128

/-- The scores of one tile. -/
def attS (q : Vec F S1x1x1x4x64x128 .bf16) (k : Vec F S1x4x1024x128 .bf16) : FVec F S4x64x1024 .f32 :=
  matmul dot_S4x64x128_S4x1024x128_S4x64x1024_2_2_1_1_0_0 none (shapeCast S4x64x128 q shapeCasts_S1x1x1x4x64x128_S4x64x128)
    (shapeCast S4x1024x128 k shapeCasts_S1x4x1024x128_S4x1024x128) (constant S4x64x1024 .f32 0x00000000#32)
/-- The new running maximum. -/
def attM (s : FVec F S4x64x1024 .f32) (m : Vec F S1x1x1x1x4x64 .f32) : FVec F S4x64 .f32 :=
  maximumf (shapeCast S4x64 m shapeCasts_S1x1x1x1x4x64_S4x64)
    (multiReduction .maximumf [2] S4x64 s 0xFF800000#32 reduces_S4x64x1024_S4x64 (.inl rfl) rfl)
/-- The factor the old sums are rescaled by. -/
def attA (s : FVec F S4x64x1024 .f32) (m : Vec F S1x1x1x1x4x64 .f32) : FVec F S4x64 .f32 :=
  exp (subf (shapeCast S4x64 m shapeCasts_S1x1x1x1x4x64_S4x64) (attM s m))
/-- The new weights. -/
def attP (s : FVec F S4x64x1024 .f32) (m : Vec F S1x1x1x1x4x64 .f32) : FVec F S4x64x1024 .f32 :=
  exp (subf s (broadcastTo S4x64x1024 (shapeCast S4x64x1 (attM s m) shapeCasts_S4x64_S4x64x1) broadcasts_S4x64x1_S4x64x1024))
/-- The new numerators. -/
def attN (s : FVec F S4x64x1024 .f32) (m : Vec F S1x1x1x1x4x64 .f32) (v : Vec F S1x4x1024x128 .bf16)
    (a : Vec F S1x1x1x4x64x128 .bf16) : FVec F S1x1x1x4x64x128 .bf16 :=
  shapeCast S1x1x1x4x64x128 (truncf .bf16 (addf (mulf (extf .f32 (shapeCast S4x64x128 a shapeCasts_S1x1x1x4x64x128_S4x64x128) bitsLt_bf16_f32)
      (broadcastTo S4x64x128 (shapeCast S4x64x1 (attA s m) shapeCasts_S4x64_S4x64x1) broadcasts_S4x64x1_S4x64x128))
    (matmul dot_S4x64x1024_S4x1024x128_S4x64x128_2_1_1_2_0_0 none (truncf .bf16 (attP s m) bitsLt_bf16_f32)
      (shapeCast S4x1024x128 v shapeCasts_S1x4x1024x128_S4x1024x128) (constant S4x64x128 .f32 0x00000000#32)))
    bitsLt_bf16_f32) shapeCasts_S4x64x128_S1x1x1x4x64x128
/-- The new denominators. -/
def attL (s : FVec F S4x64x1024 .f32) (m l : Vec F S1x1x1x1x4x64 .f32) : FVec F S1x1x1x1x4x64 .f32 :=
  shapeCast S1x1x1x1x4x64 (addf (mulf (shapeCast S4x64 l shapeCasts_S1x1x1x1x4x64_S4x64) (attA s m))
    (multiReduction .add [2] S4x64 (attP s m) 0x00000000#32 reduces_S4x64x1024_S4x64 (.inl rfl) rfl)) shapeCasts_S4x64_S1x1x1x1x4x64
/-- The quotient: the context of a slot's rows. -/
def ctxVal (l : Vec F S1x1x4x1x4x64 .f32) (a : Vec F S1x1x4x4x64x128 .bf16) : FVec F S1x4x4x64x128 .bf16 :=
  shapeCast S1x4x4x64x128 (truncf .bf16 (divf (extf .f32 (shapeCast S4x4x64x128 a shapeCasts_S1x1x4x4x64x128_S4x4x64x128) bitsLt_bf16_f32)
    (broadcastTo S4x4x64x128 (shapeCast S4x4x64x1 (shapeCast S4x4x64 l shapeCasts_S1x1x4x1x4x64_S4x4x64) shapeCasts_S4x4x64_S4x4x64x1)
      broadcasts_S4x4x64x1_S4x4x64x128)) bitsLt_bf16_f32) shapeCasts_S4x4x64x128_S1x4x4x64x128
/-- One head's part of the output projection. -/
def outStep (acc : FVec F S256x1024 .f32) (ctx : Vec F S1x4x1x64x128 .bf16) (w : Vec F S128x1024 .f32) : FVec F S256x1024 .f32 :=
  addf acc (matmul dot_S256x128_S128x1024_S256x1024_1_0_0_1_n_n none
    (shapeCast S256x128 (shapeCast S4x64x128 ctx shapeCasts_S1x4x1x64x128_S4x64x128) shapeCasts_S4x64x128_S256x128)
    (truncf .bf16 (shapeCast S128x1024 w shapeCasts_S128x1024_S128x1024) bitsLt_bf16_f32) (constant S256x1024 .f32 0x00000000#32))

/-! ### The steps -/

/-- Store a tile of the queries. -/
def storeQ (q : FVec F S256x1024 .bf16) (d : Fin 2) (t hl : Fin 4) (k : PR F) : PR F :=
  .op (.load qM (rQ1 d 0 t hl).toLoadRect (View.loadsAt_vmem h_S1x1x1x1x64x128)) fun _ =>
  .op (.store qM (rQ1 d 0 t hl) (qTile q d t hl) Finset.univ (View.stores_vmem h_S1x1x1x1x64x128
    ((Memref.isWhole_whole _).storeExact_slice rfl _ (pkQ1 d 0 t hl)) (fun _ => rfl)) (.inl rfl)) fun _ => k

/-- Store tile `t` of head `h` of the keys from the staged rows. -/
def storeK (g : Vec F S1x4096x128 .f32) (h : Fin 8) (t : Fin 4) (k : PR F) : PR F :=
  .op (.load krM (rK1 t h).toLoadRect (View.loadsAt_vmem h_S1x1x1024x128)) fun _ =>
  .op (.store krM (rK1 t h) (kvTile g t) Finset.univ (View.stores_vmem h_S1x1x1024x128
    ((Memref.isWhole_whole _).storeExact_slice rfl _ (pkK1 t h)) (fun _ => rfl)) (.inl rfl)) fun _ => k
def storeV (g : Vec F S1x4096x128 .f32) (h : Fin 8) (t : Fin 4) (k : PR F) : PR F :=
  .op (.load vrM (rK1 t h).toLoadRect (View.loadsAt_vmem h_S1x1x1024x128)) fun _ =>
  .op (.store vrM (rK1 t h) (kvTile g t) Finset.univ (View.stores_vmem h_S1x1x1024x128
    ((Memref.isWhole_whole _).storeExact_slice rfl _ (pkK1 t h)) (fun _ => rfl)) (.inl rfl)) fun _ => k

/-- Store a running maximum or denominator. -/
def storeM (d : Fin 2) (s : Fin 8) (t : Fin 4) (i : Fin 2) (v : FVec F S1x1x1x1x4x64 .f32) (k : PR F) : PR F :=
  .op (.load mlM (rMi d s t i).toLoadRect (View.loadsAt_vmem h_S1x1x1x1x4x64)) fun _ =>
  .op (.store mlM (rMi d s t i) v Finset.univ (View.stores_vmem_bits_univ h_S1x1x1x1x4x64 rfl) (.inl rfl)) fun _ => k

/-- The constant of a running maximum or denominator at the start. -/
def mlInit (w : BitVec 32) : FVec F S1x1x1x1x4x64 .f32 :=
  shapeCast S1x1x1x1x4x64 (broadcast S4x64 (Scalar.ofBits .f32 w)) shapeCasts_S4x64_S1x1x1x1x4x64

/-- The numerators at the start: zero. -/
def accInit : FVec F S1x1x4x4x64x128 .bf16 :=
  shapeCast S1x1x4x4x64x128 (broadcast S4x4x64x128 (Scalar.ofBits .bf16 0x0000#16)) shapeCasts_S4x4x64x128_S1x1x4x4x64x128

/-- Start one direction's running values. -/
def initD (d : Fin 2) (k : PR F) : PR F :=
  ([0, 1, 2, 3] : List (Fin 4)).foldr (fun t k => storeM d 0 t 0 (mlInit 0xF149F2CA#32) (storeM d 0 t 1 (mlInit 0x00000000#32) k))
  (.op (.load accM (rQs d 0).toLoadRect (View.loadsAt_vmem h_S1x1x4x4x64x128)) fun _ =>
   .op (.store accM (rQs d 0) accInit Finset.univ (View.stores_vmem h_S1x1x4x4x64x128
    ((Memref.isWhole_whole _).storeExact_slice rfl _ (pkQs d 0)) (fun _ => rfl)) (.inl rfl)) fun _ => k)

/-- One tile of one slot attends to the device's keys. -/
def attend (d : Fin 2) (s : Fin 8) (t : Fin 4) (k : PR F) : PR F :=
  .op (.load qM (rQt d s t).toLoadRect (View.loadsAt_vmem h_S1x1x1x4x64x128)) fun q =>
  .op (.load krM (rK4 t d).toLoadRect (View.loadsAt_vmem h_S1x4x1024x128)) fun kk =>
  .op (.load mlM (rMi d s t 0).toLoadRect (View.loadsAt_vmem h_S1x1x1x1x4x64)) fun m =>
  .op (.load mlM (rMi d s t 1).toLoadRect (View.loadsAt_vmem h_S1x1x1x1x4x64)) fun l =>
  .op (.load vrM (rK4 t d).toLoadRect (View.loadsAt_vmem h_S1x4x1024x128)) fun vv =>
  .op (.load accM (rQt d s t).toLoadRect (View.loadsAt_vmem h_S1x1x1x4x64x128)) fun a =>
  .op (.load accM (rQt d s t).toLoadRect (View.loadsAt_vmem h_S1x1x1x4x64x128)) fun _ =>
  .op (.store accM (rQt d s t) (attN (attS q kk) m vv a) Finset.univ (View.stores_vmem h_S1x1x1x4x64x128
    ((Memref.isWhole_whole _).storeExact_slice rfl _ (pkQt d s t)) (fun _ => rfl)) (.inl rfl)) fun _ =>
  storeM d s t 0 (shapeCast S1x1x1x1x4x64 (attM (attS q kk) m) shapeCasts_S4x64_S1x1x1x1x4x64) <|
  storeM d s t 1 (attL (attS q kk) m l) k

/-- Stage head `h`'s rows: copy in the next head's, wait for this one's, store its tiles. -/
def headK (h : Fin 8) (b : Fin 2) (k : PR F) : PR F :=
  waitK h b <| .op (.load kgM (rG b).toLoadRect (View.loadsAt_vmem h_S1x4096x128)) fun g =>
  ([0, 1, 2, 3] : List (Fin 4)).foldr (fun t k => storeK g h t k) k
def headV (h : Fin 8) (b : Fin 2) (k : PR F) : PR F :=
  waitV h b <| .op (.load vgM (rG b).toLoadRect (View.loadsAt_vmem h_S1x4096x128)) fun g =>
  ([0, 1, 2, 3] : List (Fin 4)).foldr (fun t k => storeV g h t k) k

/-- Finish one direction: the quotient, and its way home. -/
def finD (c : Dev nD) (d : Fin 2) (k : PR F) : PR F :=
  .op (.load mlM (rMl d).toLoadRect (View.loadsAt_vmem h_S1x1x4x1x4x64)) fun l =>
  .op (.load accM (rQs d 7).toLoadRect (View.loadsAt_vmem h_S1x1x4x4x64x128)) fun a =>
  .op (.load csM (rC d).toLoadRect (View.loadsAt_vmem h_S1x4x4x64x128)) fun _ =>
  .op (.store csM (rC d) (ctxVal l a) Finset.univ (View.stores_vmem h_S1x4x4x64x128
    ((Memref.isWhole_whole _).storeExact_slice rfl _ (pkC d)) (fun _ => rfl)) (.inl rfl)) fun _ =>
  sendC c d k

/-- The output projection, head by head from the list. -/
def outLoop : List (Fin 8 × Fin 2 × Fin 4) → FVec F S256x1024 .f32 → (FVec F S256x1024 .f32 → PR F) → PR F
  | [], acc, k => k acc
  | (h, d, hl) :: L, acc, k =>
    .op (.load crM (rCh d hl).toLoadRect (View.loadsAt_vmem h_S1x4x1x64x128)) fun x =>
    .op (.load woM (rW h).toLoadRect (View.loadsAt_vmem h_S128x1024)) fun w =>
    outLoop L (outStep acc x w) k

abbrev heads : List (Fin 8 × Fin 2 × Fin 4) :=
  [(0, 0, 0), (1, 0, 1), (2, 0, 2), (3, 0, 3), (4, 1, 0), (5, 1, 1), (6, 1, 2), (7, 1, 3)]

/-- The last store and the store's dead load. -/
def storeOut (acc : FVec F S256x1024 .f32) (k : PR F) : PR F :=
  .op (.load outM (Rect.unit (s := S1x256x1024) ![0, 0, 0] S1x256x1024.size inb_S1x256x1024_S1x256x1024_0_0_0).toLoadRect
    (View.loadsAt_vmem h_S1x256x1024)) fun _ =>
  .op (.store outM (Rect.unit (s := S1x256x1024) ![0, 0, 0] S1x256x1024.size inb_S1x256x1024_S1x256x1024_0_0_0)
    (shapeCast S1x256x1024 acc shapeCasts_S256x1024_S1x256x1024) Finset.univ
    (View.stores_vmem_bits_univ h_S1x256x1024 rfl) (.inl rfl)) fun _ => k

/-! ### The phases -/

abbrev tiles : List (Fin 4) := [0, 1, 2, 3]
abbrev dirs : List (Fin 2) := [0, 1]
/-- The (tile, direction) pairs in the kernel's order. -/
abbrev tds : List (Fin 4 × Fin 2) := [(0, 0), (0, 1), (1, 0), (1, 1), (2, 0), (2, 1), (3, 0), (3, 1)]
/-- The (tile, head) pairs of one direction in the order they are stored. -/
abbrev ths : List (Fin 4 × Fin 4) := [(0, 0), (0, 1), (0, 2), (0, 3), (1, 0), (1, 1), (1, 2), (1, 3), (2, 0), (2, 1), (2, 2), (2, 3),
  (3, 0), (3, 1), (3, 2), (3, 3)]
/-- The heads with their staging slots, and the ones staged ahead. -/
abbrev stages : List (Fin 8 × Fin 2 × Fin 8 × Fin 2) :=
  [(0, 0, 1, 1), (1, 1, 2, 0), (2, 0, 3, 1), (3, 1, 4, 0), (4, 0, 5, 1), (5, 1, 6, 0), (6, 0, 7, 1)]

def phaseQ (c : Dev nD) (q : FVec F S256x1024 .bf16) (k : PR F) : PR F :=
  dirs.foldr (fun d k => ths.foldr (fun p k => storeQ q d p.1 p.2 k) (sendQ c d 0 k)) k

def phaseKV (k : PR F) : PR F :=
  stageK 0 0 <| stageV 0 0 <|
  stages.foldr (fun p k => stageK p.2.2.1 p.2.2.2 <| stageV p.2.2.1 p.2.2.2 <| headK p.1 p.2.1 <| headV p.1 p.2.1 k) <|
  headK 7 1 <| headV 7 1 k

def sendAM (c : Dev nD) (d : Fin 2) (j : Fin 7) (t : Fin 4) (k : PR F) : PR F := sendA c d j t (sendM c d j t k)
def waitAM (d : Fin 2) (j : Fin 7) (t : Fin 4) (k : PR F) : PR F := waitAr d j t (waitMr d j t k)

def phase0 (c : Dev nD) (k : PR F) : PR F :=
  tds.foldr (fun p k => attend p.2 0 p.1 <| sendAM c p.2 0 p.1 k) k

/-- A hop that is not the last: the slots `j + 1` arrive, attend and go on. -/
def hop (c : Dev nD) (j : Fin 6) (k : PR F) : PR F :=
  dirs.foldr (fun d k => waitQr d j.castSucc <| sendQ c d j.succ k) <|
  tds.foldr (fun p k => waitAM p.2 j.castSucc p.1 <| attend p.2 j.succ.castSucc p.1 <| sendAM c p.2 j.succ p.1 k) k
def hopLast (k : PR F) : PR F :=
  dirs.foldr (fun d k => waitQr d 6 k) <|
  tds.foldr (fun p k => waitAM p.2 6 p.1 <| attend p.2 7 p.1 k) k

/-- One hop's sends are waited for. -/
def drain (j : Fin 7) (k : PR F) : PR F :=
  dirs.foldr (fun d k => waitQs d j k) <| tds.foldr (fun p k => waitAs p.2 j p.1 <| waitMs p.2 j p.1 k) k

def bodyS : PR F :=
  .op .deviceId fun c =>
  .op (.semSignal (dest 1 c, .tc) barS 1) fun _ =>
  .op (.semSignal (dest 0 c, .tc) barS 1) fun _ =>
  .op (.semWait barS 2) fun _ =>
  .op (.load xM (Rect.unit (s := S1x256x1024) ![0, 0, 0] S1x256x1024.size inb_S1x256x1024_S1x256x1024_0_0_0).toLoadRect
    (View.loadsAt_vmem h_S1x256x1024)) fun x =>
  .op (.load wqM (Rect.unit (s := S1024x1024) ![0, 0] S1024x1024.size inb_S1024x1024_S1024x1024_0_0).toLoadRect
    (View.loadsAt_vmem h_S1024x1024)) fun wq =>
  phaseQ c (qVal x wq) <|
  phaseKV <|
  dirs.foldr initD <|
  phase0 c <|
  ([0, 1, 2, 3, 4, 5] : List (Fin 6)).foldr (hop c) <|
  hopLast <|
  dirs.foldr (finD c) <|
  dirs.foldr (fun d k => waitCs d <| waitCr d k) <|
  outLoop heads (broadcast S256x1024 (Scalar.ofBits .f32 0x00000000#32)) fun acc =>
  storeOut acc <|
  ([0, 1, 2, 3, 4, 5, 6] : List (Fin 7)).foldr drain <|
  .ret PUnit.unit

end Cert.Proof

end

end
-- ==== Proof.Contents.lean ====
/-
  What the buffers hold: for each scratch buffer one function of the device, written from the inputs of all devices.
-/
module

public import proofs.«01_k».proof.Proof.Structured
public import Idealize.ShloMosaic.Lib.Pointwise.Index

@[expose] public section

noncomputable section

namespace Cert.Proof

open Cert.KernelIdeal Cert.KernelIdeal.Gen

open Idealize.ShloMosaic
open Idealize.ShloMosaic.TcCoe
open Idealize.SL.Sem

variable {F : FTy → Type} [FloatOps F]

/-! ### Indices by their coordinates -/

/-- The head of direction `d` numbered `u` within it. -/
def hd (d : Fin 2) (u : Fin 4) : Fin 8 := ⟨4 * d.val + u.val, by omega⟩

/-- The row of the output weights that coordinate `y` of head `h` meets. -/
def wrow (h : Fin 8) (y : Fin 128) : Fin 1024 := ⟨128 * h.val + y.val, by omega⟩

/-! ### The ring -/

/-- The device direction `d` receives from. -/
def src (d : Fin 2) (c : Dev nD) : Dev nD :=
  match d with
  | 0 => dest 1 c
  | 1 => dest 0 c

/-- Sending on from the device received from comes back to the device itself; -/
theorem dest_src (d : Fin 2) (c : Dev nD) : dest d (src d c) = c := by revert d c; decide +kernel
/-- and so does receiving from the device sent to. -/
theorem src_dest (d : Fin 2) (c : Dev nD) : src d (dest d c) = c := by revert d c; decide +kernel

/-- The device whose queries are in slot `s` of direction `d` on device `c`. -/
def home (d : Fin 2) : ℕ → Dev nD → Dev nD
  | 0, c => c
  | s + 1, c => home d s (src d c)

/-! ### The contents -/

/-- The arrays each device starts with. -/
structure Ins (F : FTy → Type) where
  x : Dev nD → Vec F S1x256x1024 .f32
  wq : Dev nD → Vec F S1024x1024 .f32
  k : Dev nD → Vec F S1x4096x8x128 .f32
  v : Dev nD → Vec F S1x4096x8x128 .f32
  wo : Dev nD → Vec F S1024x1024 .f32

variable (I : Ins F)

/-- The running values of one tile: maxima, denominators, numerators. -/
structure Tri (F : FTy → Type) where
  m : Vec F S1x1x1x1x4x64 .f32
  l : Vec F S1x1x1x1x4x64 .f32
  a : Vec F S1x1x1x4x64x128 .bf16

/-- The query ring on device `c`. -/
def Qb (c : Dev nD) : Vec F S2x8x4x4x64x128 .bf16 := fun i =>
  qTile (qVal (I.x (home (i 0) (i 1 : Fin 8).val c)) (I.wq (home (i 0) (i 1 : Fin 8).val c))) (i 0) (i 2) (i 3) (ix6 0 0 0 0 (i 4) (i 5))

/-- One head's rows as staged. -/
def headOf (a : Vec F S1x4096x8x128 .f32) (h : Fin 8) : Vec F S1x4096x128 .f32 := fun y => a (ix4 0 (y 1) h (y 2))

/-- The staging buffer holding head `h` in either slot. -/
def Gb (a : Vec F S1x4096x8x128 .f32) (h : Fin 8) : Vec F S2x4096x128 .f32 := fun i => a (ix4 0 (i 1) h (i 2))

/-- The gathered keys or values. -/
def Kb (a : Vec F S1x4096x8x128 .f32) : Vec F S4x8x1024x128 .bf16 := fun i =>
  kvTile (headOf a (i 1)) (i 0) (ix4 0 0 (i 2) (i 3))

/-- Tile `t` of slot `s` of the queries. -/
def qT (c : Dev nD) (d : Fin 2) (s : Fin 8) (t : Fin 4) : Vec F S1x1x1x4x64x128 .bf16 := fun y =>
  Qb I c (ix6 d s t (y 3) (y 4) (y 5))

/-- Direction `d`'s heads of tile `t` of the gathered keys or values. -/
def kT (a : Vec F S1x4096x8x128 .f32) (d : Fin 2) (t : Fin 4) : Vec F S1x4x1024x128 .bf16 := fun y =>
  Kb a (ix4 t (hd d (y 1)) (y 2) (y 3))

/-- One tile's attention to one device's keys. -/
def attT (q : Vec F S1x1x1x4x64x128 .bf16) (k v : Vec F S1x4x1024x128 .bf16) (T : Tri F) : Tri F where
  m := shapeCast S1x1x1x1x4x64 (attM (attS q k) T.m) shapeCasts_S4x64_S1x1x1x1x4x64
  l := attL (attS q k) T.m T.l
  a := attN (attS q k) T.m v T.a

/-- The running values a tile starts with. -/
def tri0 (t : Fin 4) : Tri F where
  m := mlInit 0xF149F2CA#32
  l := mlInit 0x00000000#32
  a := fun y => accInit (ix6 0 0 t (y 3) (y 4) (y 5))

/-- The running values in slot `s` before the device's own attention. -/
def stIn : ℕ → Dev nD → Fin 2 → Fin 4 → Tri F
  | 0, _, _, t => tri0 t
  | s + 1, c, d, t =>
    attT (qT I (src d c) d (Fin.ofNat 8 s) t) (kT (I.k (src d c)) d t) (kT (I.v (src d c)) d t) (stIn s (src d c) d t)

/-- and after it. -/
def stOut (s : ℕ) (c : Dev nD) (d : Fin 2) (t : Fin 4) : Tri F :=
  attT (qT I c d (Fin.ofNat 8 s) t) (kT (I.k c) d t) (kT (I.v c) d t) (stIn I s c d t)

def AccIn (c : Dev nD) : Vec F S2x8x4x4x64x128 .bf16 := fun i => (stIn I (i 1 : Fin 8).val c (i 0) (i 2)).a (ix6 0 0 0 (i 3) (i 4) (i 5))
def AccOut (c : Dev nD) : Vec F S2x8x4x4x64x128 .bf16 := fun i => (stOut I (i 1 : Fin 8).val c (i 0) (i 2)).a (ix6 0 0 0 (i 3) (i 4) (i 5))
def MlIn (c : Dev nD) : Vec F S2x8x4x2x4x64 .f32 := fun i =>
  if (i 3).val = 0 then (stIn I (i 1 : Fin 8).val c (i 0) (i 2)).m (ix6 0 0 0 0 (i 4) (i 5))
  else (stIn I (i 1 : Fin 8).val c (i 0) (i 2)).l (ix6 0 0 0 0 (i 4) (i 5))
def MlOut (c : Dev nD) : Vec F S2x8x4x2x4x64 .f32 := fun i =>
  if (i 3).val = 0 then (stOut I (i 1 : Fin 8).val c (i 0) (i 2)).m (ix6 0 0 0 0 (i 4) (i 5))
  else (stOut I (i 1 : Fin 8).val c (i 0) (i 2)).l (ix6 0 0 0 0 (i 4) (i 5))

/-- The denominators and the numerators of slot 7. -/
def lFin (c : Dev nD) (d : Fin 2) : Vec F S1x1x4x1x4x64 .f32 := fun y => MlOut I c (ix6 d 7 (y 2) 1 (y 4) (y 5))
def aFin (c : Dev nD) (d : Fin 2) : Vec F S1x1x4x4x64x128 .bf16 := fun y => AccOut I c (ix6 d 7 (y 2) (y 3) (y 4) (y 5))

/-- The contexts to be sent home, -/
def Cs (c : Dev nD) : Vec F S2x4x4x64x128 .bf16 := fun i =>
  ctxVal (lFin I c (i 0)) (aFin I c (i 0)) (ix5 0 (i 1) (i 2) (i 3) (i 4))
/-- and the ones that arrive. -/
def Cr (c : Dev nD) : Vec F S2x4x4x64x128 .bf16 := fun i => Cs I (src (i 0) c) i

/-- One head's context as loaded, and its rows of the output weights. -/
def crT (c : Dev nD) (d : Fin 2) (hl : Fin 4) : Vec F S1x4x1x64x128 .bf16 := fun y => Cr I c (ix5 d (y 1) hl (y 3) (y 4))
def woT (w : Vec F S1024x1024 .f32) (h : Fin 8) : Vec F S128x1024 .f32 := fun y =>
  w (ix2 (wrow h (y 0)) (y 1))

/-- The output projection summed over the list of heads. -/
def outAcc (c : Dev nD) : List (Fin 8 × Fin 2 × Fin 4) → FVec F S256x1024 .f32 → FVec F S256x1024 .f32
  | [], acc => acc
  | (h, d, hl) :: L, acc => outAcc c L (outStep acc (crT I c d hl) (woT (I.wo c) h))

/-- The device's result. -/
def outV (c : Dev nD) : Vec F S1x256x1024 .f32 :=
  shapeCast S1x256x1024 (outAcc I c heads (broadcast S256x1024 (Scalar.ofBits .f32 0x00000000#32))) shapeCasts_S256x1024_S1x256x1024

end Cert.Proof

end

end
-- ==== Proof.Elements.lean ====
/-
  The kernel's arithmetic read at an index, over the extended reals.
-/
module

public import proofs.«01_k».proof.Proof.Contents
public import Idealize.ShloMosaic.Lib.Pointwise

@[expose] public section

set_option maxRecDepth 16384

noncomputable section

namespace Cert.Proof

open Cert.KernelIdeal Cert.KernelIdeal.Gen

open Idealize.ShloMosaic
open Idealize.ShloMosaic.TcCoe
open Idealize.SL.Sem

/-- The factor the scores are scaled by. -/
def scaleE : EReal := Ideal.ofBits .f32 0x3DB504F3#32

/-- The word a maximum starts from is the least extended real. -/
theorem lowest_eq : (Ideal.ofBits .f32 0xFF800000#32 : EReal) = ⊥ := by
  simp [Ideal.ofBits, Ideal.ieee]

/-- A scaled query. -/
theorem qVal_ix (x : Vec Ideal S1x256x1024 .f32) (wq : Vec Ideal S1024x1024 .f32) (r : Fin 256) (n : Fin 1024) :
    qVal x wq (ix2 r n) = (∑ e : Fin 1024, x (ix3 0 r e) * wq (ix2 e n)) * scaleE := by
  pointwise [qVal, scaleE]

/-- A tile of the queries is a block of them. -/
theorem qTile_ix (q : FVec Ideal S256x1024 .bf16) (d : Fin 2) (t u : Fin 4) (r : Fin 64) (y : Fin 128) :
    qTile q d t u (ix6 0 0 0 0 r y) = q (ix2 ⟨64 * t.val + r.val, by omega⟩ ⟨128 * (4 * d.val + u.val) + y.val, by omega⟩) := by
  pointwise [qTile]

/-- A gathered row is the row of the array it stands for. -/
theorem kvTile_ix (g : Vec Ideal S1x4096x128 .f32) (t : Fin 4) (k : Fin 1024) (y : Fin 128) :
    kvTile g t (ix4 0 0 k y) = g (ix3 0 ⟨k.val / 64 * 256 + t.val * 64 + k.val % 64, by omega⟩ y) := by
  pointwise [kvTile]

/-- A score. -/
theorem attS_ix (q : Vec Ideal S1x1x1x4x64x128 .bf16) (k : Vec Ideal S1x4x1024x128 .bf16) (u : Fin 4) (r : Fin 64) (j : Fin 1024) :
    attS q k (ix3 u r j) = ∑ y : Fin 128, q (ix6 0 0 0 u r y) * k (ix4 0 u j y) := by
  pointwise [attS]

/-- The running maximum. -/
theorem attM_ix (s : FVec Ideal S4x64x1024 .f32) (m : Vec Ideal S1x1x1x1x4x64 .f32) (u : Fin 4) (r : Fin 64) :
    attM s m (ix2 u r) = max (m (ix6 0 0 0 0 u r)) ((Finset.univ : Finset (Fin 1024)).fold max (⊥ : EReal) fun j => s (ix3 u r j)) := by
  pointwise [attM]
  rw [lowest_eq]

/-- The rescaling factor. -/
theorem attA_ix (s : FVec Ideal S4x64x1024 .f32) (m : Vec Ideal S1x1x1x1x4x64 .f32) (u : Fin 4) (r : Fin 64) :
    attA s m (ix2 u r) = Ideal.exp (m (ix6 0 0 0 0 u r) - attM s m (ix2 u r)) := by
  pointwise [attA]

/-- A weight. -/
theorem attP_ix (s : FVec Ideal S4x64x1024 .f32) (m : Vec Ideal S1x1x1x1x4x64 .f32) (u : Fin 4) (r : Fin 64) (j : Fin 1024) :
    attP s m (ix3 u r j) = Ideal.exp (s (ix3 u r j) - attM s m (ix2 u r)) := by
  pointwise [attP]

/-- The new numerator. -/
theorem attN_ix (s : FVec Ideal S4x64x1024 .f32) (m : Vec Ideal S1x1x1x1x4x64 .f32) (v : Vec Ideal S1x4x1024x128 .bf16)
    (a : Vec Ideal S1x1x1x4x64x128 .bf16) (u : Fin 4) (r : Fin 64) (y : Fin 128) :
    attN s m v a (ix6 0 0 0 u r y) = a (ix6 0 0 0 u r y) * attA s m (ix2 u r) + ∑ j : Fin 1024, attP s m (ix3 u r j) * v (ix4 0 u j y) := by
  pointwise [attN]

/-- The new denominator. -/
theorem attL_ix (s : FVec Ideal S4x64x1024 .f32) (m l : Vec Ideal S1x1x1x1x4x64 .f32) (u : Fin 4) (r : Fin 64) :
    attL s m l (ix6 0 0 0 0 u r) = l (ix6 0 0 0 0 u r) * attA s m (ix2 u r) + ∑ j : Fin 1024, attP s m (ix3 u r j) := by
  pointwise [attL]

/-- A context. -/
theorem ctxVal_ix (l : Vec Ideal S1x1x4x1x4x64 .f32) (a : Vec Ideal S1x1x4x4x64x128 .bf16) (t u : Fin 4) (r : Fin 64) (y : Fin 128) :
    ctxVal l a (ix5 0 t u r y) = Ideal.div (a (ix6 0 0 t u r y)) (l (ix6 0 0 t 0 u r)) := by
  pointwise [ctxVal]

/-- One head's part of a result. -/
theorem outStep_ix (acc : FVec Ideal S256x1024 .f32) (ctx : Vec Ideal S1x4x1x64x128 .bf16) (w : Vec Ideal S128x1024 .f32)
    (r : Fin 256) (n : Fin 1024) :
    outStep acc ctx w (ix2 r n) = acc (ix2 r n)
      + ∑ y : Fin 128, ctx (ix5 0 ⟨r.val / 64, by omega⟩ 0 ⟨r.val % 64, by omega⟩ y) * w (ix2 y n) := by
  pointwise [outStep]

/-- The constants at the start. -/
theorem mlInit_ix (w : BitVec 32) (u : Fin 4) (r : Fin 64) :
    (mlInit w : FVec Ideal S1x1x1x1x4x64 .f32) (ix6 0 0 0 0 u r) = Ideal.ofBits .f32 w := by
  pointwise [mlInit]
/-- The numerators start at zero. -/
theorem accInit_ix (t u : Fin 4) (r : Fin 64) (y : Fin 128) :
    (accInit : FVec Ideal S1x1x4x4x64x128 .bf16) (ix6 0 0 t u r y) = 0 := by
  pointwise [accInit]

end Cert.Proof

end

end
-- ==== Proof.Softmax.lean ====
/-
  The mathematics of a softmax over real scores with values in the extended reals: what one block of
  keys does to running values, what the quotient at the end is, and what the same sum is when it is
  taken at once over scores of which some are struck out.
-/
module

public import Idealize.ShloMosaic.PureOps.Ideal.Laws
public import Mathlib.Analysis.SpecialFunctions.Exp

@[expose] public section

noncomputable section

namespace Cert.Proof

open Idealize.ShloMosaic

variable {ι : Type*}

/-- A nonnegative real factor goes into a finite sum of extended reals. -/
theorem coe_mul_sum (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A finite sum of reals is the same real as an extended real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a real and of finitely many reals is a real. -/
theorem exists_max_fold (s : Finset ι) (μ : ℝ) (f : ι → ℝ) :
    ∃ μ' : ℝ, max (μ : EReal) (s.fold max (⊥ : EReal) fun j => (f j : EReal)) = (μ' : EReal) := by
  classical
  induction s using Finset.induction_on with
  | empty => exact ⟨μ, by simp⟩
  | insert a s ha ih =>
    obtain ⟨ν, hν⟩ := ih
    refine ⟨max (f a) ν, ?_⟩
    rw [Finset.fold_insert ha, max_left_comm, hν, EReal.coe_strictMono.monotone.map_max]

/-- The maximum of finitely many reals of which some are struck out, not all, is a real. -/
theorem exists_fold_masked (s : Finset ι) (p : ι → Prop) [DecidablePred p] (f : ι → ℝ) (h : ∃ j ∈ s, p j) :
    ∃ μ : ℝ, (s.fold max (⊥ : EReal) fun j => if p j then (f j : EReal) else ⊥) = (μ : EReal) := by
  classical
  have key : ∀ s : Finset ι, (s.fold max (⊥ : EReal) fun j => if p j then (f j : EReal) else ⊥)
      = ⊥ ∧ (∀ j ∈ s, ¬ p j) ∨ ∃ μ : ℝ, (s.fold max (⊥ : EReal) fun j => if p j then (f j : EReal) else ⊥) = (μ : EReal) := by
    intro s
    induction s using Finset.induction_on with
    | empty => left; simp
    | insert a s ha ih =>
      rw [Finset.fold_insert ha]
      by_cases hp : p a
      · right
        rcases ih with ⟨h0, _⟩ | ⟨μ, hμ⟩
        · exact ⟨f a, by rw [h0, if_pos hp]; simp⟩
        · exact ⟨max (f a) μ, by rw [hμ, if_pos hp, EReal.coe_strictMono.monotone.map_max]⟩
      · rcases ih with ⟨h0, hn⟩ | ⟨μ, hμ⟩
        · left
          refine ⟨by rw [h0, if_neg hp]; simp, ?_⟩
          intro j hj
          rcases Finset.mem_insert.mp hj with rfl | hj
          · exact hp
          · exact hn j hj
        · right; exact ⟨μ, by rw [hμ, if_neg hp]; simp⟩
  rcases key s with ⟨_, hn⟩ | h'
  · obtain ⟨j, hj, hp⟩ := h; exact absurd hp (hn j hj)
  · exact h'

/-- Running values of a row: the maximum is some real `μ`, the denominator is `e^{-μ}` times the sum `D` of
    the exponentials met so far, and the numerator `e^{-μ}` times the sum `N` of the values they weigh. -/
def Running (m l a : EReal) (D : ℝ) (N : EReal) : Prop :=
  ∃ μ : ℝ, m = μ ∧ l = ((Real.exp (-μ) * D : ℝ) : EReal) ∧ a = ((Real.exp (-μ) : ℝ) : EReal) * N

/-- The exponential of a difference of reals. -/
theorem exp_sub_coe (s μ : ℝ) : Ideal.exp ((s : EReal) - (μ : EReal)) = ((Real.exp (-μ) * Real.exp s : ℝ) : EReal) := by
  rw [← EReal.coe_sub, Ideal.exp_coe, ← Real.exp_add]; congr 2; ring

/-- One block of keys keeps running values running, and adds its part to both sums. -/
theorem Running.step {m l a : EReal} {D : ℝ} {N : EReal} (h : Running m l a D N) (t : Finset ι) (s : ι → ℝ) (v : ι → EReal)
    {m' : EReal} (hm' : m' = max m (t.fold max (⊥ : EReal) fun j => (s j : EReal))) :
    Running m' (l * Ideal.exp (m - m') + ∑ j ∈ t, Ideal.exp ((s j : EReal) - m'))
      (a * Ideal.exp (m - m') + ∑ j ∈ t, Ideal.exp ((s j : EReal) - m') * v j)
      (D + ∑ j ∈ t, Real.exp (s j)) (N + ∑ j ∈ t, ((Real.exp (s j) : ℝ) : EReal) * v j) := by
  obtain ⟨μ, rfl, rfl, rfl⟩ := h
  obtain ⟨ν, hν⟩ := exists_max_fold t μ s
  rw [hν] at hm'
  subst hm'
  have e : Real.exp (-μ) * (Real.exp (-ν) * Real.exp μ) = Real.exp (-ν) := by
    rw [← Real.exp_add, ← Real.exp_add]; congr 1; ring
  refine ⟨ν, rfl, ?_, ?_⟩
  · simp only [exp_sub_coe]
    rw [← coe_sum, ← EReal.coe_mul, ← EReal.coe_add]
    congr 1
    rw [mul_add, Finset.mul_sum, mul_right_comm, e]
  · simp only [exp_sub_coe]
    rw [EReal.left_distrib_of_nonneg_of_ne_top (by exact_mod_cast (Real.exp_pos _).le) (EReal.coe_ne_top _),
      coe_mul_sum _ _ (Real.exp_pos _).le]
    congr 1
    · rw [mul_right_comm, ← EReal.coe_mul, e]
    · exact Finset.sum_congr rfl fun j _ => by rw [EReal.coe_mul, mul_assoc]

/-- The quotient of running values is the quotient of the sums. -/
theorem Running.div {m l a : EReal} {D : ℝ} {N : EReal} (h : Running m l a D N) (hD : 0 < D) :
    Ideal.div a l = N * ((1 / D : ℝ) : EReal) := by
  obtain ⟨μ, rfl, rfl, rfl⟩ := h
  have he := Real.exp_pos (-μ)
  rw [Ideal.div_coe (mul_pos he hD).ne', mul_comm ((Real.exp (-μ) : ℝ) : EReal), mul_assoc, ← EReal.coe_mul]
  congr 2
  field_simp

/-- The softmax taken at once: with the scores outside `p` struck out, the values weighed and summed are the
    quotient of the sums over `p`. -/
theorem masked_softmax (t : Finset ι) (p : ι → Prop) [DecidablePred p] (s : ι → ℝ) (v : ι → EReal) (h : ∃ j ∈ t, p j)
    {M L : EReal} (hM : M = t.fold max (⊥ : EReal) fun j => if p j then (s j : EReal) else ⊥)
    (hL : L = ∑ j ∈ t, Ideal.exp ((if p j then (s j : EReal) else ⊥) - M)) :
    ∑ j ∈ t, v j * Ideal.div (Ideal.exp ((if p j then (s j : EReal) else ⊥) - M)) L
      = (∑ j ∈ t with p j, ((Real.exp (s j) : ℝ) : EReal) * v j) * ((1 / ∑ j ∈ t with p j, Real.exp (s j) : ℝ) : EReal) := by
  classical
  obtain ⟨μ, hμ⟩ := exists_fold_masked t p s h
  rw [hμ] at hM
  subst hM
  have hw : ∀ j, Ideal.exp ((if p j then (s j : EReal) else ⊥) - (μ : EReal))
      = ((if p j then Real.exp (-μ) * Real.exp (s j) else 0 : ℝ) : EReal) := by
    intro j
    split_ifs with hj
    · exact exp_sub_coe _ _
    · rw [EReal.bot_sub, Ideal.exp_bot]; rfl
  simp only [hw] at hL ⊢
  rw [← coe_sum, ← Finset.sum_filter, ← Finset.mul_sum] at hL
  have hD : 0 < ∑ j ∈ t with p j, Real.exp (s j) := by
    obtain ⟨j, hj, hp⟩ := h
    exact Finset.sum_pos (fun _ _ => Real.exp_pos _) ⟨j, Finset.mem_filter.mpr ⟨hj, hp⟩⟩
  have he := Real.exp_pos (-μ)
  subst hL
  generalize (∑ j ∈ t with p j, Real.exp (s j)) = D at hD ⊢
  rw [mul_comm _ ((1 / D : ℝ) : EReal), coe_mul_sum _ _ (by positivity), Finset.sum_filter]
  refine Finset.sum_congr rfl fun j _ => ?_
  rw [Ideal.div_coe (mul_pos he hD).ne', ← EReal.coe_mul]
  split_ifs with hj
  · rw [← mul_assoc, ← EReal.coe_mul, mul_comm]
    congr 2
    field_simp
  · simp

end Cert.Proof

end

end
-- ==== Proof.Blocks.lean ====
/-
  What the kernel computes, over the extended reals, from real queries and keys: scores, the running values
  after each device, the contexts, and the result.
-/
module

public import proofs.«01_k».proof.Proof.Elements
public import proofs.«01_k».proof.Proof.Softmax

@[expose] public section

set_option maxRecDepth 16384

noncomputable section

namespace Cert.Proof

open Cert.KernelIdeal Cert.KernelIdeal.Gen

open Idealize.ShloMosaic
open Idealize.ShloMosaic.TcCoe
open Idealize.SL.Sem

/-! ### Literals -/

/-- A float word whose exponent is not all ones is a real. -/
theorem exists_real (b : BitVec 32) (h : (b.extractLsb' 23 8).toNat ≠ 255) : ∃ r : ℝ, Ideal.ofBits .f32 b = (r : EReal) := by
  simp only [Ideal.ofBits, Ideal.ieee]
  rw [if_neg (by simpa using h)]
  split <;> exact ⟨_, rfl⟩

/-- The factor the scores are scaled by, as a real. -/
def scaleR : ℝ := scaleE.toReal

/-- It is the same number. -/
theorem scaleE_coe : scaleE = (scaleR : EReal) := by
  obtain ⟨r, hr⟩ := exists_real 0x3DB504F3#32 (by decide)
  unfold scaleR scaleE
  rw [hr, EReal.toReal_coe]

/-! ### Scores -/

/-- The score of one row of the input against one key of one head. -/
def score (x : Fin 1024 → ℝ) (w : Fin 1024 → Fin 1024 → ℝ) (k : Fin 128 → ℝ) (h : Fin 8) : ℝ :=
  (∑ y : Fin 128, (∑ e : Fin 1024, x e * w e (wrow h y)) * k y) * scaleR

/-- The inputs that have to be real, as reals. -/
structure Reals where
  x : Dev nD → Fin 256 → Fin 1024 → ℝ
  w : Dev nD → Fin 1024 → Fin 1024 → ℝ
  k : Dev nD → Fin 4096 → Fin 8 → Fin 128 → ℝ

/-- They are the inputs. -/
structure Reals.Of (R : Reals) (I : Ins Ideal) : Prop where
  x : ∀ c r e, I.x c (ix3 0 r e) = (R.x c r e : EReal)
  w : ∀ c e n, I.wq c (ix2 e n) = (R.w c e n : EReal)
  k : ∀ c j h y, I.k c (ix4 0 j h y) = (R.k c j h y : EReal)

/-- The row of a device's queries that tile `t` has at `r`. -/
def qpos (t : Fin 4) (r : Fin 64) : Fin 256 := ⟨64 * t.val + r.val, by omega⟩

/-- The row of a device's keys that tile `t` has at `j`. -/
def kpos (t : Fin 4) (j : Fin 1024) : Fin 4096 := ⟨j.val / 64 * 256 + t.val * 64 + j.val % 64, by omega⟩

variable {I : Ins Ideal} {R : Reals} (hR : R.Of I)

include hR in
/-- A query in the ring. -/
theorem q_at (s : ℕ) (hs : s < 8) (c : Dev nD) (d : Fin 2) (t u : Fin 4) (r : Fin 64) (y : Fin 128) :
    qT I c d (Fin.ofNat 8 s) t (ix6 0 0 0 u r y)
      = (((∑ e : Fin 1024, R.x (home d s c) (qpos t r) e * R.w (home d s c) e (wrow (hd d u) y)) * scaleR : ℝ) : EReal) := by
  have e : (Fin.ofNat 8 s).val = s := Nat.mod_eq_of_lt hs
  show qTile (qVal (I.x (home d (Fin.ofNat 8 s).val c)) (I.wq (home d (Fin.ofNat 8 s).val c))) d t u (ix6 0 0 0 0 r y) = _
  rw [e, qTile_ix, qVal_ix, scaleE_coe, EReal.coe_mul, coe_sum]
  congr 1
  refine Finset.sum_congr rfl fun e _ => ?_
  rw [EReal.coe_mul, ← hR.x, ← hR.w]
  rfl

/-- A gathered key or value. -/
theorem kv_at (a : Vec Ideal S1x4096x8x128 .f32) (d : Fin 2) (t u : Fin 4) (j : Fin 1024) (y : Fin 128) :
    kT a d t (ix4 0 u j y) = a (ix4 0 (kpos t j) (hd d u) y) := by
  show kvTile (headOf a (hd d u)) t (ix4 0 0 j y) = _
  rw [kvTile_ix]
  rfl

/-- The score of row `r` of tile `t` of device `o` against key `j` of device `c`. -/
def sc (R : Reals) (o c : Dev nD) (d : Fin 2) (t u : Fin 4) (r : Fin 64) (j : Fin 1024) : ℝ :=
  score (R.x o (qpos t r)) (R.w o) (R.k c (kpos t j) (hd d u)) (hd d u)

include hR in
/-- The kernel's scores. -/
theorem s_at (s : ℕ) (hs : s < 8) (c : Dev nD) (d : Fin 2) (t u : Fin 4) (r : Fin 64) (j : Fin 1024) :
    attS (qT I c d (Fin.ofNat 8 s) t) (kT (I.k c) d t) (ix3 u r j) = (sc R (home d s c) c d t u r j : EReal) := by
  rw [attS_ix]
  unfold sc score
  rw [Finset.sum_mul, coe_sum]
  refine Finset.sum_congr rfl fun y _ => ?_
  rw [q_at hR s hs, kv_at, hR.k, ← EReal.coe_mul]
  congr 1
  ring

/-! ### Running values -/

/-- The part of the denominator that device `c`'s keys give a row of device `o`, -/
def den (R : Reals) (o c : Dev nD) (d : Fin 2) (t u : Fin 4) (r : Fin 64) : ℝ :=
  ∑ j : Fin 1024, Real.exp (sc R o c d t u r j)

/-- and the part of the numerator. -/
def num (R : Reals) (I : Ins Ideal) (o c : Dev nD) (d : Fin 2) (t u : Fin 4) (r : Fin 64) (y : Fin 128) : EReal :=
  ∑ j : Fin 1024, ((Real.exp (sc R o c d t u r j) : ℝ) : EReal) * I.v c (ix4 0 (kpos t j) (hd d u) y)

/-- A tile's running values at one row and one coordinate. -/
def RunningAt (T : Tri Ideal) (u : Fin 4) (r : Fin 64) (y : Fin 128) (D : ℝ) (N : EReal) : Prop :=
  Running (T.m (ix6 0 0 0 0 u r)) (T.l (ix6 0 0 0 0 u r)) (T.a (ix6 0 0 0 u r y)) D N

/-- The maxima a tile leaves. -/
theorem attT_m_ix (q : Vec Ideal S1x1x1x4x64x128 .bf16) (k v : Vec Ideal S1x4x1024x128 .bf16) (T : Tri Ideal) (u : Fin 4) (r : Fin 64) :
    (attT q k v T).m (ix6 0 0 0 0 u r) = attM (attS q k) T.m (ix2 u r) := by
  show shapeCast S1x1x1x1x4x64 (attM (attS q k) T.m) shapeCasts_S4x64_S1x1x1x1x4x64 (ix6 0 0 0 0 u r) = _
  pointwise

/-- Attention to one device's keys adds that device's part. -/
theorem attT_running {q : Vec Ideal S1x1x1x4x64x128 .bf16} {k v : Vec Ideal S1x4x1024x128 .bf16} {T : Tri Ideal}
    {u : Fin 4} {r : Fin 64} {y : Fin 128} {D : ℝ} {N : EReal} (h : RunningAt T u r y D N) (σ : Fin 1024 → ℝ)
    (hs : ∀ j, attS q k (ix3 u r j) = (σ j : EReal)) :
    RunningAt (attT q k v T) u r y (D + ∑ j, Real.exp (σ j)) (N + ∑ j, ((Real.exp (σ j) : ℝ) : EReal) * v (ix4 0 u j y)) := by
  have h' := Running.step h Finset.univ σ (fun j => v (ix4 0 u j y)) (m' := attM (attS q k) T.m (ix2 u r))
    (by rw [attM_ix]; simp only [hs])
  unfold RunningAt
  rw [attT_m_ix]
  show Running _ (attL (attS q k) T.m T.l (ix6 0 0 0 0 u r)) (attN (attS q k) T.m v T.a (ix6 0 0 0 u r y)) _ _
  rw [attL_ix, attN_ix, attA_ix]
  simp only [attP_ix, hs]
  exact h'

/-- The values a tile starts with. -/
theorem tri0_running (t u : Fin 4) (r : Fin 64) (y : Fin 128) : RunningAt (tri0 t) u r y 0 0 := by
  obtain ⟨μ, hμ⟩ := exists_real 0xF149F2CA#32 (by decide)
  refine ⟨μ, ?_, ?_, ?_⟩
  · show (mlInit 0xF149F2CA#32 : FVec Ideal S1x1x1x1x4x64 .f32) (ix6 0 0 0 0 u r) = _
    rw [mlInit_ix, hμ]
  · show (mlInit 0x00000000#32 : FVec Ideal S1x1x1x1x4x64 .f32) (ix6 0 0 0 0 u r) = _
    rw [mlInit_ix]; simp
  · show (accInit : FVec Ideal S1x1x4x4x64x128 .bf16) (ix6 0 0 t u r y) = _
    rw [accInit_ix]; simp

include hR in
/-- The values of a slot after the device's own attention: the parts of the devices on the way here. -/
theorem stOut_running (d : Fin 2) (t u : Fin 4) (r : Fin 64) (y : Fin 128) (s : ℕ) : ∀ c : Dev nD, s < 8 →
    RunningAt (stOut I s c d t) u r y (∑ i ∈ Finset.range (s + 1), den R (home d s c) (home d i c) d t u r)
      (∑ i ∈ Finset.range (s + 1), num R I (home d s c) (home d i c) d t u r y) := by
  induction s with
  | zero =>
    intro c hs
    have h := attT_running (v := kT (I.v c) d t) (tri0_running t u r y) _ (s_at hR 0 hs c d t u r)
    simp only [kv_at] at h
    rw [zero_add, zero_add] at h
    simp only [zero_add, Finset.sum_range_one]
    exact h
  | succ s ih =>
    intro c hs
    have h := attT_running (v := kT (I.v c) d t) (ih (src d c) (by omega)) _ (s_at hR (s + 1) hs c d t u r)
    simp only [kv_at] at h
    rw [Finset.sum_range_succ' _ (s + 1), Finset.sum_range_succ' _ (s + 1)]
    exact h

/-- The slots of one device hold, between them, what has been on every device once. -/
theorem home_bijective : ∀ (d : Fin 2) (c : Dev nD), Function.Bijective fun j : Fin 8 => home d j.val c := by decide +kernel

/-- What comes home has been everywhere. -/
theorem home_src : ∀ (d : Fin 2) (c : Dev nD), home d 7 (src d c) = c := by decide +kernel

/-- A sum over the devices on the way is the sum over all devices. -/
theorem sum_home {M : Type*} [AddCommMonoid M] (d : Fin 2) (c : Dev nD) (f : Dev nD → M) :
    ∑ i ∈ Finset.range 8, f (home d i c) = ∑ c', f c' := by
  rw [Finset.sum_range]
  exact (home_bijective d c).sum_comp f

/-! ### Contexts -/

/-- The context of a row of device `o`. -/
def ctxAt (R : Reals) (I : Ins Ideal) (o : Dev nD) (d : Fin 2) (t u : Fin 4) (r : Fin 64) (y : Fin 128) : EReal :=
  (∑ c, num R I o c d t u r y) * ((1 / ∑ c, den R o c d t u r : ℝ) : EReal)

include hR in
/-- The contexts that arrive on a device are its own rows'. -/
theorem Cr_at (c : Dev nD) (d : Fin 2) (t u : Fin 4) (r : Fin 64) (y : Fin 128) :
    Cr I c (ix5 d t u r y) = ctxAt R I c d t u r y := by
  have h := stOut_running hR d t u r y 7 (src d c) (by omega)
  rw [sum_home d (src d c) fun c' => den R (home d 7 (src d c)) c' d t u r,
    sum_home d (src d c) fun c' => num R I (home d 7 (src d c)) c' d t u r y, home_src] at h
  show ctxVal (lFin I (src d c) d) (aFin I (src d c) d) (ix5 0 t u r y) = _
  rw [ctxVal_ix]
  show Ideal.div ((stOut I 7 (src d c) d t).a (ix6 0 0 0 u r y)) ((stOut I 7 (src d c) d t).l (ix6 0 0 0 0 u r)) = _
  refine Running.div h (Finset.sum_pos (fun c' _ => ?_) ⟨c, Finset.mem_univ _⟩)
  exact Finset.sum_pos (fun _ _ => Real.exp_pos _) ⟨0, Finset.mem_univ _⟩

/-! ### The result -/

/-- One head's part of a result. -/
def part (R : Reals) (I : Ins Ideal) (c : Dev nD) (r : Fin 256) (n : Fin 1024) (d : Fin 2) (u : Fin 4) : EReal :=
  ∑ y : Fin 128, ctxAt R I c d ⟨r.val / 64, by omega⟩ u ⟨r.val % 64, by omega⟩ y * I.wo c (ix2 (wrow (hd d u) y) n)

include hR in
/-- A head adds its part to the result. -/
theorem outStep_at (c : Dev nD) (acc : FVec Ideal S256x1024 .f32) (d : Fin 2) (u : Fin 4) (r : Fin 256) (n : Fin 1024) :
    outStep acc (crT I c d u) (woT (I.wo c) (hd d u)) (ix2 r n) = acc (ix2 r n) + part R I c r n d u := by
  have hc : ∀ y, crT I c d u (ix5 0 ⟨r.val / 64, by omega⟩ 0 ⟨r.val % 64, by omega⟩ y) = ctxAt R I c d ⟨r.val / 64, by omega⟩ u ⟨r.val % 64, by omega⟩ y :=
    fun y => Cr_at hR c d _ u _ y
  have hw : ∀ y, woT (I.wo c) (hd d u) (ix2 y n) = I.wo c (ix2 (wrow (hd d u) y) n) := fun _ => rfl
  rw [outStep_ix]
  simp only [hc, hw]
  rfl

include hR in
/-- The device's result, over all heads. -/
theorem outV_at (c : Dev nD) (r : Fin 256) (n : Fin 1024) :
    outV I c (ix3 0 r n) = ∑ d : Fin 2, ∑ u : Fin 4, part R I c r n d u := by
  have e : ∀ acc : FVec Ideal S256x1024 .f32, outAcc I c heads acc (ix2 r n) = acc (ix2 r n) + ∑ d : Fin 2, ∑ u : Fin 4, part R I c r n d u := by
    intro acc
    have st := outStep_at (I := I) (R := R) hR c
    rw [show outAcc I c heads acc = outStep (outStep (outStep (outStep (outStep (outStep (outStep (outStep acc
      (crT I c 0 0) (woT (I.wo c) (hd 0 0))) (crT I c 0 1) (woT (I.wo c) (hd 0 1))) (crT I c 0 2) (woT (I.wo c) (hd 0 2)))
      (crT I c 0 3) (woT (I.wo c) (hd 0 3))) (crT I c 1 0) (woT (I.wo c) (hd 1 0))) (crT I c 1 1) (woT (I.wo c) (hd 1 1)))
      (crT I c 1 2) (woT (I.wo c) (hd 1 2))) (crT I c 1 3) (woT (I.wo c) (hd 1 3)) from rfl]
    simp only [st, Fin.sum_univ_two, Fin.sum_univ_four, add_assoc]
  have h0 : outV I c (ix3 0 r n) = outAcc I c heads (broadcast S256x1024 (Scalar.ofBits .f32 0x00000000#32)) (ix2 r n) := by
    unfold outV
    generalize outAcc I c heads _ = X
    pointwise
  rw [h0, e]
  pointwise

end Cert.Proof

end

end
-- ==== Proof.Mask.lean ====
/-
  The reference's mask: key `j` counts for query `i` when their blocks of 64 agree modulo 4.
-/
module
public import proofs.«01_k».proof.Proof.Words
public import proofs.«01_k».proof.Proof.Blocks
public import proofs.«01_k».proof.Proof.Gen.ReferenceIdeal.Read
public import Idealize.ShloMosaic.Lib.Pointwise
@[expose] public section
namespace Cert.Proof
open Idealize.ShloMosaic Cert.ReferenceIdeal Cert.ReferenceIdeal.Read

/-- The block of query `i`. -/
theorem queryBlock_at (i : Fin 2048) : val_main_v3 (F := Ideal) (ix1 i) = BitVec.ofNat 32 (i / 64) := by
  pointwise [val_main_v3, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c, val_main_v2]
  exact floor_small i 64 (by omega) (by decide) (by decide)

/-- The block of key `j`. -/
theorem keyBlock_at (j : Fin 32768) : val_main_v6 (F := Ideal) (ix1 j) = BitVec.ofNat 32 (j / 64) := by
  pointwise [val_main_v6, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0, val_main_c_0, val_main_v5]
  exact floor_small j 64 (by omega) (by decide) (by decide)

/-- The block of key `j`, modulo 4. -/
theorem keyClass_at (j : Fin 32768) : val_main_v11 (F := Ideal) (ix2 0 j) = BitVec.ofNat 32 (j / 64 % 4) := by
  pointwise [val_main_v11, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_v12, val_main_call2_v13, val_main_call2_v14, val_main_call2_c, val_main_call2_c_0, val_main_call2_c_1, val_main_call2_c_2, val_main_call2_c_3, val_main_c_1, val_main_v7, keyBlock_at]
  exact mod_small (j / 64) 4 (by omega) (by decide) (by decide)

/-- The block of query `i`, modulo 4. -/
theorem queryClass_at (i : Fin 2048) : val_main_v12 (F := Ideal) (ix2 i 0) = BitVec.ofNat 32 (i / 64 % 4) := by
  pointwise [val_main_v12, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_call3_v13, val_main_call3_v14, val_main_call3_c, val_main_call3_c_0, val_main_call3_c_1, val_main_call3_c_2, val_main_call3_c_3, val_main_c_2, val_main_v4, queryBlock_at]
  exact mod_small (i / 64) 4 (by omega) (by decide) (by decide)

/-- Key `j` counts for query `i`. -/
def Seen (i : Fin 2048) (j : Fin 32768) : Prop := (j : ℕ) / 64 % 4 = (i : ℕ) / 64 % 4

instance (i : Fin 2048) : DecidablePred (Seen i) := fun _ => inferInstanceAs (Decidable (_ = _))

/-- The mask, element by element. -/
theorem mask_at (i : Fin 2048) (j : Fin 32768) :
    val_main_v16 (F := Ideal) (ix2 i j) = if Seen i j then 1#1 else 0#1 := by
  pointwise [val_main_v16, val_main_v10, val_main_v15, val_main_v8, val_main_v9, val_main_v13, val_main_v14,
    val_main_v4, val_main_v7, keyBlock_at, queryBlock_at, keyClass_at, queryClass_at]
  have key : ∀ a b : ℕ, a < 2 ^ 32 → b < 2 ^ 32 →
      IntOp.cmpi .eq (BitVec.ofNat 32 a) (BitVec.ofNat 32 b) = if a = b then 1#1 else 0#1 := fun a b ha hb => by
    simp only [IntOp.cmpi, beq_eq_decide, small_inj ha hb]
    split <;> simp_all
  rw [key _ _ (by omega) (by omega), key _ _ (by omega) (by omega)]
  unfold Seen IntOp.ori
  by_cases h : (i : ℕ) / 64 = j / 64
  · simp [h]
  · by_cases h' : (j : ℕ) / 64 % 4 = (i : ℕ) / 64 % 4 <;> simp [h, h']

/-- Every query has a key that counts for it: the first of its own block. -/
theorem exists_seen (i : Fin 2048) : ∃ j ∈ (Finset.univ : Finset (Fin 32768)), Seen i j :=
  ⟨⟨i, by omega⟩, Finset.mem_univ _, rfl⟩

/-- A disjunction one of whose terms holds, holds. -/
theorem fold_ori_one {ι : Type*} [DecidableEq ι] (t : Finset ι) (b : BitVec 1) (f : ι → BitVec 1) {a : ι} (ha : a ∈ t)
    (h : f a = 1#1) : t.fold IntOp.ori b f = 1#1 := by
  rw [← Finset.insert_erase ha, Finset.fold_insert (Finset.notMem_erase a t), h]
  generalize Finset.fold IntOp.ori b f (t.erase a) = z
  revert z
  decide

/-- No row of the mask is empty. -/
theorem rowKept_at (i : Fin 2048) : val_main_v27 (F := Ideal) (ix1 i) = 1#1 := by
  obtain ⟨j, hj, h⟩ := exists_seen i
  unfold val_main_v27
  rw [Host.reduce_eq_fold, Shape.ReducesTo.fold_fiber_r2_a1]
  refine fold_ori_one _ _ _ hj ?_
  exact (mask_at i j).trans (if_pos h)

end Cert.Proof
end
-- ==== Proof.RefValue.lean ====
/-
  What the reference computes, over the extended reals, from real queries, keys and query weights.
-/
module
public import proofs.«01_k».proof.Proof.Mask
@[expose] public section
namespace Cert.Proof
open Idealize.ShloMosaic Cert.ReferenceIdeal Cert.ReferenceIdeal.Read

/-- A query or result array of the reference, a weight matrix, and a key or value array. -/
abbrev RX := (⟨S1x2048x1024, .f32⟩ : BufTy).Contents (Elt Ideal)
abbrev RW := (⟨S1024x1024, .f32⟩ : BufTy).Contents (Elt Ideal)
abbrev RK := (⟨S1x32768x8x128, .f32⟩ : BufTy).Contents (Elt Ideal)

/-- The product of a projected query and a key. -/
theorem v17_at (x : RX) (w : RW) (k : RK) (h : Fin 8) (i : Fin 2048) (j : Fin 32768) :
    val_main_v17 (F := Ideal) x w k (ix4 0 h i j) = ∑ y : Fin 128, (∑ e : Fin 1024, x (ix3 0 i e) * w (ix2 e (wrow h y))) * k (ix4 0 j h y) := by
  pointwise [val_main_v17, val_main_v1, val_main_v0]
  have e : ∀ y : Fin 128, (⟨h * 128 + y, by omega⟩ : Fin 1024) = wrow h y := fun y => Fin.ext (by show (h : ℕ) * 128 + y = 128 * h + y; omega)
  simp only [e]

/-- The scaled score where the key counts, and minus infinity elsewhere. -/
theorem v21_at (x : RX) (w : RW) (k : RK) (h : Fin 8) (i : Fin 2048) (j : Fin 32768) :
    val_main_v21 (F := Ideal) x w k (ix4 0 h i j) = if Seen i j then val_main_v17 (F := Ideal) x w k (ix4 0 h i j) * scaleE else ⊥ := by
  pointwise [val_main_v21, val_main_v19, val_main_v18, val_main_cst, val_main_v20, val_main_cst_3, val_main_call4_v0, val_main_call4_v1, val_main_call4_v2, mask_at]
  by_cases h : Seen i j
  · rw [if_pos h, if_pos h]
    rfl
  · rw [if_neg h, if_neg h]
    exact lowest_eq

/-- The largest score of a row. -/
theorem v22_at (x : RX) (w : RW) (k : RK) (h : Fin 8) (i : Fin 2048) :
    val_main_v22 (F := Ideal) x w k (ix3 0 h i) = (Finset.univ : Finset (Fin 32768)).fold max (⊥ : EReal) fun j => val_main_v21 (F := Ideal) x w k (ix4 0 h i j) := by
  have e : val_main_cst_4 (F := Ideal) (Shape.Idx.first Cert.ReferenceIdeal.Gen.h_S_) = (⊥ : EReal) := lowest_eq
  unfold val_main_v22
  generalize val_main_v21 (F := Ideal) x w k = y
  rw [Host.reduce_eq_fold, e, Shape.ReducesTo.fold_fiber_r4_a3]
  rfl

/-- The exponential of a score, less the row's largest. -/
theorem v26_at (x : RX) (w : RW) (k : RK) (h : Fin 8) (i : Fin 2048) (j : Fin 32768) :
    val_main_v26 (F := Ideal) x w k (ix4 0 h i j) = Ideal.exp (val_main_v21 (F := Ideal) x w k (ix4 0 h i j) - val_main_v22 (F := Ideal) x w k (ix3 0 h i)) := by
  pointwise [val_main_v26, val_main_v25, val_main_v24, val_main_v23]

/-- The sum of a row's exponentials. -/
theorem v29_at (x : RX) (w : RW) (k : RK) (h : Fin 8) (i : Fin 2048) :
    val_main_v29 (F := Ideal) x w k (ix3 0 h i) = ∑ j : Fin 32768, val_main_v26 (F := Ideal) x w k (ix4 0 h i j) := by
  have z : val_main_cst_6 (F := Ideal) (Shape.Idx.first Cert.ReferenceIdeal.Gen.h_S_) = (0 : EReal) := Ideal.ofBits_zero_f32
  have e : ∀ j : Fin 32768, idx_main_v29 (ix3 0 h i) j = ix4 0 h i j := fun j => funext fun a => by
    match a with
    | ⟨0, _⟩ => rfl
    | ⟨1, _⟩ => rfl
    | ⟨2, _⟩ => rfl
    | ⟨3, _⟩ => rfl
  rw [val_main_v29_apply, z, zero_add]
  simp only [e]

/-- A row's sum, as a column. -/
theorem v30_at (x : RX) (w : RW) (k : RK) (h : Fin 8) (i : Fin 2048) :
    val_main_v30 (F := Ideal) x w k (ix4 0 h i 0) = val_main_v29 (F := Ideal) x w k (ix3 0 h i) := by
  unfold val_main_v30
  generalize val_main_v29 (F := Ideal) x w k = y
  pointwise []

/-- The mark that a row is not empty, as a column. -/
theorem call5_at (h : Fin 8) (i : Fin 2048) :
    val_main_call5_v1 (F := Ideal) (ix4 0 h i 0) = 1#1 := by
  pointwise [val_main_call5_v1, val_main_v28, rowKept_at]

/-- What a row's exponentials are divided by: no row of the mask is empty, so it is their sum. -/
theorem v31_at (x : RX) (w : RW) (k : RK) (h : Fin 8) (i : Fin 2048) :
    val_main_v31 (F := Ideal) x w k (ix4 0 h i 0) = val_main_v29 (F := Ideal) x w k (ix3 0 h i) := by
  unfold val_main_v31
  show Scalar.select (val_main_call5_v1 (F := Ideal) (ix4 0 h i 0)) (val_main_v30 (F := Ideal) x w k (ix4 0 h i 0)) _ = _
  rw [call5_at, v30_at]
  rfl
/-- The divisor, at every key. -/
theorem v32_at (x : RX) (w : RW) (k : RK) (h : Fin 8) (i : Fin 2048) (j : Fin 32768) :
    val_main_v32 (F := Ideal) x w k (ix4 0 h i j) = val_main_v31 (F := Ideal) x w k (ix4 0 h i 0) := by
  unfold val_main_v32
  generalize val_main_v31 (F := Ideal) x w k = y
  pointwise []

/-- The mark that a row is not empty, at every key. -/
theorem call6_at (h : Fin 8) (i : Fin 2048) (j : Fin 32768) : val_main_call6_v1 (F := Ideal) (ix4 0 h i j) = 1#1 := by
  pointwise [val_main_call6_v1, val_main_v34, rowKept_at]

/-- A quotient chosen where the mark is set. -/
theorem select_div_at {s : Shape} (c : IVec s 1) (a z b : FVec Ideal s .f32) (i : s.Idx) (e : c i = 1#1) :
    select c (Host.divf a z) b i = Ideal.div (a i) (z i) := if_pos e

/-- A weight. -/
theorem v35_at (x : RX) (w : RW) (k : RK) (h : Fin 8) (i : Fin 2048) (j : Fin 32768) :
    val_main_v35 (F := Ideal) x w k (ix4 0 h i j) =
      Ideal.div (val_main_v26 (F := Ideal) x w k (ix4 0 h i j)) (val_main_v31 (F := Ideal) x w k (ix4 0 h i 0)) := by
  rw [← v32_at x w k h i j]
  unfold val_main_v35 val_main_v33
  rw [select_div_at _ _ _ _ _ (call6_at h i j), v32_at]

/-- The result: the contexts, every head's in its columns, times the output weights. -/
theorem v39_at (x : RX) (w : RW) (k v : RK) (o : RW) (i : Fin 2048) (n : Fin 1024) :
    val_main_v39 (F := Ideal) x w k v o (ix3 0 i n) = ∑ e : Fin 1024,
      (∑ j : Fin 32768, v (ix4 0 j ⟨e / 128, by omega⟩ ⟨e % 128, by omega⟩)
        * val_main_v35 (F := Ideal) x w k (ix4 0 ⟨e / 128, by omega⟩ i j)) * o (ix2 e n) := by
  pointwise [val_main_v39, val_main_v38, val_main_v37, val_main_v36]

/-- A score, when the queries, the weights and the keys are real. -/
theorem v17_real {x : RX} {w : RW} {k : RK} {X : Fin 2048 → Fin 1024 → ℝ} {W : Fin 1024 → Fin 1024 → ℝ}
    {K : Fin 32768 → Fin 8 → Fin 128 → ℝ} (hx : ∀ i e, x (ix3 0 i e) = X i e) (hw : ∀ e n, w (ix2 e n) = W e n)
    (hk : ∀ j h y, k (ix4 0 j h y) = K j h y) (h : Fin 8) (i : Fin 2048) (j : Fin 32768) :
    val_main_v17 (F := Ideal) x w k (ix4 0 h i j) * scaleE = (score (X i) W (K j h) h : ℝ) := by
  rw [v17_at, scaleE_coe]
  simp only [hx, hw, hk, score, EReal.coe_mul, coe_sum]

/-- One entry of a context: the values, weighted by the exponentials of their scores, over the sum of these. -/
theorem refCtx_at {x : RX} {w : RW} {k : RK} (v : RK) {X : Fin 2048 → Fin 1024 → ℝ} {W : Fin 1024 → Fin 1024 → ℝ}
    {K : Fin 32768 → Fin 8 → Fin 128 → ℝ} (hx : ∀ i e, x (ix3 0 i e) = X i e) (hw : ∀ e n, w (ix2 e n) = W e n)
    (hk : ∀ j h y, k (ix4 0 j h y) = K j h y) (h : Fin 8) (i : Fin 2048) (y : Fin 128) :
    ∑ j : Fin 32768, v (ix4 0 j h y) * val_main_v35 (F := Ideal) x w k (ix4 0 h i j)
      = (∑ j : Fin 32768 with Seen i j, ((Real.exp (score (X i) W (K j h) h) : ℝ) : EReal) * v (ix4 0 j h y))
        * ((1 / ∑ j : Fin 32768 with Seen i j, Real.exp (score (X i) W (K j h) h) : ℝ) : EReal) := by
  have s : ∀ j, val_main_v21 (F := Ideal) x w k (ix4 0 h i j) = if Seen i j then ((score (X i) W (K j h) h : ℝ) : EReal) else ⊥ :=
    fun j => by rw [v21_at, v17_real hx hw hk]
  rw [← masked_softmax Finset.univ (Seen i) (fun j => score (X i) W (K j h) h) (fun j => v (ix4 0 j h y)) (exists_seen i)
    (M := val_main_v22 (F := Ideal) x w k (ix3 0 h i)) (L := val_main_v29 (F := Ideal) x w k (ix3 0 h i))]
  · simp only [v35_at, v31_at, v26_at, s]
  · rw [v22_at]
    simp only [s]
  · rw [v29_at]
    simp only [v26_at, s]

end Cert.Proof
end
-- ==== Proof.Whole.lean ====
/-
  The equation: from real queries, keys and query weights, the block of rows a device's kernel leaves is the reference's.
  The reference goes through all keys of a row's class at once, the kernel device by device.
-/
module

public import proofs.«01_k».proof.Proof.RefValue

@[expose] public section

noncomputable section

namespace Cert.Proof

open Idealize.ShloMosaic Cert.ReferenceIdeal.Read

/-- Where device `c`'s query `r` is among all queries, -/
def gq (c : Dev Cert.KernelIdeal.nD) (r : Fin 256) : Fin 2048 := ⟨c.val * 256 + r.val, by have := c.isLt; have : Cert.KernelIdeal.nD = 8 := rfl; omega⟩

/-- and its key `j` among all keys. -/
def gk (c : Dev Cert.KernelIdeal.nD) (j : Fin 4096) : Fin 32768 := ⟨c.val * 4096 + j.val, by have := c.isLt; have : Cert.KernelIdeal.nD = 8 := rfl; omega⟩

/-- The devices' blocks of three whole arrays. -/
def whole (X : Fin 2048 → Fin 1024 → ℝ) (W : Fin 1024 → Fin 1024 → ℝ) (K : Fin 32768 → Fin 8 → Fin 128 → ℝ) : Reals where
  x c r := X (gq c r)
  w _ := W
  k c j := K (gk c j)

/-- The class of a device's key, from its place within the device. -/
theorem key_class (c j t : ℕ) (ht : t < 4) : (c * 4096 + (j / 64 * 256 + t * 64 + j % 64)) / 64 % 4 = t := by omega

/-- The class of a query block, from its row within the device. -/
theorem query_class (c r : ℕ) (hr : r < 256) : (c * 256 + r) / 64 % 4 = r / 64 := by omega

/-- A key, from its device, its block among those of its class, and its place in the block. -/
theorem key_split (j t : ℕ) (h : j / 64 % 4 = t) :
    j / 4096 * 4096 + ((j % 4096 / 256 * 64 + j % 64) / 64 * 256 + t * 64 + (j % 4096 / 256 * 64 + j % 64) % 64) = j := by
  have e : (j % 4096 / 256 * 64 + j % 64) / 64 = j % 4096 / 256 := by omega
  have e' : (j % 4096 / 256 * 64 + j % 64) % 64 = j % 64 := by omega
  have e'' : j % 4096 / 256 * 256 + j / 64 % 4 * 64 + j % 64 = j % 4096 := by omega
  rw [e, e', ← h, e'']
  omega

/-- The keys that count for a row are those that its tile has on each device. -/
theorem sum_seen {M : Type*} [AddCommMonoid M] (c : Dev Cert.KernelIdeal.nD) (r : Fin 256) (f : Fin 32768 → M) :
    ∑ j : Fin 32768 with Seen (gq c r) j, f j
      = ∑ c' : Dev Cert.KernelIdeal.nD, ∑ j : Fin 1024, f (gk c' (kpos ⟨r.val / 64, by omega⟩ j)) := by
  have nD : Cert.KernelIdeal.nD = 8 := rfl
  rw [← Fintype.sum_prod_type' (f := fun (c' : Dev Cert.KernelIdeal.nD) (j : Fin 1024) => f (gk c' (kpos ⟨r.val / 64, by omega⟩ j)))]
  symm
  refine Finset.sum_bij' (fun p _ => gk p.1 (kpos ⟨r.val / 64, by omega⟩ p.2))
    (fun j _ => (⟨j.val / 4096, by omega⟩, ⟨j.val % 4096 / 256 * 64 + j.val % 64, by omega⟩)) ?_ ?_ ?_ ?_ ?_
  · rintro ⟨c', j⟩ -
    exact Finset.mem_filter.2 ⟨Finset.mem_univ _, (key_class _ _ _ (by omega)).trans (query_class _ _ r.isLt).symm⟩
  · intros
    exact Finset.mem_univ _
  · rintro ⟨c', j⟩ -
    have := c'.isLt
    refine Prod.ext (Fin.ext ?_) (Fin.ext ?_)
    · simp only [gk, kpos]
      omega
    · simp only [gk, kpos]
      omega
  · intro j hj
    exact Fin.ext (key_split _ _ ((Finset.mem_filter.1 hj).2.trans (query_class _ _ r.isLt)))
  · intros
    rfl

/-- A sum over all columns, head by head. -/
theorem sum_heads {M : Type*} [AddCommMonoid M] (f : Fin 1024 → M) :
    ∑ e : Fin 1024, f e = ∑ d : Fin 2, ∑ u : Fin 4, ∑ y : Fin 128, f (wrow (hd d u) y) := by
  simp only [← Fintype.sum_prod_type' (f := fun (u : Fin 4) (y : Fin 128) => f (wrow (hd _ u) y))]
  rw [← Fintype.sum_prod_type' (f := fun (d : Fin 2) (p : Fin 4 × Fin 128) => f (wrow (hd d p.1) p.2))]
  refine Finset.sum_bij' (fun e _ => (⟨e.val / 512, by omega⟩, ⟨e.val / 128 % 4, by omega⟩, ⟨e.val % 128, by omega⟩))
    (fun p _ => wrow (hd p.1 p.2.1) p.2.2) ?_ ?_ ?_ ?_ ?_
  · intros
    exact Finset.mem_univ _
  · intros
    exact Finset.mem_univ _
  · intro e _
    refine Fin.ext ?_
    simp only [wrow, hd]
    omega
  · rintro ⟨d, u, y⟩ -
    refine Prod.ext (Fin.ext ?_) (Prod.ext (Fin.ext ?_) (Fin.ext ?_)) <;> simp only [wrow, hd] <;> omega
  · intro e _
    refine congrArg f (Fin.ext ?_)
    simp only [wrow, hd]
    omega

/-- One entry of a device's result is the reference's, where the device's inputs are its blocks of the reference's. -/
theorem equation {I : Ins Ideal} {x : RX} {w : RW} {k v : RK} {o : RW}
    {X : Fin 2048 → Fin 1024 → ℝ} {W : Fin 1024 → Fin 1024 → ℝ} {K : Fin 32768 → Fin 8 → Fin 128 → ℝ}
    (hx : ∀ i e, x (ix3 0 i e) = X i e) (hw : ∀ e n, w (ix2 e n) = W e n) (hk : ∀ j h y, k (ix4 0 j h y) = K j h y)
    (ix : ∀ c r e, I.x c (ix3 0 r e) = x (ix3 0 (gq c r) e)) (iw : ∀ c, I.wq c = w)
    (ik : ∀ c j h y, I.k c (ix4 0 j h y) = k (ix4 0 (gk c j) h y))
    (iv : ∀ c j h y, I.v c (ix4 0 j h y) = v (ix4 0 (gk c j) h y)) (io : ∀ c, I.wo c = o)
    (c : Dev Cert.KernelIdeal.nD) (r : Fin 256) (n : Fin 1024) :
    outV I c (ix3 0 r n) = val_main_v39 (F := Ideal) x w k v o (ix3 0 (gq c r) n) := by
  have hR : (whole X W K).Of I := ⟨fun c r e => (ix c r e).trans (hx _ _), fun c e n => by rw [iw]; exact hw _ _,
    fun c j h y => (ik c j h y).trans (hk _ _ _)⟩
  rw [outV_at hR, v39_at, sum_heads]
  refine Finset.sum_congr rfl fun d _ => Finset.sum_congr rfl fun u _ => Finset.sum_congr rfl fun y _ => ?_
  have e1 : (⟨(wrow (hd d u) y).val / 128, by omega⟩ : Fin 8) = hd d u := Fin.ext (by simp only [wrow, hd]; omega)
  have e2 : (⟨(wrow (hd d u) y).val % 128, by omega⟩ : Fin 128) = y := Fin.ext (by simp only [wrow, hd]; omega)
  have e3 : qpos ⟨r.val / 64, by omega⟩ ⟨r.val % 64, by omega⟩ = r := Fin.ext (by simp only [qpos]; omega)
  rw [io, e1, e2, refCtx_at v hx hw hk, sum_seen, sum_seen]
  simp only [ctxAt, num, den, sc, e3, iv]
  rfl

end Cert.Proof

end

end
-- ==== Proof.Regions.lean ====
/-
  The pieces of the buffers: which elements each rectangle covers, and what is read or written through it.
-/
module

public import proofs.«01_k».proof.Proof.Contents
public import Idealize.ShloMosaic.Lib.ViewIndex
public import Idealize.ShloMosaic.Lib.Pipeline.ValueKit.Geometry

@[expose] public section

noncomputable section

namespace Cert.Proof

open Cert.KernelIdeal Cert.KernelIdeal.Gen

open Idealize.ShloMosaic
open Idealize.ShloMosaic.TcCoe
open Idealize.SL.Sem

variable {F : FTy → Type} [FloatOps F]

/-- The whole of one direction's slot of the maxima and denominators. -/
theorem inbMs : ∀ (d : Fin 2) (s : Fin 8), ∀ a, (![(d : ℕ), (s : ℕ), 0, 0, 0, 0] : Fin 6 → Nat) a +
    (![1, 1, 4, 2, 4, 64] : Fin 6 → Nat) a ≤ S2x8x4x2x4x64.size a := by decide +kernel
abbrev rMs (d : Fin 2) (s : Fin 8) : Rect S2x8x4x2x4x64 :=
  Rect.unit (s := S2x8x4x2x4x64) ![(d : ℕ), (s : ℕ), 0, 0, 0, 0] ![1, 1, 4, 2, 4, 64] (inbMs d s)

/-! ### Which elements -/

/-- An index lies in one head of a tile of the queries exactly if the fixed coordinates agree. -/
theorem mem_rQ1 {d s t hl} {i : S2x8x4x4x64x128.Idx} :
    i ∈ (rQ1 d s t hl).set ↔ (i 0).val = d.val ∧ (i 1).val = s.val ∧ (i 2).val = t.val ∧ (i 3).val = hl.val := by
  rw [Rect.mem_set_unit, forall_fin6]
  have h4 : (i 4).val < 64 := (i 4).isLt
  have h5 : (i 5).val < 128 := (i 5).isLt
  simp
  omega
/-- An index lies in a tile of the queries or numerators exactly if the fixed coordinates agree. -/
theorem mem_rQt {d s t} {i : S2x8x4x4x64x128.Idx} :
    i ∈ (rQt d s t).set ↔ (i 0).val = d.val ∧ (i 1).val = s.val ∧ (i 2).val = t.val := by
  rw [Rect.mem_set_unit, forall_fin6]
  have h3 : (i 3).val < 4 := (i 3).isLt
  have h4 : (i 4).val < 64 := (i 4).isLt
  have h5 : (i 5).val < 128 := (i 5).isLt
  simp
  omega
/-- An index lies in a slot of the queries or numerators exactly if the fixed coordinates agree. -/
theorem mem_rQs {d s} {i : S2x8x4x4x64x128.Idx} :
    i ∈ (rQs d s).set ↔ (i 0).val = d.val ∧ (i 1).val = s.val := by
  rw [Rect.mem_set_unit, forall_fin6]
  have h2 : (i 2).val < 4 := (i 2).isLt
  have h3 : (i 3).val < 4 := (i 3).isLt
  have h4 : (i 4).val < 64 := (i 4).isLt
  have h5 : (i 5).val < 128 := (i 5).isLt
  simp
  omega
/-- An index lies in the maxima, or the denominators, of a tile exactly if the fixed coordinates agree. -/
theorem mem_rMi {d s t j} {i : S2x8x4x2x4x64.Idx} :
    i ∈ (rMi d s t j).set ↔ (i 0).val = d.val ∧ (i 1).val = s.val ∧ (i 2).val = t.val ∧ (i 3).val = j.val := by
  rw [Rect.mem_set_unit, forall_fin6]
  have h4 : (i 4).val < 4 := (i 4).isLt
  have h5 : (i 5).val < 64 := (i 5).isLt
  simp
  omega
/-- An index lies in a tile of the maxima and denominators exactly if the fixed coordinates agree. -/
theorem mem_rMt {d s t} {i : S2x8x4x2x4x64.Idx} :
    i ∈ (rMt d s t).set ↔ (i 0).val = d.val ∧ (i 1).val = s.val ∧ (i 2).val = t.val := by
  rw [Rect.mem_set_unit, forall_fin6]
  have h3 : (i 3).val < 2 := (i 3).isLt
  have h4 : (i 4).val < 4 := (i 4).isLt
  have h5 : (i 5).val < 64 := (i 5).isLt
  simp
  omega
/-- An index lies in a slot of the maxima and denominators exactly if the fixed coordinates agree. -/
theorem mem_rMs {d s} {i : S2x8x4x2x4x64.Idx} :
    i ∈ (rMs d s).set ↔ (i 0).val = d.val ∧ (i 1).val = s.val := by
  rw [Rect.mem_set_unit, forall_fin6]
  have h2 : (i 2).val < 4 := (i 2).isLt
  have h3 : (i 3).val < 2 := (i 3).isLt
  have h4 : (i 4).val < 4 := (i 4).isLt
  have h5 : (i 5).val < 64 := (i 5).isLt
  simp
  omega
/-- An index lies in the denominators of the last slot exactly if the fixed coordinates agree. -/
theorem mem_rMl {d} {i : S2x8x4x2x4x64.Idx} :
    i ∈ (rMl d).set ↔ (i 0).val = d.val ∧ (i 1).val = 7 ∧ (i 3).val = 1 := by
  rw [Rect.mem_set_unit, forall_fin6]
  have h2 : (i 2).val < 4 := (i 2).isLt
  have h4 : (i 4).val < 4 := (i 4).isLt
  have h5 : (i 5).val < 64 := (i 5).isLt
  simp
  omega
/-- An index lies in one head of a tile of the keys or values exactly if the fixed coordinates agree. -/
theorem mem_rK1 {t h} {i : S4x8x1024x128.Idx} :
    i ∈ (rK1 t h).set ↔ (i 0).val = t.val ∧ (i 1).val = h.val := by
  rw [Rect.mem_set_unit, forall_fin4]
  have h2 : (i 2).val < 1024 := (i 2).isLt
  have h3 : (i 3).val < 128 := (i 3).isLt
  simp
  omega
/-- An index lies in a slot of a staging buffer exactly if the fixed coordinates agree. -/
theorem mem_rG {b} {i : S2x4096x128.Idx} :
    i ∈ (rG b).set ↔ (i 0).val = b.val := by
  rw [Rect.mem_set_unit, forall_fin3]
  have h1 : (i 1).val < 4096 := (i 1).isLt
  have h2 : (i 2).val < 128 := (i 2).isLt
  simp
  omega
/-- An index lies in one head of the whole keys or values exactly if the fixed coordinates agree. -/
theorem mem_rH {h} {i : S1x4096x8x128.Idx} :
    i ∈ (rH h).set ↔ (i 2).val = h.val := by
  rw [Rect.mem_set_unit, forall_fin4]
  have h0 : (i 0).val < 1 := (i 0).isLt
  have h1 : (i 1).val < 4096 := (i 1).isLt
  have h3 : (i 3).val < 128 := (i 3).isLt
  simp
  omega
/-- An index lies in one direction of the contexts exactly if the fixed coordinates agree. -/
theorem mem_rC {d} {i : S2x4x4x64x128.Idx} :
    i ∈ (rC d).set ↔ (i 0).val = d.val := by
  rw [Rect.mem_set_unit, forall_fin5]
  have h1 : (i 1).val < 4 := (i 1).isLt
  have h2 : (i 2).val < 4 := (i 2).isLt
  have h3 : (i 3).val < 64 := (i 3).isLt
  have h4 : (i 4).val < 128 := (i 4).isLt
  simp
  omega
/-- An index lies in one head of a direction's contexts exactly if the fixed coordinates agree. -/
theorem mem_rCh {d hl} {i : S2x4x4x64x128.Idx} :
    i ∈ (rCh d hl).set ↔ (i 0).val = d.val ∧ (i 2).val = hl.val := by
  rw [Rect.mem_set_unit, forall_fin5]
  have h1 : (i 1).val < 4 := (i 1).isLt
  have h3 : (i 3).val < 64 := (i 3).isLt
  have h4 : (i 4).val < 128 := (i 4).isLt
  simp
  omega

/-! ### Which place -/

/-- The place of a rectangle's element, coordinate by coordinate. -/
theorem emb_unit_val {s : Shape} (off size : Fin s.rank → ℕ) (inb : ∀ a, off a + size a ≤ s.size a) (y : (Rect.unit off size inb).shape.Idx)
    (a : Fin s.rank) : ((Rect.unit off size inb).emb y a).val = off a + (y a).val := ValueKit.rect_emb_unit_val ..

/-- Where an index of one head of a tile of the queries lies in the whole buffer. -/
theorem emb_rQ1 {d s t hl} (y : S1x1x1x1x64x128.Idx) :
    (rQ1 d s t hl).emb y = (ix6 d s t hl (y 4) (y 5) : S2x8x4x4x64x128.Idx) := by
  refine funext ((forall_fin6 (P := fun a => (rQ1 d s t hl).emb y a = (ix6 d s t hl (y 4) (y 5) : S2x8x4x4x64x128.Idx) a)).mpr ?_)
  have h0 : (y 0).val < 1 := (y 0).isLt
  have h1 : (y 1).val < 1 := (y 1).isLt
  have h2 : (y 2).val < 1 := (y 2).isLt
  have h3 : (y 3).val < 1 := (y 3).isLt
  refine ⟨?_, ?_, ?_, ?_, ?_, ?_⟩ <;> (apply Fin.ext; rw [emb_unit_val]; simp <;> omega)
/-- Where an index of a tile of the queries or numerators lies in the whole buffer. -/
theorem emb_rQt {d s t} (y : S1x1x1x4x64x128.Idx) :
    (rQt d s t).emb y = (ix6 d s t (y 3) (y 4) (y 5) : S2x8x4x4x64x128.Idx) := by
  refine funext ((forall_fin6 (P := fun a => (rQt d s t).emb y a = (ix6 d s t (y 3) (y 4) (y 5) : S2x8x4x4x64x128.Idx) a)).mpr ?_)
  have h0 : (y 0).val < 1 := (y 0).isLt
  have h1 : (y 1).val < 1 := (y 1).isLt
  have h2 : (y 2).val < 1 := (y 2).isLt
  refine ⟨?_, ?_, ?_, ?_, ?_, ?_⟩ <;> (apply Fin.ext; rw [emb_unit_val]; simp <;> omega)

/-- Where an index of a slot of the queries or numerators lies in the whole buffer. -/
theorem emb_rQs {d s} (y : S1x1x4x4x64x128.Idx) :
    (rQs d s).emb y = (ix6 d s (y 2) (y 3) (y 4) (y 5) : S2x8x4x4x64x128.Idx) := by
  refine funext ((forall_fin6 (P := fun a => (rQs d s).emb y a = (ix6 d s (y 2) (y 3) (y 4) (y 5) : S2x8x4x4x64x128.Idx) a)).mpr ?_)
  have h0 : (y 0).val < 1 := (y 0).isLt
  have h1 : (y 1).val < 1 := (y 1).isLt
  refine ⟨?_, ?_, ?_, ?_, ?_, ?_⟩ <;> (apply Fin.ext; rw [emb_unit_val]; simp [hd, wrow] <;> omega)
/-- Where an index of the maxima, or the denominators, of a tile lies in the whole buffer. -/
theorem emb_rMi {d s t j} (y : S1x1x1x1x4x64.Idx) :
    (rMi d s t j).emb y = (ix6 d s t j (y 4) (y 5) : S2x8x4x2x4x64.Idx) := by
  refine funext ((forall_fin6 (P := fun a => (rMi d s t j).emb y a = (ix6 d s t j (y 4) (y 5) : S2x8x4x2x4x64.Idx) a)).mpr ?_)
  have h0 : (y 0).val < 1 := (y 0).isLt
  have h1 : (y 1).val < 1 := (y 1).isLt
  have h2 : (y 2).val < 1 := (y 2).isLt
  have h3 : (y 3).val < 1 := (y 3).isLt
  refine ⟨?_, ?_, ?_, ?_, ?_, ?_⟩ <;> (apply Fin.ext; rw [emb_unit_val]; simp [hd, wrow] <;> omega)
/-- Where an index of a tile of the maxima and denominators lies in the whole buffer. -/
theorem emb_rMt {d s t} (y : S1x1x1x2x4x64.Idx) :
    (rMt d s t).emb y = (ix6 d s t (y 3) (y 4) (y 5) : S2x8x4x2x4x64.Idx) := by
  refine funext ((forall_fin6 (P := fun a => (rMt d s t).emb y a = (ix6 d s t (y 3) (y 4) (y 5) : S2x8x4x2x4x64.Idx) a)).mpr ?_)
  have h0 : (y 0).val < 1 := (y 0).isLt
  have h1 : (y 1).val < 1 := (y 1).isLt
  have h2 : (y 2).val < 1 := (y 2).isLt
  refine ⟨?_, ?_, ?_, ?_, ?_, ?_⟩ <;> (apply Fin.ext; rw [emb_unit_val]; simp [hd, wrow] <;> omega)
/-- Where an index of the denominators of the last slot lies in the whole buffer. -/
theorem emb_rMl {d} (y : S1x1x4x1x4x64.Idx) :
    (rMl d).emb y = (ix6 d 7 (y 2) 1 (y 4) (y 5) : S2x8x4x2x4x64.Idx) := by
  refine funext ((forall_fin6 (P := fun a => (rMl d).emb y a = (ix6 d 7 (y 2) 1 (y 4) (y 5) : S2x8x4x2x4x64.Idx) a)).mpr ?_)
  have h0 : (y 0).val < 1 := (y 0).isLt
  have h1 : (y 1).val < 1 := (y 1).isLt
  have h3 : (y 3).val < 1 := (y 3).isLt
  refine ⟨?_, ?_, ?_, ?_, ?_, ?_⟩ <;> (apply Fin.ext; rw [emb_unit_val]; simp [hd, wrow] <;> omega)
/-- Where an index of one head of a tile of the keys or values lies in the whole buffer. -/
theorem emb_rK1 {t h} (y : S1x1x1024x128.Idx) :
    (rK1 t h).emb y = (ix4 t h (y 2) (y 3) : S4x8x1024x128.Idx) := by
  refine funext ((forall_fin4 (P := fun a => (rK1 t h).emb y a = (ix4 t h (y 2) (y 3) : S4x8x1024x128.Idx) a)).mpr ?_)
  have h0 : (y 0).val < 1 := (y 0).isLt
  have h1 : (y 1).val < 1 := (y 1).isLt
  refine ⟨?_, ?_, ?_, ?_⟩ <;> (apply Fin.ext; rw [emb_unit_val]; simp [hd, wrow] <;> omega)
/-- Where an index of one direction's heads of a tile of the keys or values lies in the whole buffer. -/
theorem emb_rK4 {t d} (y : S1x4x1024x128.Idx) :
    (rK4 t d).emb y = (ix4 t (hd d (y 1)) (y 2) (y 3) : S4x8x1024x128.Idx) := by
  refine funext ((forall_fin4 (P := fun a => (rK4 t d).emb y a = (ix4 t (hd d (y 1)) (y 2) (y 3) : S4x8x1024x128.Idx) a)).mpr ?_)
  have h0 : (y 0).val < 1 := (y 0).isLt
  refine ⟨?_, ?_, ?_, ?_⟩ <;> (apply Fin.ext; rw [emb_unit_val]; simp [hd, wrow] <;> omega)
/-- Where an index of a slot of a staging buffer lies in the whole buffer. -/
theorem emb_rG {b} (y : S1x4096x128.Idx) :
    (rG b).emb y = (ix3 b (y 1) (y 2) : S2x4096x128.Idx) := by
  refine funext ((forall_fin3 (P := fun a => (rG b).emb y a = (ix3 b (y 1) (y 2) : S2x4096x128.Idx) a)).mpr ?_)
  have h0 : (y 0).val < 1 := (y 0).isLt
  refine ⟨?_, ?_, ?_⟩ <;> (apply Fin.ext; rw [emb_unit_val]; simp [hd, wrow] <;> omega)
/-- Where an index of one head of the whole keys or values lies in the whole buffer. -/
theorem emb_rH {h} (y : S1x4096x1x128.Idx) :
    (rH h).emb y = (ix4 0 (y 1) h (y 3) : S1x4096x8x128.Idx) := by
  refine funext ((forall_fin4 (P := fun a => (rH h).emb y a = (ix4 0 (y 1) h (y 3) : S1x4096x8x128.Idx) a)).mpr ?_)
  have h0 : (y 0).val < 1 := (y 0).isLt
  have h2 : (y 2).val < 1 := (y 2).isLt
  refine ⟨?_, ?_, ?_, ?_⟩ <;> (apply Fin.ext; rw [emb_unit_val]; simp [hd, wrow] <;> omega)
/-- Where an index of one direction of the contexts lies in the whole buffer. -/
theorem emb_rC {d} (y : S1x4x4x64x128.Idx) :
    (rC d).emb y = (ix5 d (y 1) (y 2) (y 3) (y 4) : S2x4x4x64x128.Idx) := by
  refine funext ((forall_fin5 (P := fun a => (rC d).emb y a = (ix5 d (y 1) (y 2) (y 3) (y 4) : S2x4x4x64x128.Idx) a)).mpr ?_)
  have h0 : (y 0).val < 1 := (y 0).isLt
  refine ⟨?_, ?_, ?_, ?_, ?_⟩ <;> (apply Fin.ext; rw [emb_unit_val]; simp [hd, wrow] <;> omega)
/-- Where an index of one head of a direction's contexts lies in the whole buffer. -/
theorem emb_rCh {d hl} (y : S1x4x1x64x128.Idx) :
    (rCh d hl).emb y = (ix5 d (y 1) hl (y 3) (y 4) : S2x4x4x64x128.Idx) := by
  refine funext ((forall_fin5 (P := fun a => (rCh d hl).emb y a = (ix5 d (y 1) hl (y 3) (y 4) : S2x4x4x64x128.Idx) a)).mpr ?_)
  have h0 : (y 0).val < 1 := (y 0).isLt
  have h2 : (y 2).val < 1 := (y 2).isLt
  refine ⟨?_, ?_, ?_, ?_, ?_⟩ <;> (apply Fin.ext; rw [emb_unit_val]; simp [hd, wrow] <;> omega)
/-- Where an index of one head's rows of the output weights lies in the whole buffer. -/
theorem emb_rW {h} (y : S128x1024.Idx) :
    (rW h).emb y = (ix2 (wrow h (y 0)) (y 1) : S1024x1024.Idx) := by
  refine funext ((forall_fin2 (P := fun a => (rW h).emb y a = (ix2 (wrow h (y 0)) (y 1) : S1024x1024.Idx) a)).mpr ?_)
  refine ⟨?_, ?_⟩ <;> (apply Fin.ext; rw [emb_unit_val]; simp [hd, wrow] <;> omega)

/-! ### Reading and writing through a rectangle of a whole buffer -/

section Rects

variable {Val : EltTy → Type} {b b' : Ref sig .tc}

/-- A read through a rectangle takes the elements in place. -/
theorem read_rect (r : Rect b.ty.shape) (f : b.ty.Contents Val) (y : r.shape.Idx) :
    ((Memref.whole b).access r).read Val f y = f (r.emb y) := rfl

/-- A write through a rectangle whose payload is `G` in place makes the rectangle hold `G`. -/
theorem write_rect_mem (r : Rect b.ty.shape) (f G : b.ty.Contents Val) (w : r.shape.Idx → Val b.ty.elt)
    (h : ∀ y, w y = G (r.emb y)) (i : b.ty.Idx) (hi : i ∈ r.set) :
    ((Memref.whole b).access r).write Val f w Finset.univ i = G i := by
  rw [← Rect.map_emb_univ] at hi
  obtain ⟨y, -, rfl⟩ := Finset.mem_map.mp hi
  exact (View.write_emb_of_mem (v := (Memref.whole b).access r) f w (Finset.mem_univ y)).trans (h y)

/-- Elsewhere it changes nothing. -/
theorem write_rect_not_mem (r : Rect b.ty.shape) (f : b.ty.Contents Val) (w : r.shape.Idx → Val b.ty.elt)
    (i : b.ty.Idx) (hi : i ∉ r.set) :
    ((Memref.whole b).access r).write Val f w Finset.univ i = f i :=
  View.write_of_not_mem (v := (Memref.whole b).access r) f w Finset.univ (by
    rw [View.setOn_univ]; exact fun h => hi ((View.set_slice_whole b r) ▸ h))

/-- The contents agree with `G` on a set of elements that grows with each store of `G`'s values. -/
theorem write_rect_grow (r : Rect b.ty.shape) (f G : b.ty.Contents Val) (w : r.shape.Idx → Val b.ty.elt)
    (h : ∀ y, w y = G (r.emb y)) (S : b.ty.Idx → Prop) (hS : ∀ i, S i → f i = G i) (i : b.ty.Idx) (hi : i ∈ r.set ∨ S i) :
    ((Memref.whole b).access r).write Val f w Finset.univ i = G i := by
  by_cases hr : i ∈ r.set
  · exact write_rect_mem r f G w h i hr
  · rw [write_rect_not_mem r f w i hr]; exact hS i (hi.resolve_left hr)

/-- A rectangle taken without its unit axes covers the rectangle's elements. -/
theorem set_squeeze (r : Rect b.ty.shape) (h) (s' : Shape) (hq : r.shape.Squeezes s') :
    (((Memref.whole b).slice r h).squeeze s' hq).view.set = r.set :=
  (View.set_reshape ((View.whole b).slice r) hq.numel_eq).trans (View.set_slice_whole b r)

/-- What a copy leaves in its destination, both sides taken without their leading unit axes. -/
theorem transfer {sp sp' : Space} {s s' : Shape} {e : EltTy} (v : View sig .tc sp s e) (v' : View sig .tc sp' s e) (h : s'.numel = s.numel)
    (fs : v.ty.Contents Val) (fd G : v'.ty.Contents Val) (hG : ∀ z, v.read Val fs z = v'.read Val G z) (i : v'.ty.Idx)
    (hi : i ∈ v'.set) :
    (v'.reshape s' h).write Val fd ((v.reshape s' h).read Val fs) Finset.univ i = G i := by
  rw [← View.set_reshape (v := v') (h := h)] at hi
  obtain ⟨y, -, rfl⟩ := Finset.mem_map.mp hi
  apply View.eq_of_read_eq (v := v'.reshape s' h)
  rw [View.read_write_univ]
  exact hG (Shape.reshapeEquiv h y)

end Rects

end Cert.Proof

end

end
-- ==== Proof.Protocol.lean ====
/-
  The protocol of the exchange: every transfer between two devices is a link; each link has a send cell on the device
  that starts it and a receive cell on the device it arrives at, and each device has one barrier cell besides.  A link's
  receive cell hands over the piece of buffer that has arrived, holding what `Contents.lean` says; its send cell hands
  the source back; a barrier cell hands over the pieces the neighbours' transfers will land in.
-/
module

public import proofs.«01_k».proof.Proof.Regions
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ### Ghost state: the pipeline's cells, the links' cells, and counters for the local copies -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-! ### Links -/

/-- The transfers a device starts: the queries of hop `j`, a tile's numerators, a tile's maxima and denominators, the
    finished contexts; `d` is the direction. -/
inductive Lk
  | q (d : Fin 2) (j : Fin 7)
  | a (d : Fin 2) (j : Fin 7) (t : Fin 4)
  | m (d : Fin 2) (j : Fin 7) (t : Fin 4)
  | x (d : Fin 2)
  deriving DecidableEq

/-- The links as a sum of products. -/
def Lk.equiv : Lk ≃ (Fin 2 × Fin 7) ⊕ (Fin 2 × Fin 7 × Fin 4) ⊕ (Fin 2 × Fin 7 × Fin 4) ⊕ Fin 2 where
  toFun | .q d j => .inl (d, j) | .a d j t => .inr (.inl (d, j, t)) | .m d j t => .inr (.inr (.inl (d, j, t))) | .x d => .inr (.inr (.inr d))
  invFun | .inl (d, j) => .q d j | .inr (.inl (d, j, t)) => .a d j t | .inr (.inr (.inl (d, j, t))) => .m d j t | .inr (.inr (.inr d)) => .x d
  left_inv l := by cases l <;> rfl
  right_inv s := by rcases s with s | s | s | s <;> rfl

instance : Fintype Lk := Fintype.ofEquiv _ Lk.equiv.symm

namespace Lk

def dir : Lk → Fin 2
  | q d _ | a d _ _ | m d _ _ | x d => d

/-- The level of a receive cell. -/
def lev : Lk → ℕ
  | q _ j | a _ j _ | m _ j _ => j.val + 2
  | x _ => 9

/-- The semaphore of the sending side (`false`) and of the receiving side (`true`). -/
def sem : Lk → Bool → DmaSem sig
  | q d j, b => if b then qrS d j.succ else qsS d j.succ
  | a d j t, b => if b then srS 0 d j.succ t else ssS 0 d j.succ t
  | m d j t, b => if b then srS 1 d j.succ t else ssS 1 d j.succ t
  | x d, b => if b then cxS d 1 else cxS d 0

/-- Its number. -/
def num : Lk → Bool → ℕ
  | q d j, b => (if b then 24 else 8) + 8 * d + (j + 1)
  | a d j t, b => (if b then 168 else 40) + 32 * d + 4 * (j + 1) + t
  | m d j t, b => (if b then 168 else 40) + 64 + 32 * d + 4 * (j + 1) + t
  | x d, b => 296 + 2 * d + (if b then 1 else 0)

/-- A link's semaphore has the number `num` gives. -/
theorem sem_val : ∀ (l : Lk) (b : Bool), (l.sem b).val = l.num b
  | q d j, b => by revert d j b; decide +kernel
  | a d j t, b => by revert d j t b; decide +kernel
  | m d j t, b => by revert d j t b; decide +kernel
  | x d, b => by revert d b; decide +kernel

/-- Different ends of links have different numbers, -/
theorem num_inj {l l' : Lk} {b b' : Bool} (h : l.num b = l'.num b') : l = l' ∧ b = b' := by
  rcases l with ⟨d, j⟩ | ⟨d, j, t⟩ | ⟨d, j, t⟩ | d <;> rcases l' with ⟨d', j'⟩ | ⟨d', j', t'⟩ | ⟨d', j', t'⟩ | d' <;>
    cases b <;> cases b' <;> simp [num] at h ⊢ <;> omega

/-- all above those of the staging and of the local copies. -/
theorem num_ge (l : Lk) (b : Bool) : 8 ≤ l.num b := by
  rcases l with ⟨d, j⟩ | ⟨d, j, t⟩ | ⟨d, j, t⟩ | d <;> cases b <;> simp [num] <;> omega

end Lk

/-- A device's cells: its barrier, and for each link a send cell (`false`) and a receive cell (`true`). -/
abbrev CK : Type := Option (Lk × Bool)

def csem : CK → SemLoc sig
  | none => .reg barS
  | some (l, b) => .dma (l.sem b)

/-- Different cells of a device are different semaphores. -/
theorem csem_inj : Function.Injective csem := by
  rintro (_ | ⟨l, b⟩) (_ | ⟨l', b'⟩) h
  · rfl
  · cases h
  · cases h
  · have h' := SemLoc.dma.inj h
    obtain ⟨rfl, rfl⟩ := Lk.num_inj (l := l) (b := b) (l' := l') (b' := b') (by rw [← Lk.sem_val, ← Lk.sem_val, h'])
    rfl

abbrev kcell (p : Dev nD × CK) : GSem nD τ sig := ((p.1 : Thread nD τ), csem p.2)
abbrev barCell (c : Dev nD) : GSem nD τ sig := kcell (c, none)
abbrev sndCell (c : Dev nD) (l : Lk) : GSem nD τ sig := kcell (c, some (l, false))
abbrev rcvCell (c : Dev nD) (l : Lk) : GSem nD τ sig := kcell (c, some (l, true))

/-- Which cell of a device a semaphore is. -/
def dec : SemLoc sig → Option CK := Function.partialInv csem
/-- Which cell a cell's semaphore is, read back. -/
theorem dec_csem (k : CK) : dec (csem k) = some k := Function.partialInv_left csem_inj k
/-- The staging and local-copy semaphores are none of the cells. -/
theorem dec_low (s : DmaSem sig) (h : s.val < 8) : dec (.dma s) = none := by
  unfold dec Function.partialInv
  rw [dif_neg]
  rintro ⟨_ | ⟨l, b⟩, e⟩
  · cases e
  · have := Lk.num_ge l b
    rw [← Lk.sem_val, SemLoc.dma.inj e] at this
    omega

/-! ### What travels -/

variable (I : Ins F)

/-- The share of a query slot that its transfer holds, and the one the attention reads with. -/
abbrev hS : PosShare TreeShare := PosShare.left fullShare
abbrev hR : PosShare TreeShare := PosShare.right fullShare

abbrev qP (c : Dev nD) (d : Fin 2) (s : Fin 8) (q : PosShare TreeShare) (f : Buf (Elt F) ((c : Thread nD τ).loc cc0_scratch0)) : sProp 𝕄 :=
  ((c : Thread nD τ).loc cc0_scratch0) ↦[(rQs d s).set]{q} f
abbrev aP (c : Dev nD) (d : Fin 2) (s : Fin 8) (t : Fin 4) (f : Buf (Elt F) ((c : Thread nD τ).loc cc0_scratch1)) : sProp 𝕄 :=
  ((c : Thread nD τ).loc cc0_scratch1) ↦[(rQt d s t).set]{fullShare} f
abbrev mP (c : Dev nD) (d : Fin 2) (s : Fin 8) (t : Fin 4) (f : Buf (Elt F) ((c : Thread nD τ).loc cc0_scratch2)) : sProp 𝕄 :=
  ((c : Thread nD τ).loc cc0_scratch2) ↦[(rMt d s t).set]{fullShare} f
abbrev csP (c : Dev nD) (d : Fin 2) (f : Buf (Elt F) ((c : Thread nD τ).loc cc0_scratch5)) : sProp 𝕄 :=
  ((c : Thread nD τ).loc cc0_scratch5) ↦[(rC d).set]{fullShare} f
abbrev crP (c : Dev nD) (d : Fin 2) (f : Buf (Elt F) ((c : Thread nD τ).loc cc0_scratch6)) : sProp 𝕄 :=
  ((c : Thread nD τ).loc cc0_scratch6) ↦[(rC d).set]{fullShare} f

/-- Where link `l` lands on device `c`, whatever it holds; -/
def land (c : Dev nD) : Lk → sProp 𝕄
  | .q d j => iprop(∃ f, qP c d j.succ fullShare f)
  | .a d j t => iprop(∃ f, aP c d j.succ t f)
  | .m d j t => iprop(∃ f, mP c d j.succ t f)
  | .x d => iprop(∃ f, crP c d f)

/-- after the arrival; -/
def landed (c : Dev nD) : Lk → sProp 𝕄
  | .q d j => qP c d j.succ fullShare (Qb I c)
  | .a d j t => aP c d j.succ t (AccIn I c)
  | .m d j t => mP c d j.succ t (MlIn I c)
  | .x d => crP c d (Cr I c)

/-- the source. -/
def sent (c : Dev nD) : Lk → sProp 𝕄
  | .q d j => qP c d j.castSucc hS (Qb I c)
  | .a d j t => aP c d j.castSucc t (AccOut I c)
  | .m d j t => mP c d j.castSucc t (MlOut I c)
  | .x d => csP c d (Cs I c)

instance land_storable (c : Dev nD) (l : Lk) : BI.Storable (upEmb : UEmb _ 𝕄) (land (F := F) c l) := by
  cases l <;> (unfold land; infer_instance)
instance landed_storable (c : Dev nD) (l : Lk) : BI.Storable (upEmb : UEmb _ 𝕄) (landed I c l) := by
  cases l <;> (unfold landed; infer_instance)
instance sent_storable (c : Dev nD) (l : Lk) : BI.Storable (upEmb : UEmb _ 𝕄) (sent I c l) := by
  cases l <;> (unfold sent; infer_instance)

/-- The credit of a link's transfer. -/
def credit : Lk → ℕ
  | .q d j => (qS d j.succ).view.dmaCredit
  | .a d j t => (accS d j.succ t).view.dmaCredit
  | .m d j t => (mlS d j.succ t).view.dmaCredit
  | .x d => (crS d).view.dmaCredit

/-- Every transfer carries some credit. -/
theorem credit_pos : ∀ l, 0 < credit l
  | .q d j => View.dmaCredit_pos _ (by decide)
  | .a d j t => View.dmaCredit_pos _ (by decide)
  | .m d j t => View.dmaCredit_pos _ (by decide)
  | .x d => View.dmaCredit_pos _ (by decide)

/-- One link's share of a barrier duty. -/
def barOne (c : Dev nD) (d : Fin 2) (l : Lk) : sProp 𝕄 := if l.dir = d then land (dest d c) l else iprop(emp)

instance barOne_storable (c : Dev nD) (d : Fin 2) (l : Lk) : BI.Storable (upEmb : UEmb _ 𝕄) (barOne (F := F) c d l) := by
  unfold barOne; split <;> infer_instance

/-- What device `dest d c` hands `c` with its barrier signal: where `c`'s transfers in direction `d` land. -/
def barPay (c : Dev nD) (d : Fin 2) : sProp 𝕄 := bigSep Finset.univ (barOne (F := F) c d)

instance barPay_storable (c : Dev nD) (d : Fin 2) : BI.Storable (upEmb : UEmb _ 𝕄) (barPay (F := F) c d) := by
  unfold barPay; infer_instance

/-! ### The schedule -/

def cellDuties : Option CK → Finset (Fin 2)
  | none => ∅
  | some none => Finset.univ
  | some (some _) => {0}
def cellAmount : Option CK → ℕ
  | some (some (l, _)) => credit l
  | _ => 1
def cellPay (c : Dev nD) : Option CK → Fin 2 → sProp 𝕄
  | none, _ => iprop(emp)
  | some none, d => barPay c d
  | some (some (l, true)), _ => landed I c l
  | some (some (l, false)), _ => sent I c l

instance cellPay_storable (c : Dev nD) (k : Option CK) (d : Fin 2) : BI.Storable (upEmb : UEmb _ 𝕄) (cellPay I c k d) := by
  rcases k with _ | _ | ⟨l, _ | _⟩ <;> (unfold cellPay; infer_instance)

/-- One round: a barrier cell's two duties are the neighbours' signals, a link cell's one duty the transfer. -/
def Rd : Rounds.Schedule (GSem nD τ sig) (Fin 2) 𝕄 where
  duties g r := if r = 0 ∧ g.1.2 = .tc then cellDuties (dec g.2) else ∅
  unitless _ := False
  amount g _ _ := cellAmount (dec g.2)
  payload g _ d := cellPay I g.1.1 (dec g.2) d
  amount_pos g _ _ _ := by
    rcases dec g.2 with _ | _ | ⟨l, b⟩
    · exact Nat.one_pos
    · exact Nat.one_pos
    · exact credit_pos l

instance Rd_payload_storable (g : GSem nD τ sig) (r : ℕ) (d : Fin 2) : BI.Storable (upEmb : UEmb _ 𝕄) ((Rd I).payload g r d) := by
  unfold Rd; infer_instance

/-- The duties of a cell in the one round; -/
theorem duties_cell (c : Dev nD) (k : CK) : (Rd I).duties (kcell (c, k)) 0 = cellDuties (some k) := by
  dsimp only [Rd]; rw [if_pos ⟨rfl, rfl⟩, dec_csem]
/-- there are none in later rounds. -/
theorem duties_later (g : GSem nD τ sig) : ∀ r, 1 ≤ r → (Rd I).duties g r = ∅ :=
  fun r hr => if_neg fun h => by omega
/-- What a duty of a cell adds to it, -/
theorem amount_cell (c : Dev nD) (k : CK) (d : Fin 2) : (Rd I).amount (kcell (c, k)) 0 d = cellAmount (some k) := by
  dsimp only [Rd]; rw [dec_csem]
/-- and what it hands over. -/
theorem payload_cell (c : Dev nD) (k : CK) (d : Fin 2) : (Rd I).payload (kcell (c, k)) 0 d = cellPay I c (some k) d := by
  dsimp only [Rd]; rw [dec_csem]
/-- A barrier cell waits for two signals; -/
theorem expect_bar (c : Dev nD) : (Rd I).expect (barCell c) 0 = 2 := by
  unfold Schedule.expect Schedule.amountOf
  rw [duties_cell, Finset.sum_congr rfl fun d _ => amount_cell I c none d]
  rfl
/-- a link's cell for the link's credit. -/
theorem expect_link (c : Dev nD) (l : Lk) (b : Bool) : (Rd I).expect (kcell (c, some (l, b))) 0 = credit l := by
  unfold Schedule.expect Schedule.amountOf
  rw [duties_cell, cellDuties, Finset.sum_singleton, amount_cell]
  rfl
/-- A barrier cell hands over what both neighbours gave; -/
theorem rest_bar (c : Dev nD) :
    bigSep ((Rd I).duties (barCell c) 0 \ ∅) (fun d => (Rd I).payload (barCell c) 0 d) = iprop(barPay c 0 ∗ barPay c 1) := by
  rw [Finset.sdiff_empty, duties_cell, cellDuties, bigSep_univ_eq_bigSepL [0, 1] (by decide) (by decide), bigSepL_cons_cons, bigSepL_singleton,
    payload_cell, payload_cell]
  rfl
/-- a link's cell what its transfer gave. -/
theorem rest_link (c : Dev nD) (l : Lk) (b : Bool) :
    bigSep ((Rd I).duties (kcell (c, some (l, b))) 0 \ ∅) (fun d => (Rd I).payload (kcell (c, some (l, b))) 0 d)
      = cellPay I c (some (some (l, b))) 0 := by
  rw [Finset.sdiff_empty, duties_cell, cellDuties, bigSep_singleton, payload_cell]

/-! ### What is owed, and the levels -/

/-- The receive credits device `c` owes for the links still to be sent. -/
def oweL (c : Dev nD) : List Lk → CellTallies nD τ sig Unit
  | [] => 0
  | l :: L => oweL c L + tallyAt (rcvCell (dest l.dir c) l) () (credit l)

def lvl : Option CK → ℕ
  | some none => 1
  | some (some (l, true)) => l.lev
  | _ => 0
def lv (g : GSem nD τ sig) (_ : Unit) : ℕ := lvl (dec g.2)
def Lix (g : GSem nD τ sig) : Finset Unit := if g.1.2 = .tc then {()} else ∅

/-- Only the tensor core has levels; -/
theorem Lix_of_ne (g : GSem nD τ sig) (h : g.1.2 ≠ .tc) : Lix g = ∅ := if_neg h
/-- each of its semaphores has one. -/
theorem Lix_tc (c : Dev nD) (sm : SemLoc sig) : Lix ((c : Thread nD τ), sm) = {()} := if_pos rfl
/-- The level of a cell. -/
theorem lv_cell (c : Dev nD) (k : CK) (u : Unit) : lv (kcell (c, k)) u = lvl (some k) := by unfold lv; rw [dec_csem]

/-- Where something is owed, some link still to be sent ends there. -/
theorem oweL_pos {c : Dev nD} : ∀ {L : List Lk} {g : GSem nD τ sig} {u : Unit}, 0 < oweL c L g u → ∃ l ∈ L, g = rcvCell (dest l.dir c) l
  | [], g, u, h => absurd h (Nat.lt_irrefl 0)
  | l :: L, g, u, h => by
    by_cases hg : g = rcvCell (dest l.dir c) l
    · exact ⟨l, List.mem_cons_self, hg⟩
    · rw [oweL, Pi.add_apply, Finsupp.add_apply, tallyAt_apply, if_neg (fun h' => hg h'.1)] at h
      obtain ⟨l', h1, h2⟩ := oweL_pos (L := L) (g := g) (u := u) h
      exact ⟨l', List.mem_cons_of_mem _ h1, h2⟩

/-- A wait at level `n` is allowed while every link still to be sent arrives above it. -/
theorem mayWait (c : Dev nD) (sm : SemLoc sig) (L : List Lk) (h : ∀ l ∈ L, lvl (dec sm) < l.lev) :
    (levAts Lix lv : sProp 𝕄) ⊢ MayWait (c : Thread nD τ) sm () (oweL c L) :=
  MayOwe.of_cut (L := Lix) (lev := lv) (lvl (dec sm)) (fun p hp => by rw [Finset.mem_singleton.mp hp, Lix_tc]; exact Finset.mem_singleton_self _)
    (fun g u hg => by obtain ⟨l, -, rfl⟩ := oweL_pos hg; exact Finset.mem_singleton_self _)
    (fun p hp => by rw [Finset.mem_singleton.mp hp]; exact le_rfl)
    (fun g u hg => by obtain ⟨l, hl, rfl⟩ := oweL_pos hg; rw [lv_cell]; exact h l hl)

end Cert.Proof

end

end
-- ==== Proof.Values.lean ====
/-
  The contents fit together: what is loaded from a buffer at its contents, that a store leaves its contents, and that a
  transfer takes the contents of one device's buffer to those of the next device's.
-/
module

public import proofs.«01_k».proof.Proof.Regions
public import Idealize.ShloMosaic.Lib.ValueLayout

@[expose] public section

noncomputable section

namespace Cert.Proof

open Cert.KernelIdeal Cert.KernelIdeal.Gen

open Idealize.ShloMosaic
open Idealize.ShloMosaic.TcCoe
open Idealize.SL.Sem

variable {F : FTy → Type} [FloatOps F] (I : Ins F)

/-- An index by a fixed coordinate of an axis of extent one. -/
theorem fin_one {n : ℕ} (h : n = 1) (a b : Fin n) : a = b := by subst h; exact Subsingleton.elim a b

/-! ### Indices with unit axes -/

/-- An index of a tile's maxima or denominators is given by its coordinates of extent above one. -/
theorem ix_m (y : S1x1x1x1x4x64.Idx) : ix6 0 0 0 0 (y 4) (y 5) = y :=
  funext fun | ⟨0, _⟩ => fin_one rfl _ _ | ⟨1, _⟩ => fin_one rfl _ _ | ⟨2, _⟩ => fin_one rfl _ _ | ⟨3, _⟩ => fin_one rfl _ _ | ⟨4, _⟩ => rfl | ⟨5, _⟩ => rfl
/-- An index of one head of a tile of the queries is given by its coordinates of extent above one. -/
theorem ix_q (y : S1x1x1x1x64x128.Idx) : ix6 0 0 0 0 (y 4) (y 5) = y :=
  funext fun | ⟨0, _⟩ => fin_one rfl _ _ | ⟨1, _⟩ => fin_one rfl _ _ | ⟨2, _⟩ => fin_one rfl _ _ | ⟨3, _⟩ => fin_one rfl _ _ | ⟨4, _⟩ => rfl | ⟨5, _⟩ => rfl
/-- An index of a tile of the numerators is given by its coordinates of extent above one. -/
theorem ix_a (y : S1x1x1x4x64x128.Idx) : ix6 0 0 0 (y 3) (y 4) (y 5) = y :=
  funext fun | ⟨0, _⟩ => fin_one rfl _ _ | ⟨1, _⟩ => fin_one rfl _ _ | ⟨2, _⟩ => fin_one rfl _ _ | ⟨3, _⟩ => rfl | ⟨4, _⟩ => rfl | ⟨5, _⟩ => rfl
/-- An index of one head of a tile of the keys is given by its coordinates of extent above one. -/
theorem ix_k (y : S1x1x1024x128.Idx) : ix4 0 0 (y 2) (y 3) = y :=
  funext fun | ⟨0, _⟩ => fin_one rfl _ _ | ⟨1, _⟩ => fin_one rfl _ _ | ⟨2, _⟩ => rfl | ⟨3, _⟩ => rfl
/-- An index of one direction of the contexts is given by its coordinates of extent above one. -/
theorem ix_c (y : S1x4x4x64x128.Idx) : ix5 0 (y 1) (y 2) (y 3) (y 4) = y :=
  funext fun | ⟨0, _⟩ => fin_one rfl _ _ | ⟨1, _⟩ => rfl | ⟨2, _⟩ => rfl | ⟨3, _⟩ => rfl | ⟨4, _⟩ => rfl

/-- An index of a slot of the numerators is given by its coordinates of extent above one. -/
theorem ix_s (y : S1x1x4x4x64x128.Idx) : ix6 0 0 (y 2) (y 3) (y 4) (y 5) = y :=
  funext fun | ⟨0, _⟩ => fin_one rfl _ _ | ⟨1, _⟩ => fin_one rfl _ _ | ⟨2, _⟩ => rfl | ⟨3, _⟩ => rfl | ⟨4, _⟩ => rfl | ⟨5, _⟩ => rfl

/-! ### Transfers -/

/-- Passing a slot on keeps whose queries it holds. -/
theorem home_succ (d : Fin 2) (s : ℕ) (c : Dev nD) : home d (s + 1) (dest d c) = home d s c := by
  rw [home, src_dest]
/-- The running values passed on are those received next. -/
theorem stIn_succ (s : ℕ) (c : Dev nD) (d : Fin 2) (t : Fin 4) : stIn I (s + 1) (dest d c) d t = stOut I s c d t := by
  rw [stIn, src_dest]; rfl

/-- An entry of the query buffer: the queries of the device the slot comes from. -/
theorem Qb_ix (c : Dev nD) (d : Fin 2) (s : Fin 8) (t hl : Fin 4) (r : Fin 64) (x : Fin 128) :
    Qb I c (ix6 d s t hl r x) = qTile (qVal (I.x (home d s.val c)) (I.wq (home d s.val c))) d t hl (ix6 0 0 0 0 r x) := rfl
/-- An entry of the numerators as received, -/
theorem AccIn_ix (c : Dev nD) (d : Fin 2) (s : Fin 8) (t hl : Fin 4) (r : Fin 64) (x : Fin 128) :
    AccIn I c (ix6 d s t hl r x) = (stIn I s.val c d t).a (ix6 0 0 0 hl r x) := rfl
/-- and as passed on. -/
theorem AccOut_ix (c : Dev nD) (d : Fin 2) (s : Fin 8) (t hl : Fin 4) (r : Fin 64) (x : Fin 128) :
    AccOut I c (ix6 d s t hl r x) = (stOut I s.val c d t).a (ix6 0 0 0 hl r x) := rfl
/-- An entry of the maxima and denominators as received, -/
theorem MlIn_ix (c : Dev nD) (d : Fin 2) (s : Fin 8) (t : Fin 4) (i : Fin 2) (hl : Fin 4) (r : Fin 64) :
    MlIn I c (ix6 d s t i hl r)
      = if i.val = 0 then (stIn I s.val c d t).m (ix6 0 0 0 0 hl r) else (stIn I s.val c d t).l (ix6 0 0 0 0 hl r) := rfl
/-- and as passed on. -/
theorem MlOut_ix (c : Dev nD) (d : Fin 2) (s : Fin 8) (t : Fin 4) (i : Fin 2) (hl : Fin 4) (r : Fin 64) :
    MlOut I c (ix6 d s t i hl r)
      = if i.val = 0 then (stOut I s.val c d t).m (ix6 0 0 0 0 hl r) else (stOut I s.val c d t).l (ix6 0 0 0 0 hl r) := rfl

/-- A transfer takes a slot of queries to the next device's next slot; -/
theorem Qb_next (c : Dev nD) (d : Fin 2) (j : Fin 7) (z : S1x1x4x4x64x128.Idx) :
    Qb I c ((rQs d j.castSucc).emb z) = Qb I (dest d c) ((rQs d j.succ).emb z) := by
  rw [emb_rQs, emb_rQs]
  refine (Qb_ix I c d j.castSucc (z 2) (z 3) (z 4) (z 5)).trans (Eq.trans ?_ (Qb_ix I (dest d c) d j.succ (z 2) (z 3) (z 4) (z 5)).symm)
  rw [Fin.val_succ, home_succ]; rfl
/-- a tile of numerators likewise; -/
theorem Acc_next (c : Dev nD) (d : Fin 2) (j : Fin 7) (t : Fin 4) (z : S1x1x1x4x64x128.Idx) :
    AccOut I c ((rQt d j.castSucc t).emb z) = AccIn I (dest d c) ((rQt d j.succ t).emb z) := by
  rw [emb_rQt, emb_rQt]
  refine (AccOut_ix I c d j.castSucc t (z 3) (z 4) (z 5)).trans (Eq.trans ?_ (AccIn_ix I (dest d c) d j.succ t (z 3) (z 4) (z 5)).symm)
  rw [Fin.val_succ, stIn_succ]; rfl
/-- a tile of maxima and denominators; -/
theorem Ml_next (c : Dev nD) (d : Fin 2) (j : Fin 7) (t : Fin 4) (z : S1x1x1x2x4x64.Idx) :
    MlOut I c ((rMt d j.castSucc t).emb z) = MlIn I (dest d c) ((rMt d j.succ t).emb z) := by
  rw [emb_rMt, emb_rMt]
  refine (MlOut_ix I c d j.castSucc t (z 3) (z 4) (z 5)).trans (Eq.trans ?_ (MlIn_ix I (dest d c) d j.succ t (z 3) (z 4) (z 5)).symm)
  rw [Fin.val_succ, stIn_succ]; rfl
/-- and a direction's finished contexts. -/
theorem C_next (c : Dev nD) (d : Fin 2) (z : S1x4x4x64x128.Idx) :
    Cs I c ((rC d).emb z) = Cr I (dest d c) ((rC d).emb z) := by
  rw [emb_rC]; show _ = Cs I (src d (dest d c)) _; rw [src_dest]

/-! ### Loads -/

/-- Loading a tile's queries. -/
theorem load_q (c : Dev nD) (d : Fin 2) (s : Fin 8) (t : Fin 4) :
    qM.view.readAt (Elt F) (rQt d s t).toLoadRect (Qb I c) = qT I c d s t := by
  funext y; show Qb I c ((rQt d s t).emb y) = _; rw [emb_rQt]; rfl
/-- Loading a tile's keys for one direction's heads. -/
theorem load_k (a : Vec F S1x4096x8x128 .f32) (d : Fin 2) (t : Fin 4) :
    krM.view.readAt (Elt F) (rK4 t d).toLoadRect (Kb a) = kT a d t := by
  funext y; show Kb a ((rK4 t d).emb y) = _; rw [emb_rK4]; rfl
/-- Loading a tile's values for one direction's heads. -/
theorem load_v (a : Vec F S1x4096x8x128 .f32) (d : Fin 2) (t : Fin 4) :
    vrM.view.readAt (Elt F) (rK4 t d).toLoadRect (Kb a) = kT a d t := load_k a d t
/-- Loading the maxima received. -/
theorem load_m (c : Dev nD) (d : Fin 2) (s : Fin 8) (t : Fin 4) :
    mlM.view.readAt (Elt F) (rMi d s t 0).toLoadRect (MlIn I c) = (stIn I s.val c d t).m := by
  funext y; show MlIn I c ((rMi d s t 0).emb y) = _
  rw [emb_rMi]
  refine (MlIn_ix I c d s t 0 (y 4) (y 5)).trans ?_
  rw [if_pos (by rfl)]
  exact congrArg _ (ix_m y)
/-- Loading the denominators received. -/
theorem load_l (c : Dev nD) (d : Fin 2) (s : Fin 8) (t : Fin 4) :
    mlM.view.readAt (Elt F) (rMi d s t 1).toLoadRect (MlIn I c) = (stIn I s.val c d t).l := by
  funext y; show MlIn I c ((rMi d s t 1).emb y) = _
  rw [emb_rMi]
  refine (MlIn_ix I c d s t 1 (y 4) (y 5)).trans ?_
  rw [if_neg (by decide)]
  exact congrArg _ (ix_m y)
/-- Loading the numerators received. -/
theorem load_a (c : Dev nD) (d : Fin 2) (s : Fin 8) (t : Fin 4) :
    accM.view.readAt (Elt F) (rQt d s t).toLoadRect (AccIn I c) = (stIn I s.val c d t).a := by
  funext y; show AccIn I c ((rQt d s t).emb y) = _
  rw [emb_rQt]
  refine (AccIn_ix I c d s t (y 3) (y 4) (y 5)).trans ?_
  exact congrArg _ (ix_a y)
/-- Loading a head of the keys from its staging slot. -/
theorem load_g (a : Vec F S1x4096x8x128 .f32) (h : Fin 8) (b : Fin 2) :
    kgM.view.readAt (Elt F) (rG b).toLoadRect (Gb a h) = headOf a h := by
  funext y; show Gb a h ((rG b).emb y) = _; rw [emb_rG]; rfl
/-- Loading a head of the values from its staging slot. -/
theorem load_gv (a : Vec F S1x4096x8x128 .f32) (h : Fin 8) (b : Fin 2) :
    vgM.view.readAt (Elt F) (rG b).toLoadRect (Gb a h) = headOf a h := load_g a h b
/-- Loading the final denominators. -/
theorem load_lFin (c : Dev nD) (d : Fin 2) : mlM.view.readAt (Elt F) (rMl d).toLoadRect (MlOut I c) = lFin I c d := by
  funext y; show MlOut I c ((rMl d).emb y) = _; rw [emb_rMl]; rfl
/-- Loading the final numerators. -/
theorem load_aFin (c : Dev nD) (d : Fin 2) : accM.view.readAt (Elt F) (rQs d 7).toLoadRect (AccOut I c) = aFin I c d := by
  funext y; show AccOut I c ((rQs d 7).emb y) = _; rw [emb_rQs]; rfl
/-- Loading one head of the contexts received. -/
theorem load_c (c : Dev nD) (d : Fin 2) (hl : Fin 4) : crM.view.readAt (Elt F) (rCh d hl).toLoadRect (Cr I c) = crT I c d hl := by
  funext y; show Cr I c ((rCh d hl).emb y) = _; rw [emb_rCh]; rfl
/-- Loading one head's rows of the output weights. -/
theorem load_wo (w : Vec F S1024x1024 .f32) (h : Fin 8) : woM.view.readAt (Elt F) (rW h).toLoadRect w = woT w h := by
  funext y; show w ((rW h).emb y) = _; rw [emb_rW]; rfl

/-! ### Stores -/

/-- What is stored as a tile's queries is what the buffer is to hold. -/
theorem store_q (c : Dev nD) (d : Fin 2) (t hl : Fin 4) (y : S1x1x1x1x64x128.Idx) :
    qTile (qVal (I.x c) (I.wq c)) d t hl y = Qb I c ((rQ1 d 0 t hl).emb y) := by
  rw [emb_rQ1]
  refine Eq.trans ?_ (Qb_ix I c d 0 t hl (y 4) (y 5)).symm
  exact congrArg (qTile _ d t hl) (ix_q y).symm
/-- The same for a tile of a head's keys or values; -/
theorem store_k (a : Vec F S1x4096x8x128 .f32) (h : Fin 8) (t : Fin 4) (y : S1x1x1024x128.Idx) :
    kvTile (headOf a h) t y = Kb a ((rK1 t h).emb y) := by
  rw [emb_rK1]
  show _ = kvTile (headOf a h) t (ix4 0 0 (y 2) (y 3))
  exact congrArg (kvTile _ t) (ix_k y).symm
/-- for the maxima at the start; -/
theorem store_m0 (c : Dev nD) (d : Fin 2) (t : Fin 4) (y : S1x1x1x1x4x64.Idx) :
    (mlInit 0xF149F2CA#32 : FVec F _ .f32) y = MlIn I c ((rMi d 0 t 0).emb y) := by
  rw [emb_rMi]
  refine Eq.trans ?_ (MlIn_ix I c d 0 t 0 (y 4) (y 5)).symm
  rw [if_pos (by rfl)]
  exact congrArg (mlInit _) (ix_m y).symm
/-- the denominators at the start; -/
theorem store_l0 (c : Dev nD) (d : Fin 2) (t : Fin 4) (y : S1x1x1x1x4x64.Idx) :
    (mlInit 0x00000000#32 : FVec F _ .f32) y = MlIn I c ((rMi d 0 t 1).emb y) := by
  rw [emb_rMi]
  refine Eq.trans ?_ (MlIn_ix I c d 0 t 1 (y 4) (y 5)).symm
  rw [if_neg (by decide)]
  exact congrArg (mlInit _) (ix_m y).symm
/-- the numerators at the start; -/
theorem store_a0 (c : Dev nD) (d : Fin 2) (y : S1x1x4x4x64x128.Idx) :
    (accInit : FVec F _ .bf16) y = AccIn I c ((rQs d 0).emb y) := by
  rw [emb_rQs]
  exact Eq.trans (congrArg accInit (ix_s y).symm) (AccIn_ix I c d 0 (y 2) (y 3) (y 4) (y 5)).symm
/-- for the new numerators; -/
theorem store_a (c : Dev nD) (d : Fin 2) (s : Fin 8) (t : Fin 4) (y : S1x1x1x4x64x128.Idx) :
    (stOut I s.val c d t).a y = AccOut I c ((rQt d s t).emb y) := by
  rw [emb_rQt]
  refine Eq.trans ?_ (AccOut_ix I c d s t (y 3) (y 4) (y 5)).symm
  exact congrArg _ (ix_a y).symm
/-- the new maxima; -/
theorem store_m (c : Dev nD) (d : Fin 2) (s : Fin 8) (t : Fin 4) (y : S1x1x1x1x4x64.Idx) :
    (stOut I s.val c d t).m y = MlOut I c ((rMi d s t 0).emb y) := by
  rw [emb_rMi]
  refine Eq.trans ?_ (MlOut_ix I c d s t 0 (y 4) (y 5)).symm
  rw [if_pos (by rfl)]
  exact congrArg _ (ix_m y).symm
/-- the new denominators; -/
theorem store_l (c : Dev nD) (d : Fin 2) (s : Fin 8) (t : Fin 4) (y : S1x1x1x1x4x64.Idx) :
    (stOut I s.val c d t).l y = MlOut I c ((rMi d s t 1).emb y) := by
  rw [emb_rMi]
  refine Eq.trans ?_ (MlOut_ix I c d s t 1 (y 4) (y 5)).symm
  rw [if_neg (by decide)]
  exact congrArg _ (ix_m y).symm
/-- and for the finished contexts. -/
theorem store_c (c : Dev nD) (d : Fin 2) (y : S1x4x4x64x128.Idx) :
    ctxVal (lFin I c d) (aFin I c d) y = Cs I c ((rC d).emb y) := by
  rw [emb_rC]
  show _ = ctxVal (lFin I c d) (aFin I c d) (ix5 0 (y 1) (y 2) (y 3) (y 4))
  exact congrArg (ctxVal _ _) (ix_c y).symm

/-- The two unit axes of a head's rows put back. -/
theorem squeeze_h (h : S4096x128.numel = S1x4096x1x128.numel) (p : Fin 4096) (x : Fin 128) :
    Shape.reshapeEquiv h (ix2 p x) = (ix4 0 p 0 x : S1x4096x1x128.Idx) :=
  Shape.reshapeEquiv_eq_of_rowMajor h (by
    rw [Shape.rowMajor_val_four, Shape.rowMajor_val_two]
    show ((0 * 4096 + p.val) * 1 + 0) * 128 + x.val = p.val * 128 + x.val
    omega)
/-- The unit axis of a staging slot put back. -/
theorem squeeze_g (h : S4096x128.numel = S1x4096x128.numel) (p : Fin 4096) (x : Fin 128) :
    Shape.reshapeEquiv h (ix2 p x) = (ix3 0 p x : S1x4096x128.Idx) :=
  Shape.reshapeEquiv_eq_of_rowMajor h (by
    rw [Shape.rowMajor_val_three, Shape.rowMajor_val_two]
    show (0 * 4096 + p.val) * 128 + x.val = p.val * 128 + x.val
    omega)

/-- The local copy of head `h` of the keys or values: row by row in place. -/
theorem stage_copy (b : Fin 2) (h : Fin 8) (a : Vec F S1x4096x8x128 .f32) (fd : Vec F S2x4096x128 .f32) (i : S2x4096x128.Idx) (hi : i ∈ (rG b).set) :
    (kgS b).view.write (Elt F) fd ((kS h).view.read (Elt F) a) Finset.univ i = Gb a h i := by
  have hi' : i ∈ (kgS b).view.set := (Finset.ext_iff.mp (set_squeeze (b := cc0_scratch7) (rG b) (fun _ => rfl) S4096x128 squeezes_S1x4096x128_S4096x128) i).mpr hi
  obtain ⟨y, -, rfl⟩ := Finset.mem_map.mp hi'
  refine (View.write_emb_of_mem (v := (kgS b).view) fd _ (Finset.mem_univ y)).trans ?_
  obtain ⟨p, x, rfl⟩ : ∃ p x, y = ix2 p x := ⟨y 0, y 1, (ix2_eta y).symm⟩
  show a ((rH h).emb (Shape.reshapeEquiv _ (ix2 p x))) = Gb a h ((rG b).emb (Shape.reshapeEquiv _ (ix2 p x)))
  rw [squeeze_h, squeeze_g, emb_rH, emb_rG]
  rfl

end Cert.Proof

end

end
-- ==== Proof.Steps.lean ====
/-
  The steps of the body against the protocol: one lemma for each kind of step — a send, a wait, a load, a store — and the
  rule by which a fold of steps is run.
-/
module

public import proofs.«01_k».proof.Proof.Protocol
public import proofs.«01_k».proof.Proof.Values
public import Idealize.ShloMosaic.Lib.Pipeline.BigSepL

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What is to be shown of a piece of the body on device `c`. -/
abbrev WP (c : Dev nD) (p : PR F) (Q : PUnit → sProp 𝕄) : sProp 𝕄 :=
  wp frame (wpE (defs₀ (F := F)) 𝒱₀ (c : Thread nD τ) none) Set.univ p Q

variable (I : Ins F) (K : Dev nD × CK → ℕ)

/-! ### What every device knows -/

/-- Every cell's invariant, that every cell has reached its round, and the levels. -/
def records : sProp 𝕄 :=
  iprop((bigSep Finset.univ fun p : Dev nD × CK => cellInv ER (Rd I) (K p) (kcell p))
    ∗ (bigSep Finset.univ fun p : Dev nD × CK => reached ER (kcell p) 0) ∗ levAts Lix lv)

instance records_persistent : BI.Persistent (records I K) := by unfold records; infer_instance

/-- One summand of a chain over a finite type. -/
theorem elim_one {α : Type} [Fintype α] [DecidableEq α] (i : α) {Φ : α → sProp 𝕄} : (bigSep Finset.univ Φ : sProp 𝕄) ⊢ Φ i :=
  BI.bigSep_elim (Finset.mem_univ i)

/-- One cell's invariant. -/
theorem rec_inv (p : Dev nD × CK) : records I K ⊢ cellInv ER (Rd I) (K p) (kcell p) := by
  unfold records
  iintro ⟨H, -, -⟩
  iapply (elim_one p) $$ H
/-- One cell's round. -/
theorem rec_reached (p : Dev nD × CK) : records I K ⊢ reached ER (kcell p) 0 := by
  unfold records
  iintro ⟨-, H, -⟩
  iapply (elim_one p) $$ H
/-- The levels. -/
theorem rec_lev : records I K ⊢ levAts Lix lv := by
  unfold records
  iintro ⟨-, -, H⟩
  iexact H

/-! ### Tokens -/

/-- What starting link `l` takes besides its source. -/
def sTok (c : Dev nD) (l : Lk) : sProp 𝕄 :=
  iprop(land (dest l.dir c) l ∗ dutyTok ER (sndCell c l) 0 0 ∗ dutyTok ER (rcvCell (dest l.dir c) l) 0 0 ∗ atPos ER (sndCell c l) 0 ∅ 0)
/-- The right to wait for link `l` on the sending (`false`) or receiving (`true`) side. -/
def cTok (c : Dev nD) (l : Lk) (b : Bool) : sProp 𝕄 :=
  iprop(cred (tallyAt (kcell (c, some (l, b))) () (credit l)) ∗ atPos ER (kcell (c, some (l, b))) 0 ∅ 0)
/-- A link's semaphore put back at zero. -/
abbrev zTok (c : Dev nD) (l : Lk) (b : Bool) : sProp 𝕄 := semVal (kcell (c, some (l, b))) 0

/-- The links still to be started, in order: what is owed, and what starting them takes. -/
def Snd (c : Dev nD) (L : List Lk) : sProp 𝕄 :=
  iprop((∃ W, owes (c : Thread nD τ) (oweL c L) W) ∗ bigSepL L (sTok c))

/-! ### Links -/

/-- Starting a link. -/
theorem wp_link (c : Dev nD) (l : Lk) (L : List Lk) {sp sp' : Space} {s : Shape} {e : EltTy} (src : Memref sig .tc sp s e)
    (dst : Memref sig .tc sp' s e) {hsc : dst.view.ref.isScScratch = false} {hsrc : src.view.WordExact} {hdst : dst.view.WordExact}
    {hsem : DmaTarget.Typed sp (.dma (l.sem true)) (.remote (Dev.tc (dest l.dir c)) dst (.dma (l.sem false)) hsc)}
    {q : PosShare TreeShare} {fs : Buf (Elt F) (src.view.loc (c : Thread nD τ))}
    (hN : dst.view.amount (.dma (l.sem true)) = credit l)
    (hS : sent I c l = (src.view.loc (c : Thread nD τ) ↦[src.view.set]{q} fs))
    (hL : land (dest l.dir c) l = iprop(∃ fd : Buf (Elt F) (dst.view.loc ((dest l.dir c : Dev nD) : Thread nD τ)),
      dst.view.loc ((dest l.dir c : Dev nD) : Thread nD τ) ↦[dst.view.set]{fullShare} fd))
    (hD : ∀ fd : Buf (Elt F) (dst.view.loc ((dest l.dir c : Dev nD) : Thread nD τ)),
      (dst.view.loc ((dest l.dir c : Dev nD) : Thread nD τ) ↦[dst.view.set]{fullShare}
        (dst.view.write (Elt F) fd (src.view.read (Elt F) fs) Finset.univ)) = landed I (dest l.dir c) l)
    (k : PR F) (Q : PUnit → sProp 𝕄) :
    iprop(records I K ∗ Snd c (l :: L) ∗ sent I c l ∗ ((Snd c L ∗ cTok c l false) -∗ WP c k Q))
      ⊢ WP c (.op (.enqueueDma src (.remote (Dev.tc (dest l.dir c)) dst (.dma (l.sem false)) hsc) (.dma (l.sem true)) hsrc hdst hsem) fun _ => k) Q := by
  unfold Snd cTok
  rw [bigSepL_cons', sTok, hL, hS]
  iintro ⟨#HR, ⟨⟨%W, HO⟩, ⟨⟨%fd, Hd⟩, Ht1, Ht2, Hat⟩, HL⟩, Hs, Hk⟩
  ihave #Hi1 := (rec_inv I K (c, some (l, false))) $$ HR
  ihave #Hi2 := (rec_inv I K (dest l.dir c, some (l, true))) $$ HR
  ihave #Hr1 := (rec_reached I K (c, some (l, false))) $$ HR
  ihave #Hr2 := (rec_reached I K (dest l.dir c, some (l, true))) $$ HR
  iapply (Rounds.wp_send_pointsTo 𝒱₀ ER (Rd I) (c : Thread nD τ) none (c' := ((dest l.dir c : Dev nD) : Thread nD τ))
    (κ₁ := K (c, some (l, false))) (κ₂ := K (dest l.dir c, some (l, true)))
    (r₁ := 0) (r₂ := 0) (d₁ := 0) (d₂ := 0) (fd := fd)
    (by erw [duties_cell I c (some (l, false))]; exact Finset.mem_singleton_self _)
    (by erw [duties_cell I (dest l.dir c) (some (l, true))]; exact Finset.mem_singleton_self _)
    () () (credit l) hN (amount_cell I c (some (l, false)) 0) (amount_cell I (dest l.dir c) (some (l, true)) 0)
    (oweL c L) rfl (W := W)
    (Entails.of_eq (hS.symm.trans (payload_cell I c (some (l, false)) 0).symm))
    (Entails.of_eq ((hD fd).trans (payload_cell I (dest l.dir c) (some (l, true)) 0).symm))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO HL]
  · isplitl [HO]; · iexists W; iexact HO
    iexact HL
  isplitl [Hc]; · iexact Hc
  iexact Hat

/-- Waiting for a link, on either side. -/
theorem wp_linkWait (c : Dev nD) (l : Lk) (b : Bool) (L : List Lk) (hlev : ∀ l' ∈ L, lvl (some (some (l, b))) < l'.lev)
    {sp sp' : Space} {s s' : Shape} {e e' : EltTy} (srcw : Memref sig .tc sp' s' e') (dstw : Memref sig .tc sp s e)
    {hsrc : srcw.view.WordExact} {hdst : dstw.view.WordExact} (hN : dstw.view.dmaCredit = credit l)
    (k : PR F) (Q : PUnit → sProp 𝕄) :
    iprop(records I K ∗ Snd c L ∗ cTok c l b
        ∗ ((Snd c L ∗ cellPay I c (some (some (l, b))) 0 ∗ zTok c l b) -∗ WP c k Q))
      ⊢ WP c (.op (.waitDma2 (l.sem b) srcw dstw hsrc hdst) fun _ => k) Q := by
  unfold Snd cTok
  iintro ⟨#HR, ⟨⟨%W, HO⟩, HL⟩, ⟨Hc, Hat⟩, Hk⟩
  ihave #Hi := (rec_inv I K (c, some (l, b))) $$ HR
  ihave #Hlev := (rec_lev I K) $$ HR
  iapply (Rounds.wp_wait_rest_token 𝒱₀ ER (Rd I) (c : Thread nD τ) none (κ := K (c, some (l, b)))
      (wpE_waitDma2_eq 𝒱₀ (c : Thread nD τ) none Set.univ) (Set.mem_univ _) () (O := oweL c L) (W := W) (R := 0) (m := 0) (T := ∅)
      (by rw [Nat.zero_add]; exact hN.trans (expect_link I c l b).symm)) $$ [Hc HO Hat]
  · isplitr; · iexact Hi
    isplitl [Hc]; · rw [hN]; iexact Hc
    isplitl [HO]; · iexact HO
    isplitr
    · iapply (mayWait c (.dma (l.sem b)) L (by rw [show dec (.dma (l.sem b)) = some (some (l, b)) from dec_csem (some (l, b))]; exact hlev))
      iexact Hlev
    iexact Hat
  iintro ⟨HO, Hat, -, Hpay⟩
  ihave Hp := (show bigSep ((Rd I).duties ((c : Thread nD τ), SemLoc.dma (l.sem b)) 0 \ ∅) (fun d => (Rd I).payload ((c : Thread nD τ), SemLoc.dma (l.sem b)) 0 d)
    ⊢ cellPay I c (some (some (l, b))) 0 from Entails.of_eq (rest_link I c l b)) $$ Hpay
  imod (Rounds.cell_close ER (Rd I) (Set.mem_univ (K (c, some (l, b)))) (fun h => h) (R := 0 + 1) (duties_later I (kcell (c, some (l, b))))) $$ [Hat] with Hz
  · isplitr; · iexact Hi
    iexact Hat
  iapply Hk
  isplitl [HO HL]
  · isplitl [HO]; · iexists _; iexact HO
    iexact HL
  isplitl [Hp]; · iexact Hp
  iexact Hz

/-! ### Loads and stores -/

/-- A region whose elements agree with `G` where `T` holds. -/
def Agr (ℓ : Loc nD τ sig) (S : Finset (Idx ℓ)) (T : Idx ℓ → Prop) (G : Buf (Elt F) ℓ) : sProp 𝕄 :=
  iprop(∃ f : Buf (Elt F) ℓ, ⌜∀ i ∈ S, T i → f i = G i⌝ ∗ ℓ ↦[S]{fullShare} f)

/-- A region agrees with anything where nothing is asked. -/
theorem Agr_of {ℓ : Loc nD τ sig} {S : Finset (Idx ℓ)} {T : Idx ℓ → Prop} {G : Buf (Elt F) ℓ} (h : ∀ i ∈ S, ¬ T i) (f : Buf (Elt F) ℓ) :
    (ℓ ↦[S]{fullShare} f : sProp 𝕄) ⊢ Agr ℓ S T G := by
  unfold Agr
  iintro H
  iexists f
  isplitr; · ipureintro; exact fun i hi ht => absurd ht (h i hi)
  iexact H
/-- A region that agrees everywhere holds the contents agreed on. -/
theorem Agr_to {ℓ : Loc nD τ sig} {S : Finset (Idx ℓ)} {T : Idx ℓ → Prop} {G : Buf (Elt F) ℓ} (h : ∀ i ∈ S, T i) :
    Agr ℓ S T G ⊢ (ℓ ↦[S]{fullShare} G : sProp 𝕄) := by
  unfold Agr
  iintro ⟨%f, %hf, H⟩
  rw [← pointsTo_congr (fun i hi => hf i hi (h i hi))]
  iexact H
/-- Agreement may be asked in fewer places. -/
theorem Agr_mono {ℓ : Loc nD τ sig} {S : Finset (Idx ℓ)} {T T' : Idx ℓ → Prop} {G : Buf (Elt F) ℓ} (h : ∀ i ∈ S, T' i → T i) :
    Agr ℓ S T G ⊢ (Agr ℓ S T' G : sProp 𝕄) := by
  unfold Agr
  iintro ⟨%f, %hf, H⟩
  iexists f
  isplitr; · ipureintro; exact fun i hi ht => hf i hi (h i hi ht)
  iexact H

/-- A rectangle of a whole buffer, as a set of elements. -/
theorem acc_set (b : Ref sig .tc) (r : Rect b.ty.shape) : ((Memref.whole b).access r).set = r.set := View.set_slice_whole b r

/-- A dead load and a store of `G`'s values: the agreement grows. -/
theorem wp_ldst (c : Dev nD) {cs : CoreSpace} {s : Shape} {e : EltTy} {m : Memref sig .tc cs s e} {r : Rect s} {w : r.shape.Idx → Elt F e}
    {hl hx hm} {S : Finset (Idx ((m.access r).loc (c : Thread nD τ)))} {G : Buf (Elt F) ((m.access r).loc (c : Thread nD τ))}
    {T T' : Idx ((m.access r).loc (c : Thread nD τ)) → Prop} (hS : (m.access r).set ⊆ S)
    (hw : ∀ f : Buf (Elt F) ((m.access r).loc (c : Thread nD τ)), (∀ i, (i ∈ S ∧ T i) → f i = G i) →
      ∀ i ∈ S, T' i → (m.access r).write (Elt F) f w Finset.univ i = G i) (k : PR F) (Q : PUnit → sProp 𝕄) :
    iprop(Agr ((m.access r).loc (c : Thread nD τ)) S T G ∗ (Agr ((m.access r).loc (c : Thread nD τ)) S T' G -∗ WP c k Q))
      ⊢ WP c (.op (.load m r.toLoadRect hl) fun _ => .op (.store m r w Finset.univ hx hm) fun _ => k) Q := by
  unfold Agr
  iintro ⟨⟨%f, %hf, H⟩, Hk⟩
  iapply (wp_load_rect 𝒱₀ (c : Thread nD τ) none Set.univ (m := m) hS) $$ H; iintro H
  iapply (wp_store 𝒱₀ (c : Thread nD τ) none Set.univ (m := m) (r := r) (Mk := Finset.univ) (by rw [View.setOn_univ]; exact hS)) $$ H; iintro H
  iapply Hk
  iexists _
  isplitr; · ipureintro; exact hw f (fun i hi => hf i hi.1 hi.2)
  iexact H

/-! ### Folds -/

/-- A fold of steps: each step takes its own `pre`, gives its own `post`, and carries `Inv` of the steps left. -/
theorem wp_foldr {α : Type} (c : Dev nD) (Q : PUnit → sProp 𝕄) (step : α → PR F → PR F) (Inv : List α → sProp 𝕄) (pre post : α → sProp 𝕄) :
    ∀ (L : List α) (h : ∀ i M, (i :: M) <:+ L → ∀ k, iprop(Inv (i :: M) ∗ pre i ∗ ((Inv M ∗ post i) -∗ WP c k Q)) ⊢ WP c (step i k) Q) (k : PR F),
    iprop(Inv L ∗ bigSepL L pre ∗ ((Inv [] ∗ bigSepL L post) -∗ WP c k Q)) ⊢ WP c (L.foldr step k) Q
  | [], _, k => by
    rw [bigSepL_nil, bigSepL_nil]
    iintro ⟨HI, -, Hk⟩
    iapply Hk
    isplitl [HI]; · iexact HI
    iempintro
  | i :: M, h, k => by
    rw [bigSepL_cons', bigSepL_cons', List.foldr_cons]
    iintro ⟨HI, ⟨Hp, HL⟩, Hk⟩
    iapply (h i M (List.suffix_refl _) _)
    isplitl [HI]; · iexact HI
    isplitl [Hp]; · iexact Hp
    iintro ⟨HI, Hq⟩
    iapply (wp_foldr c Q step Inv pre post M (fun i' M' hs k => h i' M' (hs.trans (List.suffix_cons i M)) k) k)
    isplitl [HI]; · iexact HI
    isplitl [HL]; · iexact HL
    iintro ⟨HI, HL⟩
    iapply Hk
    isplitl [HI]; · iexact HI
    isplitl [Hq]; · iexact Hq
    iexact HL

/-- A list of lists is a chain of chains. -/
theorem bigSepL_flatMap {α β : Type} (g : α → List β) (Φ : β → sProp 𝕄) :
    ∀ L : List α, bigSepL (L.flatMap g) Φ = bigSepL L fun i => bigSepL (g i) Φ
  | [] => rfl
  | i :: L => by rw [List.flatMap_cons, bigSepL_append, bigSepL_flatMap g Φ L, bigSepL_cons']

end Cert.Proof

end

end
-- ==== Proof.Links.lean ====
/-
  The links one by one: starting each kind of link, and waiting for it on either side.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### Sets of elements named differently -/

/-- Elements held under one name of a set are held under another; -/
theorem pts_set {ℓ : Loc nD τ sig} {S S' : Finset (Idx ℓ)} {q : PosShare TreeShare} {f : Buf (Elt F) ℓ} (h : S = S') :
    (ℓ ↦[S]{q} f : sProp 𝕄) = ℓ ↦[S']{q} f := by rw [h]
/-- also when what they hold is not known. -/
theorem ex_set {ℓ : Loc nD τ sig} {S S' : Finset (Idx ℓ)} {q : PosShare TreeShare} (h : S = S') :
    (iprop(∃ f : Buf (Elt F) ℓ, ℓ ↦[S]{q} f) : sProp 𝕄) = iprop(∃ f : Buf (Elt F) ℓ, ℓ ↦[S']{q} f) := by rw [h]

/-! ### Starting a link -/

/-- The queries of hop `j`. -/
theorem wp_sendQ (c : Dev nD) (d : Fin 2) (j : Fin 7) (L : List Lk) (k : PR F) (Q : PUnit → sProp 𝕄) :
    iprop(records I K ∗ Snd c (.q d j :: L) ∗ sent I c (.q d j) ∗ ((Snd c L ∗ cTok c (.q d j) false) -∗ WP c k Q))
      ⊢ WP c (sendQ c d j k) Q :=
  wp_link I K c (.q d j) L (qS d j.castSucc) (qS d j.succ) rfl
    (pts_set (set_squeeze (b := cc0_scratch0) (rQs d j.castSucc) (fun _ => rfl) _ squeezes_S1x1x4x4x64x128_S4x4x64x128).symm)
    (ex_set (set_squeeze (b := cc0_scratch0) (rQs d j.succ) (fun _ => rfl) _ squeezes_S1x1x4x4x64x128_S4x4x64x128).symm)
    (fun fd => (pts_set (set_squeeze (b := cc0_scratch0) (rQs d j.succ) (fun _ => rfl) _ squeezes_S1x1x4x4x64x128_S4x4x64x128)).trans
      (pointsTo_congr fun i hi => transfer ((View.whole cc0_scratch0).slice (rQs d j.castSucc)) ((View.whole cc0_scratch0).slice (rQs d j.succ)) _ (Qb I c) fd
        (Qb I (dest d c)) (fun z => Qb_next I c d j z) i ((Finset.ext_iff.mp (View.set_slice_whole _ _) i).mpr hi))) k Q
/-- A tile's numerators. -/
theorem wp_sendA (c : Dev nD) (d : Fin 2) (j : Fin 7) (t : Fin 4) (L : List Lk) (k : PR F) (Q : PUnit → sProp 𝕄) :
    iprop(records I K ∗ Snd c (.a d j t :: L) ∗ sent I c (.a d j t) ∗ ((Snd c L ∗ cTok c (.a d j t) false) -∗ WP c k Q))
      ⊢ WP c (sendA c d j t k) Q :=
  wp_link I K c (.a d j t) L (accS d j.castSucc t) (accS d j.succ t) rfl
    (pts_set (set_squeeze (b := cc0_scratch1) (rQt d j.castSucc t) (fun _ => rfl) _ squeezes_S1x1x1x4x64x128_S4x64x128).symm)
    (ex_set (set_squeeze (b := cc0_scratch1) (rQt d j.succ t) (fun _ => rfl) _ squeezes_S1x1x1x4x64x128_S4x64x128).symm)
    (fun fd => (pts_set (set_squeeze (b := cc0_scratch1) (rQt d j.succ t) (fun _ => rfl) _ squeezes_S1x1x1x4x64x128_S4x64x128)).trans
      (pointsTo_congr fun i hi => transfer ((View.whole cc0_scratch1).slice (rQt d j.castSucc t)) ((View.whole cc0_scratch1).slice (rQt d j.succ t)) _ (AccOut I c) fd
        (AccIn I (dest d c)) (fun z => Acc_next I c d j t z) i ((Finset.ext_iff.mp (View.set_slice_whole _ _) i).mpr hi))) k Q
/-- A tile's maxima and denominators. -/
theorem wp_sendM (c : Dev nD) (d : Fin 2) (j : Fin 7) (t : Fin 4) (L : List Lk) (k : PR F) (Q : PUnit → sProp 𝕄) :
    iprop(records I K ∗ Snd c (.m d j t :: L) ∗ sent I c (.m d j t) ∗ ((Snd c L ∗ cTok c (.m d j t) false) -∗ WP c k Q))
      ⊢ WP c (sendM c d j t k) Q :=
  wp_link I K c (.m d j t) L (mlS d j.castSucc t) (mlS d j.succ t) rfl
    (pts_set (set_squeeze (b := cc0_scratch2) (rMt d j.castSucc t) (fun _ => rfl) _ squeezes_S1x1x1x2x4x64_S2x4x64).symm)
    (ex_set (set_squeeze (b := cc0_scratch2) (rMt d j.succ t) (fun _ => rfl) _ squeezes_S1x1x1x2x4x64_S2x4x64).symm)
    (fun fd => (pts_set (set_squeeze (b := cc0_scratch2) (rMt d j.succ t) (fun _ => rfl) _ squeezes_S1x1x1x2x4x64_S2x4x64)).trans
      (pointsTo_congr fun i hi => transfer ((View.whole cc0_scratch2).slice (rMt d j.castSucc t)) ((View.whole cc0_scratch2).slice (rMt d j.succ t)) _ (MlOut I c) fd
        (MlIn I (dest d c)) (fun z => Ml_next I c d j t z) i ((Finset.ext_iff.mp (View.set_slice_whole _ _) i).mpr hi))) k Q
/-- The finished contexts. -/
theorem wp_sendC (c : Dev nD) (d : Fin 2) (L : List Lk) (k : PR F) (Q : PUnit → sProp 𝕄) :
    iprop(records I K ∗ Snd c (.x d :: L) ∗ sent I c (.x d) ∗ ((Snd c L ∗ cTok c (.x d) false) -∗ WP c k Q))
      ⊢ WP c (sendC c d k) Q :=
  wp_link I K c (.x d) L (csS d) (crS d) rfl
    (pts_set (set_squeeze (b := cc0_scratch5) (rC d) (fun _ => rfl) _ squeezes_S1x4x4x64x128_S4x4x64x128).symm)
    (ex_set (set_squeeze (b := cc0_scratch6) (rC d) (fun _ => rfl) _ squeezes_S1x4x4x64x128_S4x4x64x128).symm)
    (fun fd => (pts_set (set_squeeze (b := cc0_scratch6) (rC d) (fun _ => rfl) _ squeezes_S1x4x4x64x128_S4x4x64x128)).trans
      (pointsTo_congr fun i hi => transfer ((View.whole cc0_scratch5).slice (rC d)) ((View.whole cc0_scratch6).slice (rC d)) _ (Cs I c) fd
        (Cr I (dest d c)) (fun z => C_next I c d z) i ((Finset.ext_iff.mp (View.set_slice_whole _ _) i).mpr hi))) k Q

/-! ### Waiting for a link -/

/-- The queries of hop `j` have arrived. -/
theorem wp_waitQr (c : Dev nD) (d : Fin 2) (j : Fin 7) (L : List Lk) (hlev : ∀ l' ∈ L, j.val + 2 < l'.lev) (k : PR F) (Q : PUnit → sProp 𝕄) :
    iprop(records I K ∗ Snd c L ∗ cTok c (.q d j) true ∗ ((Snd c L ∗ landed I c (.q d j) ∗ zTok c (.q d j) true) -∗ WP c k Q))
      ⊢ WP c (waitQr d j k) Q :=
  wp_linkWait I K c (.q d j) true L hlev (qS d j.castSucc) (qS d j.succ) rfl k Q
/-- A tile's numerators have arrived. -/
theorem wp_waitAr (c : Dev nD) (d : Fin 2) (j : Fin 7) (t : Fin 4) (L : List Lk) (hlev : ∀ l' ∈ L, j.val + 2 < l'.lev) (k : PR F) (Q : PUnit → sProp 𝕄) :
    iprop(records I K ∗ Snd c L ∗ cTok c (.a d j t) true ∗ ((Snd c L ∗ landed I c (.a d j t) ∗ zTok c (.a d j t) true) -∗ WP c k Q))
      ⊢ WP c (waitAr d j t k) Q :=
  wp_linkWait I K c (.a d j t) true L hlev (accS d j.castSucc t) (accS d j.succ t) rfl k Q
/-- A tile's maxima and denominators have arrived. -/
theorem wp_waitMr (c : Dev nD) (d : Fin 2) (j : Fin 7) (t : Fin 4) (L : List Lk) (hlev : ∀ l' ∈ L, j.val + 2 < l'.lev) (k : PR F) (Q : PUnit → sProp 𝕄) :
    iprop(records I K ∗ Snd c L ∗ cTok c (.m d j t) true ∗ ((Snd c L ∗ landed I c (.m d j t) ∗ zTok c (.m d j t) true) -∗ WP c k Q))
      ⊢ WP c (waitMr d j t k) Q :=
  wp_linkWait I K c (.m d j t) true L hlev (mlS d j.castSucc t) (mlS d j.succ t) rfl k Q
/-- The finished contexts have arrived. -/
theorem wp_waitCr (c : Dev nD) (d : Fin 2) (L : List Lk) (hlev : ∀ l' ∈ L, 9 < l'.lev) (k : PR F) (Q : PUnit → sProp 𝕄) :
    iprop(records I K ∗ Snd c L ∗ cTok c (.x d) true ∗ ((Snd c L ∗ landed I c (.x d) ∗ zTok c (.x d) true) -∗ WP c k Q))
      ⊢ WP c (waitCr d k) Q :=
  wp_linkWait I K c (.x d) true L hlev (csS d) (crS d) rfl k Q
/-- The queries sent at hop `j` have left, and their source comes back. -/
theorem wp_waitQs (c : Dev nD) (d : Fin 2) (j : Fin 7) (k : PR F) (Q : PUnit → sProp 𝕄) :
    iprop(records I K ∗ Snd c [] ∗ cTok c (.q d j) false ∗ ((Snd c [] ∗ sent I c (.q d j) ∗ zTok c (.q d j) false) -∗ WP c k Q))
      ⊢ WP c (waitQs d j k) Q :=
  wp_linkWait I K c (.q d j) false [] (fun _ h => absurd h List.not_mem_nil) (qS d j.succ) (qS d j.castSucc) rfl k Q
/-- A tile's numerators have left. -/
theorem wp_waitAs (c : Dev nD) (d : Fin 2) (j : Fin 7) (t : Fin 4) (k : PR F) (Q : PUnit → sProp 𝕄) :
    iprop(records I K ∗ Snd c [] ∗ cTok c (.a d j t) false ∗ ((Snd c [] ∗ sent I c (.a d j t) ∗ zTok c (.a d j t) false) -∗ WP c k Q))
      ⊢ WP c (waitAs d j t k) Q :=
  wp_linkWait I K c (.a d j t) false [] (fun _ h => absurd h List.not_mem_nil) (accS d j.succ t) (accS d j.castSucc t) rfl k Q
/-- A tile's maxima and denominators have left. -/
theorem wp_waitMs (c : Dev nD) (d : Fin 2) (j : Fin 7) (t : Fin 4) (k : PR F) (Q : PUnit → sProp 𝕄) :
    iprop(records I K ∗ Snd c [] ∗ cTok c (.m d j t) false ∗ ((Snd c [] ∗ sent I c (.m d j t) ∗ zTok c (.m d j t) false) -∗ WP c k Q))
      ⊢ WP c (waitMs d j t k) Q :=
  wp_linkWait I K c (.m d j t) false [] (fun _ h => absurd h List.not_mem_nil) (mlS d j.succ t) (mlS d j.castSucc t) rfl k Q
/-- The finished contexts have left. -/
theorem wp_waitCs (c : Dev nD) (d : Fin 2) (k : PR F) (Q : PUnit → sProp 𝕄) :
    iprop(records I K ∗ Snd c [] ∗ cTok c (.x d) false ∗ ((Snd c [] ∗ sent I c (.x d) ∗ zTok c (.x d) false) -∗ WP c k Q))
      ⊢ WP c (waitCs d k) Q :=
  wp_linkWait I K c (.x d) false [] (fun _ h => absurd h List.not_mem_nil) (crS d) (csS d) rfl k Q

end Cert.Proof

end

end
-- ==== Proof.Compute.lean ====
/-
  The steps that compute: the stores of the queries, keys and values, one tile's attention, the quotient, the output.
-/
module

public import proofs.«01_k».proof.Proof.Links

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### Whole buffers -/

abbrev krP (c : Dev nD) (f : Buf (Elt F) ((c : Thread nD τ).loc cc0_scratch3)) : sProp 𝕄 := ((c : Thread nD τ).loc cc0_scratch3) ↦{fullShare} f
abbrev vrP (c : Dev nD) (f : Buf (Elt F) ((c : Thread nD τ).loc cc0_scratch4)) : sProp 𝕄 := ((c : Thread nD τ).loc cc0_scratch4) ↦{fullShare} f
abbrev woP (c : Dev nD) : sProp 𝕄 := ((c : Thread nD τ).loc cc0_stg2_0) ↦{fullShare} (I.wo c : Buf (Elt F) ((c : Thread nD τ).loc cc0_stg2_0))

/-! ### One tile -/

/-- A tile's maxima and denominators stored. -/
theorem wp_storeM2 (c : Dev nD) (d : Fin 2) (s : Fin 8) (t : Fin 4) (f G : Buf (Elt F) ((c : Thread nD τ).loc cc0_scratch2))
    (v w : FVec F S1x1x1x1x4x64 .f32) (hv : ∀ y : S1x1x1x1x4x64.Idx, v y = G ((rMi d s t 0).emb y))
    (hw : ∀ y : S1x1x1x1x4x64.Idx, w y = G ((rMi d s t 1).emb y)) (k : PR F) (Q : PUnit → sProp 𝕄) :
    iprop(mP c d s t f ∗ (mP c d s t G -∗ WP c k Q)) ⊢ WP c (storeM d s t 0 v (storeM d s t 1 w k)) Q := by
  have hsub : ∀ i : Fin 2, (mlM.access (rMi d s t i)).set ⊆ (rMt d s t).set := fun i x hx => by
    have h := mem_rMi.mp ((Finset.ext_iff.mp (acc_set cc0_scratch2 (rMi d s t i)) x).mp hx)
    exact mem_rMt.mpr ⟨h.1, h.2.1, h.2.2.1⟩
  iintro ⟨H, Hk⟩
  ihave H := (Agr_of (T := fun _ => False) (G := G) (fun _ _ h => h) f) $$ H
  unfold storeM
  iapply (wp_ldst (m := mlM) (r := rMi d s t 0) (T := fun _ => False) (T' := fun i => i ∈ (rMi d s t 0).set ∨ False) (G := G) c (hsub 0)
    (fun f hf i hi ht => write_rect_grow (b := cc0_scratch2) (rMi d s t 0) f G v hv (fun _ => False) (fun _ h => h.elim) i ht))
  isplitl [H]; · iexact H
  iintro H
  iapply (wp_ldst (m := mlM) (r := rMi d s t 1) (T := fun i => i ∈ (rMi d s t 0).set ∨ False) (T' := fun i => i ∈ (rMi d s t 1).set ∨ (i ∈ (rMt d s t).set ∧ (i ∈ (rMi d s t 0).set ∨ False))) (G := G) c (hsub 1)
    (fun f hf i hi ht => write_rect_grow (b := cc0_scratch2) (rMi d s t 1) f G w hw (fun i => i ∈ (rMt d s t).set ∧ (i ∈ (rMi d s t 0).set ∨ False)) (fun i h => hf i h) i ht))
  isplitl [H]; · iexact H
  iintro H
  iapply Hk
  iapply (Agr_to (fun i hi => by
    have h := mem_rMt.mp hi
    have h3 : (i 3).val < 2 := (i 3).isLt
    rcases (by omega : (i 3).val = 0 ∨ (i 3).val = 1) with h0 | h0
    · exact Or.inr ⟨hi, Or.inl (mem_rMi.mpr ⟨h.1, h.2.1, h.2.2, h0⟩)⟩
    · exact Or.inl (mem_rMi.mpr ⟨h.1, h.2.1, h.2.2, h0⟩))) $$ H

/-- A slot's running values after the device's own attention. -/
theorem stOut_eq (c : Dev nD) (d : Fin 2) (s : Fin 8) (t : Fin 4) :
    stOut I s.val c d t = attT (qT I c d s t) (kT (I.k c) d t) (kT (I.v c) d t) (stIn I s.val c d t) := by
  have h : Fin.ofNat 8 s.val = s := Fin.ext (Nat.mod_eq_of_lt s.isLt)
  unfold stOut; rw [h]

/-- One tile's attention. -/
theorem wp_attend (c : Dev nD) (d : Fin 2) (s : Fin 8) (t : Fin 4) (q : PosShare TreeShare) (k : PR F) (Q : PUnit → sProp 𝕄) :
    iprop((qP c d s q (Qb I c) ∗ krP c (Kb (I.k c)) ∗ vrP c (Kb (I.v c))) ∗ (aP c d s t (AccIn I c) ∗ mP c d s t (MlIn I c))
        ∗ (((qP c d s q (Qb I c) ∗ krP c (Kb (I.k c)) ∗ vrP c (Kb (I.v c))) ∗ (aP c d s t (AccOut I c) ∗ mP c d s t (MlOut I c))) -∗ WP c k Q))
      ⊢ WP c (attend d s t k) Q := by
  have hsubQ : (qM.access (rQt d s t)).set ⊆ (rQs d s).set := fun x hx => by
    have h := mem_rQt.mp ((Finset.ext_iff.mp (acc_set cc0_scratch0 (rQt d s t)) x).mp hx)
    exact mem_rQs.mpr ⟨h.1, h.2.1⟩
  have hsubM : ∀ i : Fin 2, (mlM.access (rMi d s t i)).set ⊆ (rMt d s t).set := fun i x hx => by
    have h := mem_rMi.mp ((Finset.ext_iff.mp (acc_set cc0_scratch2 (rMi d s t i)) x).mp hx)
    exact mem_rMt.mpr ⟨h.1, h.2.1, h.2.2.1⟩
  have hsubA : (accM.access (rQt d s t)).set ⊆ (rQt d s t).set := fun x hx => (Finset.ext_iff.mp (acc_set cc0_scratch1 (rQt d s t)) x).mp hx
  iintro ⟨⟨Hq, Hkr, Hvr⟩, ⟨Ha, Hm⟩, Hk⟩
  unfold attend
  iapply (wp_load_rect 𝒱₀ (c : Thread nD τ) none Set.univ (m := qM) hsubQ) $$ Hq; iintro Hq
  iapply (wp_load_rect 𝒱₀ (c : Thread nD τ) none Set.univ (m := krM) (r := rK4 t d) (Finset.subset_univ _)) $$ Hkr; iintro Hkr
  iapply (wp_load_rect 𝒱₀ (c : Thread nD τ) none Set.univ (m := mlM) (hsubM 0)) $$ Hm; iintro Hm
  iapply (wp_load_rect 𝒱₀ (c : Thread nD τ) none Set.univ (m := mlM) (hsubM 1)) $$ Hm; iintro Hm
  iapply (wp_load_rect 𝒱₀ (c : Thread nD τ) none Set.univ (m := vrM) (r := rK4 t d) (Finset.subset_univ _)) $$ Hvr; iintro Hvr
  iapply (wp_load_rect 𝒱₀ (c : Thread nD τ) none Set.univ (m := accM) hsubA) $$ Ha; iintro Ha
  rw [show (qM.access (rQt d s t)).read (Elt F) (Qb I c) = qT I c d s t from load_q I c d s t,
    show (krM.access (rK4 t d)).read (Elt F) (Kb (I.k c)) = kT (I.k c) d t from load_k (I.k c) d t,
    show (vrM.access (rK4 t d)).read (Elt F) (Kb (I.v c)) = kT (I.v c) d t from load_v (I.v c) d t,
    show (mlM.access (rMi d s t 0)).read (Elt F) (MlIn I c) = (stIn I s.val c d t).m from load_m I c d s t,
    show (mlM.access (rMi d s t 1)).read (Elt F) (MlIn I c) = (stIn I s.val c d t).l from load_l I c d s t,
    show (accM.access (rQt d s t)).read (Elt F) (AccIn I c) = (stIn I s.val c d t).a from load_a I c d s t]
  ihave Ha := (Agr_of (T := fun _ => False) (G := AccOut I c) (fun _ _ h => h) (AccIn I c)) $$ Ha
  iapply (wp_ldst (m := accM) (r := rQt d s t) (T := fun _ => False) (T' := fun i => i ∈ (rQt d s t).set ∨ False) (G := AccOut I c) c hsubA
    (fun f hf i hi ht => write_rect_grow (b := cc0_scratch1) (rQt d s t) f (AccOut I c) _ (fun y => by rw [← store_a I c d s t y, stOut_eq]; rfl) (fun _ => False) (fun _ h => h.elim) i ht))
  isplitl [Ha]; · iexact Ha
  iintro Ha
  ihave Ha := (Agr_to (fun i hi => Or.inl hi)) $$ Ha
  iapply (wp_storeM2 c d s t (MlIn I c) (MlOut I c) _ _ (fun y => by rw [← store_m I c d s t y, stOut_eq]; rfl)
    (fun y => by rw [← store_l I c d s t y, stOut_eq]; rfl) k Q)
  isplitl [Hm]; · iexact Hm
  iintro Hm
  iapply Hk
  isplitl [Hq Hkr Hvr]
  · isplitl [Hq]; · iexact Hq
    isplitl [Hkr]; · iexact Hkr
    iexact Hvr
  isplitl [Ha]; · iexact Ha
  iexact Hm

end Cert.Proof

end

end
-- ==== Proof.Phases.lean ====
/-
  The phases without a hop: the queries stored and sent, the running values started, the quotients sent home, the output
  projected.
-/
module

public import proofs.«01_k».proof.Proof.Compute

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-- A fold of steps that only carries `Inv`. -/
theorem wp_foldr0 {α : Type} (c : Dev nD) (Q : PUnit → sProp 𝕄) (step : α → PR F → PR F) (Inv : List α → sProp 𝕄)
    (h : ∀ i M, ∀ k, iprop(Inv (i :: M) ∗ (Inv M -∗ WP c k Q)) ⊢ WP c (step i k) Q) :
    ∀ (L : List α) (k : PR F), iprop(Inv L ∗ (Inv [] -∗ WP c k Q)) ⊢ WP c (L.foldr step k) Q
  | [], k => by
    iintro ⟨HI, Hk⟩
    iapply Hk
    iexact HI
  | i :: M, k => by
    rw [List.foldr_cons]
    iintro ⟨HI, Hk⟩
    iapply (h i M _)
    isplitl [HI]; · iexact HI
    iintro HI
    iapply (wp_foldr0 c Q step Inv h M k)
    isplitl [HI]; · iexact HI
    iexact Hk

/-! ### Slots and their tiles -/

/-- A slot of the queries or numerators consists of its four tiles, -/
theorem rQs_tiles (d : Fin 2) (s : Fin 8) (i : S2x8x4x4x64x128.Idx) : i ∈ (rQs d s).set ↔ ∃ t : Fin 4, i ∈ (rQt d s t).set := by
  constructor
  · intro h
    have h := mem_rQs.mp h
    exact ⟨(i 2 : Fin 4), mem_rQt.mpr ⟨h.1, h.2, rfl⟩⟩
  · rintro ⟨t, h⟩
    have h := mem_rQt.mp h
    exact mem_rQs.mpr ⟨h.1, h.2.1⟩
/-- which do not overlap. -/
theorem rQt_disj (d : Fin 2) (s : Fin 8) (t t' : Fin 4) (hne : t ≠ t') : Disjoint (rQt d s t).set (rQt d s t').set :=
  Finset.disjoint_left.mpr fun i h h' => hne (Fin.ext ((mem_rQt.mp h).2.2.symm.trans (mem_rQt.mp h').2.2))
/-- A slot of the maxima and denominators consists of its four tiles, -/
theorem rMs_tiles (d : Fin 2) (s : Fin 8) (i : S2x8x4x2x4x64.Idx) : i ∈ (rMs d s).set ↔ ∃ t : Fin 4, i ∈ (rMt d s t).set := by
  constructor
  · intro h
    have h := mem_rMs.mp h
    exact ⟨(i 2 : Fin 4), mem_rMt.mpr ⟨h.1, h.2, rfl⟩⟩
  · rintro ⟨t, h⟩
    have h := mem_rMt.mp h
    exact mem_rMs.mpr ⟨h.1, h.2.1⟩
/-- which do not overlap. -/
theorem rMt_disj (d : Fin 2) (s : Fin 8) (t t' : Fin 4) (hne : t ≠ t') : Disjoint (rMt d s t).set (rMt d s t').set :=
  Finset.disjoint_left.mpr fun i h h' => hne (Fin.ext ((mem_rMt.mp h).2.2.symm.trans (mem_rMt.mp h').2.2))

/-- Elements held as a family of disjoint sets. -/
theorem pts_family {T : Type} [Fintype T] {ℓ : Loc nD τ sig} (S : Finset (Idx ℓ)) (Z : T → Finset (Idx ℓ)) (q : PosShare TreeShare) (f : Buf (Elt F) ℓ)
    (hS : ∀ i, i ∈ S ↔ ∃ t, i ∈ Z t) (hd : ∀ t t', t ≠ t' → Disjoint (Z t) (Z t')) :
    (ℓ ↦[S]{q} f : sProp 𝕄) = bigSep Finset.univ fun t => ℓ ↦[Z t]{q} f :=
  (pts_set (Finset.ext fun i => (hS i).trans (by simp only [Finset.mem_biUnion, Finset.mem_univ, true_and]))).trans
    (pointsTo_biUnion Finset.univ Z fun t _ t' _ => hd t t')

/-- A slot of the numerators, tile by tile. -/
theorem acc_tiles (c : Dev nD) (d : Fin 2) (s : Fin 8) (f : Buf (Elt F) ((c : Thread nD τ).loc cc0_scratch1)) :
    (((c : Thread nD τ).loc cc0_scratch1) ↦[(rQs d s).set]{fullShare} f : sProp 𝕄) = bigSepL tiles fun t => aP c d s t f := by
  rw [← bigSep_univ_eq_bigSepL tiles (by decide) (by decide)]
  exact pts_family (ℓ := (c : Thread nD τ).loc cc0_scratch1) (rQs d s).set (fun t : Fin 4 => (rQt d s t).set) fullShare f (rQs_tiles d s) (rQt_disj d s)

/-- A slot of the maxima and denominators, tile by tile. -/
theorem ml_tiles (c : Dev nD) (d : Fin 2) (s : Fin 8) (f : Buf (Elt F) ((c : Thread nD τ).loc cc0_scratch2)) :
    (((c : Thread nD τ).loc cc0_scratch2) ↦[(rMs d s).set]{fullShare} f : sProp 𝕄) = bigSepL tiles fun t => mP c d s t f := by
  rw [← bigSep_univ_eq_bigSepL tiles (by decide) (by decide)]
  exact pts_family (ℓ := (c : Thread nD τ).loc cc0_scratch2) (rMs d s).set (fun t : Fin 4 => (rMt d s t).set) fullShare f (rMs_tiles d s) (rMt_disj d s)

/-! ### The queries -/

/-- One direction's queries still to be stored. -/
def TQ (d : Fin 2) (M : List (Fin 4 × Fin 4)) (i : S2x8x4x4x64x128.Idx) : Prop := ∀ p ∈ M, i ∉ (rQ1 d 0 p.1 p.2).set

/-- Before the first store no element of the slot counts as stored. -/
theorem TQ_all (d : Fin 2) (i : S2x8x4x4x64x128.Idx) (hi : i ∈ (rQs d 0).set) : ¬ TQ d ths i := fun h => by
  have hs := mem_rQs.mp hi
  have hall : ∀ (t hl : Fin 4), (t, hl) ∈ ths := by decide
  exact h ((i 2 : Fin 4), (i 3 : Fin 4)) (hall _ _) (mem_rQ1.mpr ⟨hs.1, hs.2, rfl, rfl⟩)
/-- An element is stored with the tile at hand or was stored before it. -/
theorem TQ_cons (d : Fin 2) (p : Fin 4 × Fin 4) (M : List (Fin 4 × Fin 4)) (i : S2x8x4x4x64x128.Idx) (h : TQ d M i) :
    i ∈ (rQ1 d 0 p.1 p.2).set ∨ TQ d (p :: M) i := by
  by_cases hr : i ∈ (rQ1 d 0 p.1 p.2).set
  · exact Or.inl hr
  · exact Or.inr (List.forall_mem_cons.mpr ⟨hr, h⟩)

/-- One store of a tile of the queries. -/
theorem wp_storeQ (c : Dev nD) (d : Fin 2) (p : Fin 4 × Fin 4) (M : List (Fin 4 × Fin 4)) (k : PR F) (Q : PUnit → sProp 𝕄) :
    iprop(Agr ((c : Thread nD τ).loc cc0_scratch0) (rQs d 0).set (TQ d (p :: M)) (Qb I c)
        ∗ (Agr ((c : Thread nD τ).loc cc0_scratch0) (rQs d 0).set (TQ d M) (Qb I c) -∗ WP c k Q))
      ⊢ WP c (storeQ (qVal (I.x c) (I.wq c)) d p.1 p.2 k) Q :=
  wp_ldst (m := qM) (r := rQ1 d 0 p.1 p.2) (S := (rQs d 0).set) (G := Qb I c) (T := TQ d (p :: M)) (T' := TQ d M) c (fun x hx => by
      have h := mem_rQ1.mp ((Finset.ext_iff.mp (acc_set cc0_scratch0 (rQ1 d 0 p.1 p.2)) x).mp hx)
      exact mem_rQs.mpr ⟨h.1, h.2.1⟩)
    (fun f hf i hi ht => write_rect_grow (b := cc0_scratch0) (rQ1 d 0 p.1 p.2) f (Qb I c) _ (fun y => store_q I c d p.1 p.2 y)
      (fun i => i ∈ (rQs d 0).set ∧ TQ d (p :: M) i) (fun i h => hf i h) i ((TQ_cons d p M i ht).imp id (fun h => ⟨hi, h⟩))) k Q

/-- One direction's queries stored. -/
theorem wp_storesQ (c : Dev nD) (d : Fin 2) (f : Buf (Elt F) ((c : Thread nD τ).loc cc0_scratch0)) (k : PR F) (Q : PUnit → sProp 𝕄) :
    iprop(qP c d 0 fullShare f ∗ (qP c d 0 fullShare (Qb I c) -∗ WP c k Q))
      ⊢ WP c (ths.foldr (fun p k => storeQ (qVal (I.x c) (I.wq c)) d p.1 p.2 k) k) Q := by
  iintro ⟨H, Hk⟩
  ihave H := (Agr_of (ℓ := (c : Thread nD τ).loc cc0_scratch0) (T := TQ d ths) (G := Qb I c) (TQ_all d) f) $$ H
  iapply (wp_foldr0 c Q (fun p k => storeQ (qVal (I.x c) (I.wq c)) d p.1 p.2 k)
    (fun M => Agr ((c : Thread nD τ).loc cc0_scratch0) (rQs d 0).set (TQ d M) (Qb I c))
    (fun p M k => by beta_reduce; exact wp_storeQ I c d p M k Q) ths k)
  isplitl [H]; · iexact H
  iintro H
  iapply Hk
  iapply (Agr_to (ℓ := (c : Thread nD τ).loc cc0_scratch0) (fun i hi p hp => absurd hp List.not_mem_nil)) $$ H

/-- The queries stored and the first hop's queries on their way. -/
theorem wp_phaseQ (c : Dev nD) (R : List Lk) (k : PR F) (Q : PUnit → sProp 𝕄) :
    iprop((records I K ∗ Snd c (dirs.map (fun d => Lk.q d 0) ++ R)) ∗ bigSepL dirs (fun d => iprop(∃ f, qP c d 0 fullShare f))
        ∗ (((records I K ∗ Snd c R) ∗ bigSepL dirs (fun d => iprop(qP c d 0 hR (Qb I c) ∗ cTok c (.q d 0) false))) -∗ WP c k Q))
      ⊢ WP c (phaseQ c (qVal (I.x c) (I.wq c)) k) Q := by
  unfold phaseQ
  refine wp_foldr c Q _ (fun M => iprop(records I K ∗ Snd c (M.map (fun d => Lk.q d 0) ++ R))) _
    (fun d => iprop(qP c d 0 hR (Qb I c) ∗ cTok c (.q d 0) false)) dirs (fun d M _ k => ?_) k
  iintro ⟨⟨#HR, HS⟩, ⟨%f, H⟩, Hk⟩
  iapply (wp_storesQ I c d f _ Q)
  isplitl [H]; · iexact H
  iintro H
  icases (pointsTo_share (PosShare.mem_left_op_right fullShare)).1 $$ H with ⟨H1, H2⟩
  ihave H1 := (show (qP c d 0 hS (Qb I c) : sProp 𝕄) ⊢ sent I c (.q d 0) from BI.Entails.refl _) $$ H1
  iapply (wp_sendQ I K c d 0 (M.map (fun d => Lk.q d 0) ++ R) k Q)
  isplitr; · iexact HR
  isplitl [HS]; · iexact HS
  isplitl [H1]; · iexact H1
  iintro ⟨HS, Ht⟩
  iapply Hk
  isplitl [HS]
  · isplitr; · iexact HR
    iexact HS
  isplitl [H2]; · iexact H2
  iexact Ht

/-! ### The start of the running values -/

/-- One direction's running values started. -/
theorem wp_initD (c : Dev nD) (d : Fin 2) (k : PR F) (Q : PUnit → sProp 𝕄) :
    iprop(((∃ f, ((c : Thread nD τ).loc cc0_scratch1) ↦[(rQs d 0).set]{fullShare} f) ∗ bigSepL tiles (fun t => iprop(∃ f, mP c d 0 t f)))
        ∗ ((bigSepL tiles (fun t => aP c d 0 t (AccIn I c)) ∗ bigSepL tiles (fun t => mP c d 0 t (MlIn I c))) -∗ WP c k Q))
      ⊢ WP c (initD d k) Q := by
  iintro ⟨⟨⟨%f, Ha⟩, Hm⟩, Hk⟩
  unfold initD
  iapply (wp_foldr c Q _ (fun _ => iprop(emp)) (fun t => iprop(∃ f, mP c d 0 t f)) (fun t => mP c d 0 t (MlIn I c)) tiles
    (fun t M _ k => by
      iintro ⟨-, ⟨%f, H⟩, Hk⟩
      iapply (wp_storeM2 c d 0 t f (MlIn I c) _ _ (fun y => store_m0 I c d t y) (fun y => store_l0 I c d t y) k Q)
      isplitl [H]; · iexact H
      iintro H
      iapply Hk
      isplitr; · iempintro
      iexact H))
  isplitr; · iempintro
  isplitl [Hm]; · iexact Hm
  iintro ⟨-, Hm⟩
  ihave Ha := (Agr_of (T := fun _ => False) (G := AccIn I c) (fun _ _ h => h) f) $$ Ha
  have hsub : (accM.access (rQs d 0)).set ⊆ (rQs d 0).set := fun x hx => (Finset.ext_iff.mp (acc_set cc0_scratch1 (rQs d 0)) x).mp hx
  iapply (wp_ldst (m := accM) (r := rQs d 0) (T := fun _ => False) (T' := fun i => i ∈ (rQs d 0).set ∨ False) (G := AccIn I c) c hsub
    (fun f hf i hi ht => write_rect_grow (b := cc0_scratch1) (rQs d 0) f (AccIn I c) _ (fun y => store_a0 I c d y) (fun _ => False) (fun _ h => h.elim) i ht))
  isplitl [Ha]; · iexact Ha
  iintro Ha
  ihave Ha := (Agr_to (fun i hi => Or.inl hi)) $$ Ha
  iapply Hk
  isplitl [Ha]; · iapply (Entails.of_eq (acc_tiles c d 0 (AccIn I c))) $$ Ha
  iexact Hm

/-! ### The end -/

/-- One direction's quotients on their way home. -/
theorem wp_finD (c : Dev nD) (d : Fin 2) (L : List Lk) (k : PR F) (Q : PUnit → sProp 𝕄) :
    iprop((records I K ∗ Snd c (.x d :: L)) ∗ ((bigSepL tiles (fun t => aP c d 7 t (AccOut I c)) ∗ bigSepL tiles (fun t => mP c d 7 t (MlOut I c)))
          ∗ ∃ f, csP c d f)
        ∗ (((records I K ∗ Snd c L) ∗ ((bigSepL tiles (fun t => aP c d 7 t (AccOut I c)) ∗ bigSepL tiles (fun t => mP c d 7 t (MlOut I c)))
          ∗ cTok c (.x d) false)) -∗ WP c k Q))
      ⊢ WP c (finD c d k) Q := by
  rw [← acc_tiles, ← ml_tiles]
  iintro ⟨⟨#HR, HS⟩, ⟨⟨Ha, Hm⟩, ⟨%f, Hc⟩⟩, Hk⟩
  unfold finD
  iapply (wp_load_rect 𝒱₀ (c : Thread nD τ) none Set.univ (m := mlM) (r := rMl d) (S := (rMs d 7).set) (fun x hx => by
    have h := mem_rMl.mp ((Finset.ext_iff.mp (acc_set cc0_scratch2 (rMl d)) x).mp hx)
    exact mem_rMs.mpr ⟨h.1, h.2.1⟩)) $$ Hm; iintro Hm
  iapply (wp_load_rect 𝒱₀ (c : Thread nD τ) none Set.univ (m := accM) (r := rQs d 7) (S := (rQs d 7).set) (fun x hx => (Finset.ext_iff.mp (acc_set cc0_scratch1 (rQs d 7)) x).mp hx)) $$ Ha; iintro Ha
  rw [show (mlM.access (rMl d)).read (Elt F) (MlOut I c) = lFin I c d from load_lFin I c d,
    show (accM.access (rQs d 7)).read (Elt F) (AccOut I c) = aFin I c d from load_aFin I c d]
  ihave Hc := (Agr_of (T := fun _ => False) (G := Cs I c) (fun _ _ h => h) f) $$ Hc
  have hsub : (csM.access (rC d)).set ⊆ (rC d).set := fun x hx => (Finset.ext_iff.mp (acc_set cc0_scratch5 (rC d)) x).mp hx
  iapply (wp_ldst (m := csM) (r := rC d) (T := fun _ => False) (T' := fun i => i ∈ (rC d).set ∨ False) (G := Cs I c) c hsub
    (fun f hf i hi ht => write_rect_grow (b := cc0_scratch5) (rC d) f (Cs I c) _ (fun y => store_c I c d y) (fun _ => False) (fun _ h => h.elim) i ht))
  isplitl [Hc]; · iexact Hc
  iintro Hc
  ihave Hc := (Agr_to (fun i hi => Or.inl hi)) $$ Hc
  ihave Hc := (show (csP c d (Cs I c) : sProp 𝕄) ⊢ sent I c (.x d) from BI.Entails.refl _) $$ Hc
  iapply (wp_sendC I K c d L k Q)
  isplitr; · iexact HR
  isplitl [HS]; · iexact HS
  isplitl [Hc]; · iexact Hc
  iintro ⟨HS, Ht⟩
  iapply Hk
  isplitl [HS]
  · isplitr; · iexact HR
    iexact HS
  isplitl [Ha Hm]
  · isplitl [Ha]; · iexact Ha
    iexact Hm
  iexact Ht

/-- The output projection. -/
theorem wp_outLoop (c : Dev nD) (Q : PUnit → sProp 𝕄) : ∀ (L : List (Fin 8 × Fin 2 × Fin 4)) (acc : FVec F S256x1024 .f32) (k : FVec F S256x1024 .f32 → PR F),
    iprop((((c : Thread nD τ).loc cc0_scratch6) ↦{fullShare} (Cr I c : Buf (Elt F) ((c : Thread nD τ).loc cc0_scratch6))) ∗ woP I c
        ∗ (((((c : Thread nD τ).loc cc0_scratch6) ↦{fullShare} (Cr I c : Buf (Elt F) ((c : Thread nD τ).loc cc0_scratch6))) ∗ woP I c)
          -∗ WP c (k (outAcc I c L acc)) Q))
      ⊢ WP c (outLoop L acc k) Q
  | [], acc, k => by
    iintro ⟨H1, H2, Hk⟩
    iapply Hk
    isplitl [H1]; · iexact H1
    iexact H2
  | (h, d, hl) :: L, acc, k => by
    iintro ⟨H1, H2, Hk⟩
    unfold outLoop
    iapply (wp_load_rect 𝒱₀ (c : Thread nD τ) none Set.univ (m := crM) (r := rCh d hl) (Finset.subset_univ _)) $$ H1; iintro H1
    iapply (wp_load_rect 𝒱₀ (c : Thread nD τ) none Set.univ (m := woM) (r := rW h) (Finset.subset_univ _)) $$ H2; iintro H2
    rw [show (crM.access (rCh d hl)).read (Elt F) (Cr I c) = crT I c d hl from load_c I c d hl,
      show (woM.access (rW h)).read (Elt F) (I.wo c) = woT (I.wo c) h from load_wo (I.wo c) h]
    iapply (wp_outLoop c Q L _ k)
    isplitl [H1]; · iexact H1
    isplitl [H2]; · iexact H2
    iexact Hk

end Cert.Proof

end

end
-- ==== Proof.Staging.lean ====
/-
  The keys and values: head by head a local copy into a staging slot, one head ahead, and the head's rows stored tile by tile.
-/
module

public import proofs.«01_k».proof.Proof.Phases

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-- The heads still to be stored, -/
def TH (H : List (Fin 8)) (i : S4x8x1024x128.Idx) : Prop := ∀ h ∈ H, (i 1).val ≠ h.val
/-- and within head `h` the tiles still to be stored. -/
def TK (h : Fin 8) (H : List (Fin 8)) (M : List (Fin 4)) (i : S4x8x1024x128.Idx) : Prop := (∀ t ∈ M, i ∉ (rK1 t h).set) ∧ TH H i

/-- An element is stored with the tile at hand or was stored before it. -/
theorem TK_cons (h : Fin 8) (H : List (Fin 8)) (t : Fin 4) (M : List (Fin 4)) (i : S4x8x1024x128.Idx) (ht : TK h H M i) :
    i ∈ (rK1 t h).set ∨ TK h H (t :: M) i := by
  by_cases hr : i ∈ (rK1 t h).set
  · exact Or.inl hr
  · exact Or.inr ⟨List.forall_mem_cons.mpr ⟨hr, ht.1⟩, ht.2⟩
/-- Once all tiles of a head are to be stored, the whole head is. -/
theorem TK_all (h : Fin 8) (H : List (Fin 8)) (i : S4x8x1024x128.Idx) (ht : TK h H tiles i) : TH (h :: H) i := by
  refine List.forall_mem_cons.mpr ⟨fun hh => ?_, ht.2⟩
  have hall : ∀ t : Fin 4, t ∈ tiles := by decide
  exact ht.1 (i 0 : Fin 4) (hall _) (mem_rK1.mpr ⟨rfl, hh⟩)

/-! ### The keys -/

abbrev kPiece (c : Dev nD) (h : Fin 8) : sProp 𝕄 :=
  ((c : Thread nD τ).loc main_arg2) ↦[(rH h).set]{fullShare} (I.k c : Buf (Elt F) ((c : Thread nD τ).loc main_arg2))
abbrev kgP (c : Dev nD) (b : Fin 2) (f : Buf (Elt F) ((c : Thread nD τ).loc cc0_scratch7)) : sProp 𝕄 :=
  ((c : Thread nD τ).loc cc0_scratch7) ↦[(rG b).set]{fullShare} f
abbrev kZ (c : Dev nD) (b : Fin 2) : sProp 𝕄 := semVal ((c : Thread nD τ), SemLoc.dma (cpS 0 b)) 0
/-- Head `h` on its way into slot `b`. -/
def kFl (c : Dev nD) (h : Fin 8) (b : Fin 2) : sProp 𝕄 :=
  iprop(∃ fd : Buf (Elt F) ((c : Thread nD τ).loc cc0_scratch7), Transfers.Flight EC (c : Thread nD τ) (.dma (cpS 0 b)) () (kgS b).view.dmaCredit
    iprop(kgP c b ((kgS b).view.write (Elt F) fd ((kS h).view.read (Elt F) (I.k c)) Finset.univ) ∗ kPiece I c h))

/-- Start staging a head. -/
theorem wp_stageK (c : Dev nD) (h : Fin 8) (b : Fin 2) (k : PR F) (Q : PUnit → sProp 𝕄) :
    iprop(kPiece I c h ∗ (∃ fd, kgP c b fd) ∗ kZ c b ∗ (kFl I c h b -∗ WP c k Q)) ⊢ WP c (stageK h b k) Q := by
  iintro ⟨Hs, ⟨%fd, Hd⟩, Hz, Hk⟩
  ihave Hs := (Entails.of_eq (pts_set (set_squeeze (b := main_arg2) (rH h) (fun _ => rfl) S4096x128 squeezes_S1x4096x1x128_S4096x128).symm)) $$ Hs
  unfold stageK
  iapply (Transfers.wp_dmaLocal EC 𝒱₀ (c : Thread nD τ) none (src := kS h) (dst := kgS b) (via := .same) (Sd := (rG b).set) (fd := fd) () (kgS b).view.dmaCredit rfl
    (View.dmaCredit_pos _ (by decide)) (fun x hx => (Finset.ext_iff.mp (set_squeeze (b := cc0_scratch7) (rG b) (fun _ => rfl) S4096x128 squeezes_S1x4096x128_S4096x128) x).mp hx)) $$ [Hs Hd Hz]
  · isplitl [Hs]; · iexact Hs
    isplitl [Hd]; · iexact Hd
    iexact Hz
  iintro HF
  iapply Hk
  unfold kFl
  iexists fd
  iapply (Entails.of_eq (congrArg (fun X : sProp 𝕄 => Transfers.Flight EC (c : Thread nD τ) (.dma (cpS 0 b)) () (kgS b).view.dmaCredit
      iprop(kgP c b ((kgS b).view.write (Elt F) fd ((kS h).view.read (Elt F) (I.k c)) Finset.univ) ∗ X))
    (pts_set (q := fullShare) (f := I.k c) (set_squeeze (b := main_arg2) (rH h) (fun _ => rfl) S4096x128 squeezes_S1x4096x1x128_S4096x128)))) $$ HF

/-- Wait for a head. -/
theorem wp_waitK (c : Dev nD) (h : Fin 8) (b : Fin 2) (L : List Lk) (hL : ∀ l ∈ L, 0 < l.lev) (k : PR F) (Q : PUnit → sProp 𝕄) :
    iprop(records I K ∗ Snd c L ∗ kFl I c h b ∗ ((Snd c L ∗ kPiece I c h ∗ kgP c b (Gb (I.k c) h) ∗ kZ c b) -∗ WP c k Q))
      ⊢ WP c (waitK h b k) Q := by
  unfold Snd kFl
  iintro ⟨#HR, ⟨⟨%W, HO⟩, HS⟩, ⟨%fd, HF⟩, Hk⟩
  ihave #Hlev := (rec_lev I K) $$ HR
  unfold waitK
  iapply (Transfers.wp_waitLocalO EC 𝒱₀ (c : Thread nD τ) none () (N := (kgS b).view.dmaCredit) rfl (O := oweL c L) (W := W)) $$ [HF HO]
  · isplitl [HF]; · iexact HF
    isplitl [HO]; · iexact HO
    iapply (mayWait c (.dma (cpS 0 b)) L (by
      rw [dec_low _ (show (cpS 0 b).val < 8 by revert b; decide +kernel)]; exact hL))
    iexact Hlev
  iintro ⟨⟨Hd, Hs⟩, Hz, HO⟩
  ihave Hd := (Entails.of_eq (pointsTo_congr (ℓ := (c : Thread nD τ).loc cc0_scratch7) (I := (rG b).set) (q := fullShare)
    (f := (kgS b).view.write (Elt F) fd ((kS h).view.read (Elt F) (I.k c)) Finset.univ) (g := Gb (I.k c) h) (fun i hi => stage_copy b h (I.k c) fd i hi))) $$ Hd
  iapply Hk
  isplitl [HO HS]
  · isplitl [HO]; · iexists _; iexact HO
    iexact HS
  isplitl [Hs]; · iexact Hs
  isplitl [Hd]; · iexact Hd
  iexact Hz

/-- One store of a tile of a head. -/
theorem wp_storeK (c : Dev nD) (h : Fin 8) (H : List (Fin 8)) (t : Fin 4) (M : List (Fin 4)) (k : PR F) (Q : PUnit → sProp 𝕄) :
    iprop(Agr ((c : Thread nD τ).loc cc0_scratch3) Finset.univ (TK h H (t :: M)) (Kb (I.k c))
        ∗ (Agr ((c : Thread nD τ).loc cc0_scratch3) Finset.univ (TK h H M) (Kb (I.k c)) -∗ WP c k Q))
      ⊢ WP c (storeK (headOf (I.k c) h) h t k) Q :=
  wp_ldst (m := krM) (r := rK1 t h) (S := Finset.univ) (G := Kb (I.k c)) (T := TK h H (t :: M)) (T' := TK h H M) c (Finset.subset_univ _)
    (fun f hf i hi ht => write_rect_grow (b := cc0_scratch3) (rK1 t h) f (Kb (I.k c)) _ (fun y => store_k (I.k c) h t y)
      (TK h H (t :: M)) (fun i h => hf i ⟨Finset.mem_univ _, h⟩) i (TK_cons h H t M i ht)) k Q

/-- A head waited for and stored. -/
theorem wp_headK (c : Dev nD) (h : Fin 8) (b : Fin 2) (H : List (Fin 8)) (L : List Lk) (hL : ∀ l ∈ L, 0 < l.lev) (k : PR F) (Q : PUnit → sProp 𝕄) :
    iprop((records I K ∗ Snd c L) ∗ kFl I c h b ∗ Agr ((c : Thread nD τ).loc cc0_scratch3) Finset.univ (TH (h :: H)) (Kb (I.k c))
        ∗ ((Snd c L ∗ kPiece I c h ∗ (∃ f, kgP c b f) ∗ kZ c b ∗ Agr ((c : Thread nD τ).loc cc0_scratch3) Finset.univ (TH H) (Kb (I.k c))) -∗ WP c k Q))
      ⊢ WP c (headK h b k) Q := by
  iintro ⟨⟨#HR, HS⟩, HF, HA, Hk⟩
  unfold headK
  iapply (wp_waitK I K c h b L hL _ Q)
  isplitr; · iexact HR
  isplitl [HS]; · iexact HS
  isplitl [HF]; · iexact HF
  iintro ⟨HS, Hs, Hd, Hz⟩
  iapply (wp_load_rect 𝒱₀ (c : Thread nD τ) none Set.univ (m := kgM) (r := rG b) (S := (rG b).set) (fun x hx => (Finset.ext_iff.mp (acc_set cc0_scratch7 (rG b)) x).mp hx)) $$ Hd; iintro Hd
  rw [show (kgM.access (rG b)).read (Elt F) (Gb (I.k c) h) = headOf (I.k c) h from load_g (I.k c) h b]
  ihave HA := (Agr_mono (ℓ := (c : Thread nD τ).loc cc0_scratch3) (T' := TK h H tiles) (fun i _ ht => TK_all h H i ht)) $$ HA
  iapply (wp_foldr0 c Q (fun t k => storeK (headOf (I.k c) h) h t k)
    (fun M => Agr ((c : Thread nD τ).loc cc0_scratch3) Finset.univ (TK h H M) (Kb (I.k c)))
    (fun t M k => by beta_reduce; exact wp_storeK I c h H t M k Q) tiles k)
  isplitl [HA]; · iexact HA
  iintro HA
  iapply Hk
  isplitl [HS]; · iexact HS
  isplitl [Hs]; · iexact Hs
  isplitl [Hd]; · iexists _; iexact Hd
  isplitl [Hz]; · iexact Hz
  iapply (Agr_mono (ℓ := (c : Thread nD τ).loc cc0_scratch3) (T' := TH H) (fun i _ ht => ⟨fun _ h => absurd h List.not_mem_nil, ht⟩)) $$ HA

/-! ### The values -/

abbrev vPiece (c : Dev nD) (h : Fin 8) : sProp 𝕄 :=
  ((c : Thread nD τ).loc main_arg3) ↦[(rH h).set]{fullShare} (I.v c : Buf (Elt F) ((c : Thread nD τ).loc main_arg3))
abbrev vgP (c : Dev nD) (b : Fin 2) (f : Buf (Elt F) ((c : Thread nD τ).loc cc0_scratch8)) : sProp 𝕄 :=
  ((c : Thread nD τ).loc cc0_scratch8) ↦[(rG b).set]{fullShare} f
abbrev vZ (c : Dev nD) (b : Fin 2) : sProp 𝕄 := semVal ((c : Thread nD τ), SemLoc.dma (cpS 1 b)) 0
/-- Head `h` on its way into slot `b`. -/
def vFl (c : Dev nD) (h : Fin 8) (b : Fin 2) : sProp 𝕄 :=
  iprop(∃ fd : Buf (Elt F) ((c : Thread nD τ).loc cc0_scratch8), Transfers.Flight EC (c : Thread nD τ) (.dma (cpS 1 b)) () (vgS b).view.dmaCredit
    iprop(vgP c b ((vgS b).view.write (Elt F) fd ((vS h).view.read (Elt F) (I.v c)) Finset.univ) ∗ vPiece I c h))

/-- Start staging a head. -/
theorem wp_stageV (c : Dev nD) (h : Fin 8) (b : Fin 2) (k : PR F) (Q : PUnit → sProp 𝕄) :
    iprop(vPiece I c h ∗ (∃ fd, vgP c b fd) ∗ vZ c b ∗ (vFl I c h b -∗ WP c k Q)) ⊢ WP c (stageV h b k) Q := by
  iintro ⟨Hs, ⟨%fd, Hd⟩, Hz, Hk⟩
  ihave Hs := (Entails.of_eq (pts_set (set_squeeze (b := main_arg3) (rH h) (fun _ => rfl) S4096x128 squeezes_S1x4096x1x128_S4096x128).symm)) $$ Hs
  unfold stageV
  iapply (Transfers.wp_dmaLocal EC 𝒱₀ (c : Thread nD τ) none (src := vS h) (dst := vgS b) (via := .same) (Sd := (rG b).set) (fd := fd) () (vgS b).view.dmaCredit rfl
    (View.dmaCredit_pos _ (by decide)) (fun x hx => (Finset.ext_iff.mp (set_squeeze (b := cc0_scratch8) (rG b) (fun _ => rfl) S4096x128 squeezes_S1x4096x128_S4096x128) x).mp hx)) $$ [Hs Hd Hz]
  · isplitl [Hs]; · iexact Hs
    isplitl [Hd]; · iexact Hd
    iexact Hz
  iintro HF
  iapply Hk
  unfold vFl
  iexists fd
  iapply (Entails.of_eq (congrArg (fun X : sProp 𝕄 => Transfers.Flight EC (c : Thread nD τ) (.dma (cpS 1 b)) () (vgS b).view.dmaCredit
      iprop(vgP c b ((vgS b).view.write (Elt F) fd ((vS h).view.read (Elt F) (I.v c)) Finset.univ) ∗ X))
    (pts_set (q := fullShare) (f := I.v c) (set_squeeze (b := main_arg3) (rH h) (fun _ => rfl) S4096x128 squeezes_S1x4096x1x128_S4096x128)))) $$ HF

/-- Wait for a head. -/
theorem wp_waitV (c : Dev nD) (h : Fin 8) (b : Fin 2) (L : List Lk) (hL : ∀ l ∈ L, 0 < l.lev) (k : PR F) (Q : PUnit → sProp 𝕄) :
    iprop(records I K ∗ Snd c L ∗ vFl I c h b ∗ ((Snd c L ∗ vPiece I c h ∗ vgP c b (Gb (I.v c) h) ∗ vZ c b) -∗ WP c k Q))
      ⊢ WP c (waitV h b k) Q := by
  unfold Snd vFl
  iintro ⟨#HR, ⟨⟨%W, HO⟩, HS⟩, ⟨%fd, HF⟩, Hk⟩
  ihave #Hlev := (rec_lev I K) $$ HR
  unfold waitV
  iapply (Transfers.wp_waitLocalO EC 𝒱₀ (c : Thread nD τ) none () (N := (vgS b).view.dmaCredit) rfl (O := oweL c L) (W := W)) $$ [HF HO]
  · isplitl [HF]; · iexact HF
    isplitl [HO]; · iexact HO
    iapply (mayWait c (.dma (cpS 1 b)) L (by
      rw [dec_low _ (show (cpS 1 b).val < 8 by revert b; decide +kernel)]; exact hL))
    iexact Hlev
  iintro ⟨⟨Hd, Hs⟩, Hz, HO⟩
  ihave Hd := (Entails.of_eq (pointsTo_congr (ℓ := (c : Thread nD τ).loc cc0_scratch8) (I := (rG b).set) (q := fullShare)
    (f := (vgS b).view.write (Elt F) fd ((vS h).view.read (Elt F) (I.v c)) Finset.univ) (g := Gb (I.v c) h) (fun i hi => stage_copy b h (I.v c) fd i hi))) $$ Hd
  iapply Hk
  isplitl [HO HS]
  · isplitl [HO]; · iexists _; iexact HO
    iexact HS
  isplitl [Hs]; · iexact Hs
  isplitl [Hd]; · iexact Hd
  iexact Hz

/-- One store of a tile of a head. -/
theorem wp_storeV (c : Dev nD) (h : Fin 8) (H : List (Fin 8)) (t : Fin 4) (M : List (Fin 4)) (k : PR F) (Q : PUnit → sProp 𝕄) :
    iprop(Agr ((c : Thread nD τ).loc cc0_scratch4) Finset.univ (TK h H (t :: M)) (Kb (I.v c))
        ∗ (Agr ((c : Thread nD τ).loc cc0_scratch4) Finset.univ (TK h H M) (Kb (I.v c)) -∗ WP c k Q))
      ⊢ WP c (storeV (headOf (I.v c) h) h t k) Q :=
  wp_ldst (m := vrM) (r := rK1 t h) (S := Finset.univ) (G := Kb (I.v c)) (T := TK h H (t :: M)) (T' := TK h H M) c (Finset.subset_univ _)
    (fun f hf i hi ht => write_rect_grow (b := cc0_scratch4) (rK1 t h) f (Kb (I.v c)) _ (fun y => store_k (I.v c) h t y)
      (TK h H (t :: M)) (fun i h => hf i ⟨Finset.mem_univ _, h⟩) i (TK_cons h H t M i ht)) k Q

/-- A head waited for and stored. -/
theorem wp_headV (c : Dev nD) (h : Fin 8) (b : Fin 2) (H : List (Fin 8)) (L : List Lk) (hL : ∀ l ∈ L, 0 < l.lev) (k : PR F) (Q : PUnit → sProp 𝕄) :
    iprop((records I K ∗ Snd c L) ∗ vFl I c h b ∗ Agr ((c : Thread nD τ).loc cc0_scratch4) Finset.univ (TH (h :: H)) (Kb (I.v c))
        ∗ ((Snd c L ∗ vPiece I c h ∗ (∃ f, vgP c b f) ∗ vZ c b ∗ Agr ((c : Thread nD τ).loc cc0_scratch4) Finset.univ (TH H) (Kb (I.v c))) -∗ WP c k Q))
      ⊢ WP c (headV h b k) Q := by
  iintro ⟨⟨#HR, HS⟩, HF, HA, Hk⟩
  unfold headV
  iapply (wp_waitV I K c h b L hL _ Q)
  isplitr; · iexact HR
  isplitl [HS]; · iexact HS
  isplitl [HF]; · iexact HF
  iintro ⟨HS, Hs, Hd, Hz⟩
  iapply (wp_load_rect 𝒱₀ (c : Thread nD τ) none Set.univ (m := vgM) (r := rG b) (S := (rG b).set) (fun x hx => (Finset.ext_iff.mp (acc_set cc0_scratch8 (rG b)) x).mp hx)) $$ Hd; iintro Hd
  rw [show (vgM.access (rG b)).read (Elt F) (Gb (I.v c) h) = headOf (I.v c) h from load_g (I.v c) h b]
  ihave HA := (Agr_mono (ℓ := (c : Thread nD τ).loc cc0_scratch4) (T' := TK h H tiles) (fun i _ ht => TK_all h H i ht)) $$ HA
  iapply (wp_foldr0 c Q (fun t k => storeV (headOf (I.v c) h) h t k)
    (fun M => Agr ((c : Thread nD τ).loc cc0_scratch4) Finset.univ (TK h H M) (Kb (I.v c)))
    (fun t M k => by beta_reduce; exact wp_storeV I c h H t M k Q) tiles k)
  isplitl [HA]; · iexact HA
  iintro HA
  iapply Hk
  isplitl [HS]; · iexact HS
  isplitl [Hs]; · iexact Hs
  isplitl [Hd]; · iexists _; iexact Hd
  isplitl [Hz]; · iexact Hz
  iapply (Agr_mono (ℓ := (c : Thread nD τ).loc cc0_scratch4) (T' := TH H) (fun i _ ht => ⟨fun _ h => absurd h List.not_mem_nil, ht⟩)) $$ HA

/-! ### The whole pass -/

/-- The head in flight and its slot, before the stages of `M`; -/
def curH : List (Fin 8 × Fin 2 × Fin 8 × Fin 2) → Fin 8 | [] => 7 | p :: _ => p.1
def curB : List (Fin 8 × Fin 2 × Fin 8 × Fin 2) → Fin 2 | [] => 1 | p :: _ => p.2.1
/-- the free slot; -/
def othB : List (Fin 8 × Fin 2 × Fin 8 × Fin 2) → Fin 2 | [] => 0 | p :: _ => p.2.2.2
/-- the heads still to be stored. -/
def hds (M : List (Fin 8 × Fin 2 × Fin 8 × Fin 2)) : List (Fin 8) := M.map (·.1) ++ [7]

/-- Each stage starts the next one's head, in the slot that is free, and frees its own. -/
theorem stages_next : ∀ N ∈ stages.tails, ∀ p ∈ N.head?, curH N.tail = p.2.2.1 ∧ curB N.tail = p.2.2.2 ∧ othB N.tail = p.2.1 := by decide

/-- The keys and values in memory, as the heads' pieces. -/
theorem k_pieces (c : Dev nD) :
    (((c : Thread nD τ).loc main_arg2) ↦{fullShare} (I.k c : Buf (Elt F) ((c : Thread nD τ).loc main_arg2)) : sProp 𝕄)
      = bigSepL [0, 1, 2, 3, 4, 5, 6, 7] (kPiece I c) := by
  rw [← bigSep_univ_eq_bigSepL [0, 1, 2, 3, 4, 5, 6, 7] (by decide) (by decide)]
  exact pts_family (ℓ := (c : Thread nD τ).loc main_arg2) _ (fun h : Fin 8 => (rH h).set) fullShare _
    (fun i => ⟨fun _ => ⟨(i 2 : Fin 8), mem_rH.mpr rfl⟩, fun _ => Finset.mem_univ _⟩)
    (fun h h' hne => Finset.disjoint_left.mpr fun i hi hi' => hne (Fin.ext ((mem_rH.mp hi).symm.trans (mem_rH.mp hi'))))
/-- A device's values, head by head. -/
theorem v_pieces (c : Dev nD) :
    (((c : Thread nD τ).loc main_arg3) ↦{fullShare} (I.v c : Buf (Elt F) ((c : Thread nD τ).loc main_arg3)) : sProp 𝕄)
      = bigSepL [0, 1, 2, 3, 4, 5, 6, 7] (vPiece I c) := by
  rw [← bigSep_univ_eq_bigSepL [0, 1, 2, 3, 4, 5, 6, 7] (by decide) (by decide)]
  exact pts_family (ℓ := (c : Thread nD τ).loc main_arg3) _ (fun h : Fin 8 => (rH h).set) fullShare _
    (fun i => ⟨fun _ => ⟨(i 2 : Fin 8), mem_rH.mpr rfl⟩, fun _ => Finset.mem_univ _⟩)
    (fun h h' hne => Finset.disjoint_left.mpr fun i hi hi' => hne (Fin.ext ((mem_rH.mp hi).symm.trans (mem_rH.mp hi'))))

/-- The two slots of a staging buffer. -/
theorem rG_slots (i : S2x4096x128.Idx) : ∃ b : Fin 2, i ∈ (rG b).set := ⟨(i 0 : Fin 2), mem_rG.mpr rfl⟩
/-- The two slots of a staging buffer do not overlap. -/
theorem rG_disj (b b' : Fin 2) (hne : b ≠ b') : Disjoint (rG b).set (rG b').set :=
  Finset.disjoint_left.mpr fun i h h' => hne (Fin.ext ((mem_rG.mp h).symm.trans (mem_rG.mp h')))
/-- The keys' staging buffer is its two slots; -/
theorem kg_slots (c : Dev nD) (f : Buf (Elt F) ((c : Thread nD τ).loc cc0_scratch7)) :
    (((c : Thread nD τ).loc cc0_scratch7) ↦{fullShare} f : sProp 𝕄) = iprop(kgP c 0 f ∗ kgP c 1 f) := by
  refine (pts_family (ℓ := (c : Thread nD τ).loc cc0_scratch7) _ (fun b : Fin 2 => (rG b).set) fullShare f
    (fun i => ⟨fun _ => rG_slots i, fun _ => Finset.mem_univ _⟩) rG_disj).trans ?_
  rw [bigSep_univ_eq_bigSepL [0, 1] (by decide) (by decide), bigSepL_cons_cons, bigSepL_singleton]
  rfl
/-- so is the values'. -/
theorem vg_slots (c : Dev nD) (f : Buf (Elt F) ((c : Thread nD τ).loc cc0_scratch8)) :
    (((c : Thread nD τ).loc cc0_scratch8) ↦{fullShare} f : sProp 𝕄) = iprop(vgP c 0 f ∗ vgP c 1 f) := by
  refine (pts_family (ℓ := (c : Thread nD τ).loc cc0_scratch8) _ (fun b : Fin 2 => (rG b).set) fullShare f
    (fun i => ⟨fun _ => rG_slots i, fun _ => Finset.mem_univ _⟩) rG_disj).trans ?_
  rw [bigSep_univ_eq_bigSepL [0, 1] (by decide) (by decide), bigSepL_cons_cons, bigSepL_singleton]
  rfl

abbrev krA (c : Dev nD) (H : List (Fin 8)) : sProp 𝕄 := Agr ((c : Thread nD τ).loc cc0_scratch3) Finset.univ (TH H) (Kb (I.k c))
abbrev vrA (c : Dev nD) (H : List (Fin 8)) : sProp 𝕄 := Agr ((c : Thread nD τ).loc cc0_scratch4) Finset.univ (TH H) (Kb (I.v c))

/-- What the pass holds before a head is waited for. -/
def stInv (c : Dev nD) (L : List Lk) (h : Fin 8) (b b' : Fin 2) (H : List (Fin 8)) : sProp 𝕄 :=
  iprop((records I K ∗ Snd c L) ∗ kFl I c h b ∗ vFl I c h b ∗ (∃ f, kgP c b' f) ∗ (∃ f, vgP c b' f) ∗ kZ c b' ∗ vZ c b' ∗ krA I c H ∗ vrA I c H)

/-- The keys and values of a head waited for and stored. -/
theorem wp_headKV (c : Dev nD) (h : Fin 8) (b : Fin 2) (H : List (Fin 8)) (L : List Lk) (hL : ∀ l ∈ L, 0 < l.lev) (k : PR F) (Q : PUnit → sProp 𝕄) :
    iprop((records I K ∗ Snd c L) ∗ (kFl I c h b ∗ vFl I c h b) ∗ (krA I c (h :: H) ∗ vrA I c (h :: H))
        ∗ ((Snd c L ∗ (kPiece I c h ∗ vPiece I c h) ∗ ((∃ f, kgP c b f) ∗ (∃ f, vgP c b f) ∗ kZ c b ∗ vZ c b) ∗ krA I c H ∗ vrA I c H) -∗ WP c k Q))
      ⊢ WP c (headK h b <| headV h b k) Q := by
  iintro ⟨⟨#HR, HS⟩, ⟨HF1, HF2⟩, ⟨HA1, HA2⟩, Hk⟩
  iapply (wp_headK I K c h b H L hL _ Q)
  isplitl [HS]
  · isplitr; · iexact HR
    iexact HS
  isplitl [HF1]; · iexact HF1
  isplitl [HA1]; · iexact HA1
  iintro ⟨HS, Hp1, Hg1, Hz1, HA1⟩
  iapply (wp_headV I K c h b H L hL _ Q)
  isplitl [HS]
  · isplitr; · iexact HR
    iexact HS
  isplitl [HF2]; · iexact HF2
  isplitl [HA2]; · iexact HA2
  iintro ⟨HS, Hp2, Hg2, Hz2, HA2⟩
  iapply Hk
  isplitl [HS]; · iexact HS
  isplitl [Hp1 Hp2]
  · isplitl [Hp1]; · iexact Hp1
    iexact Hp2
  isplitl [Hg1 Hg2 Hz1 Hz2]
  · isplitl [Hg1]; · iexact Hg1
    isplitl [Hg2]; · iexact Hg2
    isplitl [Hz1]; · iexact Hz1
    iexact Hz2
  isplitl [HA1]; · iexact HA1
  iexact HA2

/-- One stage: the next head started, this one waited for and stored. -/
theorem wp_stage (c : Dev nD) (L : List Lk) (hL : ∀ l ∈ L, 0 < l.lev) (h : Fin 8) (b : Fin 2) (h' : Fin 8) (b' : Fin 2) (H : List (Fin 8))
    (k : PR F) (Q : PUnit → sProp 𝕄) :
    iprop(stInv I K c L h b b' (h :: H) ∗ (kPiece I c h' ∗ vPiece I c h')
        ∗ ((stInv I K c L h' b' b H ∗ (kPiece I c h ∗ vPiece I c h)) -∗ WP c k Q))
      ⊢ WP c (stageK h' b' <| stageV h' b' <| headK h b <| headV h b k) Q := by
  unfold stInv
  iintro ⟨⟨⟨#HR, HS⟩, HF1, HF2, Hg1, Hg2, Hz1, Hz2, HA1, HA2⟩, ⟨Hp1, Hp2⟩, Hk⟩
  iapply (wp_stageK I c h' b' _ Q)
  isplitl [Hp1]; · iexact Hp1
  isplitl [Hg1]; · iexact Hg1
  isplitl [Hz1]; · iexact Hz1
  iintro HF1'
  iapply (wp_stageV I c h' b' _ Q)
  isplitl [Hp2]; · iexact Hp2
  isplitl [Hg2]; · iexact Hg2
  isplitl [Hz2]; · iexact Hz2
  iintro HF2'
  iapply (wp_headKV I K c h b H L hL _ Q)
  isplitl [HS]
  · isplitr; · iexact HR
    iexact HS
  isplitl [HF1 HF2]
  · isplitl [HF1]; · iexact HF1
    iexact HF2
  isplitl [HA1 HA2]
  · isplitl [HA1]; · iexact HA1
    iexact HA2
  iintro ⟨HS, Hp, ⟨Hg1, Hg2, Hz1, Hz2⟩, HA1, HA2⟩
  iapply Hk
  isplitr [Hp]; rotate_left; · iexact Hp
  isplitl [HS]
  · isplitr; · iexact HR
    iexact HS
  isplitl [HF1']; · iexact HF1'
  isplitl [HF2']; · iexact HF2'
  isplitl [Hg1]; · iexact Hg1
  isplitl [Hg2]; · iexact Hg2
  isplitl [Hz1]; · iexact Hz1
  isplitl [Hz2]; · iexact Hz2
  isplitl [HA1]; · iexact HA1
  iexact HA2

/-- The staging buffers and their semaphores, whatever they hold. -/
def stRes (c : Dev nD) : sProp 𝕄 :=
  iprop(((∃ f, kgP c 0 f) ∗ (∃ f, vgP c 0 f) ∗ kZ c 0 ∗ vZ c 0) ∗ ((∃ f, kgP c 1 f) ∗ (∃ f, vgP c 1 f) ∗ kZ c 1 ∗ vZ c 1))

abbrev kvPiece (c : Dev nD) (h : Fin 8) : sProp 𝕄 := iprop(kPiece I c h ∗ vPiece I c h)

/-- Before the first head no element counts as stored. -/
theorem TH_all (i : S4x8x1024x128.Idx) : ¬ TH (hds stages) i := fun h => by
  have hall : ∀ x : Fin 8, x ∈ hds stages := by decide
  exact h _ (hall (i 1 : Fin 8)) rfl

/-- The keys and values fetched and stored by tiles. -/
theorem wp_phaseKV (c : Dev nD) (L : List Lk) (hL : ∀ l ∈ L, 0 < l.lev) (k : PR F) (Q : PUnit → sProp 𝕄) :
    iprop((records I K ∗ Snd c L) ∗ (bigSepL [0, 1, 2, 3, 4, 5, 6, 7] (kvPiece I c) ∗ stRes c) ∗ ((∃ f, krP c f) ∗ (∃ f, vrP c f))
        ∗ ((Snd c L ∗ (bigSepL [0, 1, 2, 3, 4, 5, 6, 7] (kvPiece I c) ∗ stRes c) ∗ krP c (Kb (I.k c)) ∗ vrP c (Kb (I.v c))) -∗ WP c k Q))
      ⊢ WP c (phaseKV k) Q := by
  have hs : (bigSepL [0, 1, 2, 3, 4, 5, 6, 7] (kvPiece I c) : sProp 𝕄)
      = iprop(kvPiece I c 0 ∗ bigSepL stages fun p => kvPiece I c p.2.2.1) := by
    rw [bigSepL_cons', ← bigSepL_map (fun p : Fin 8 × Fin 2 × Fin 8 × Fin 2 => p.2.2.1) stages (kvPiece I c)]; rfl
  have ht : (bigSepL [0, 1, 2, 3, 4, 5, 6, 7] (kvPiece I c) : sProp 𝕄)
      = iprop((bigSepL stages fun p => kvPiece I c p.1) ∗ kvPiece I c 7) := by
    rw [show ([0, 1, 2, 3, 4, 5, 6, 7] : List (Fin 8)) = stages.map (·.1) ++ [7] from rfl, bigSepL_append, bigSepL_singleton, bigSepL_map]
  unfold stRes
  iintro ⟨⟨#HR, HS⟩, ⟨Hp, ⟨⟨Hg1, Hg2, Hz1, Hz2⟩, ⟨Hg1', Hg2', Hz1', Hz2'⟩⟩⟩, ⟨⟨%f1, H1⟩, ⟨%f2, H2⟩⟩, Hk⟩
  ihave Hp := (Entails.of_eq hs) $$ Hp
  icases Hp with ⟨⟨Hp1, Hp2⟩, Hp⟩
  ihave HA1 := (Agr_of (ℓ := (c : Thread nD τ).loc cc0_scratch3) (S := Finset.univ) (T := TH (hds stages)) (G := Kb (I.k c)) (fun i _ => TH_all i) f1) $$ H1
  ihave HA2 := (Agr_of (ℓ := (c : Thread nD τ).loc cc0_scratch4) (S := Finset.univ) (T := TH (hds stages)) (G := Kb (I.v c)) (fun i _ => TH_all i) f2) $$ H2
  unfold phaseKV
  iapply (wp_stageK I c 0 0 _ Q)
  isplitl [Hp1]; · iexact Hp1
  isplitl [Hg1]; · iexact Hg1
  isplitl [Hz1]; · iexact Hz1
  iintro HF1
  iapply (wp_stageV I c 0 0 _ Q)
  isplitl [Hp2]; · iexact Hp2
  isplitl [Hg2]; · iexact Hg2
  isplitl [Hz2]; · iexact Hz2
  iintro HF2
  iapply (wp_foldr c Q _ (fun M => stInv I K c L (curH M) (curB M) (othB M) (hds M)) (fun p => kvPiece I c p.2.2.1) (fun p => kvPiece I c p.1) stages
    (fun p M hM k => by
      obtain ⟨e1, e2, e3⟩ := stages_next _ ((List.mem_tails _ _).mpr hM) p rfl
      rw [show curH M = p.2.2.1 from e1, show curB M = p.2.2.2 from e2, show othB M = p.2.1 from e3]
      exact wp_stage I K c L hL p.1 p.2.1 p.2.2.1 p.2.2.2 (hds M) k Q) _)
  isplitl [HS HF1 HF2 Hg1' Hg2' Hz1' Hz2' HA1 HA2]
  · unfold stInv
    isplitl [HS]
    · isplitr; · iexact HR
      iexact HS
    isplitl [HF1]; · iexact HF1
    isplitl [HF2]; · iexact HF2
    isplitl [Hg1']; · iexact Hg1'
    isplitl [Hg2']; · iexact Hg2'
    isplitl [Hz1']; · iexact Hz1'
    isplitl [Hz2']; · iexact Hz2'
    isplitl [HA1]; · iexact HA1
    iexact HA2
  isplitl [Hp]; · iexact Hp
  unfold stInv
  iintro ⟨⟨⟨-, HS⟩, HF1, HF2, Hg1, Hg2, Hz1, Hz2, HA1, HA2⟩, Hp⟩
  iapply (wp_headKV I K c 7 1 [] L hL _ Q)
  isplitl [HS]
  · isplitr; · iexact HR
    iexact HS
  isplitl [HF1 HF2]
  · isplitl [HF1]; · iexact HF1
    iexact HF2
  isplitl [HA1 HA2]
  · isplitl [HA1]; · iexact HA1
    iexact HA2
  iintro ⟨HS, Hp7, Hg', HA1, HA2⟩
  iapply Hk
  isplitl [HS]; · iexact HS
  isplitl [Hp Hp7 Hg1 Hg2 Hz1 Hz2 Hg']
  · isplitl [Hp Hp7]
    · iapply (Entails.of_eq ht.symm)
      isplitl [Hp]; · iexact Hp
      iexact Hp7
    isplitr [Hg']; rotate_left; · iexact Hg'
    isplitl [Hg1]; · iexact Hg1
    isplitl [Hg2]; · iexact Hg2
    isplitl [Hz1]; · iexact Hz1
    iexact Hz2
  isplitl [HA1]
  · iapply (Agr_to (ℓ := (c : Thread nD τ).loc cc0_scratch3) (T := TH []) (fun i _ => fun _ h => absurd h List.not_mem_nil)) $$ HA1
  · iapply (Agr_to (ℓ := (c : Thread nD τ).loc cc0_scratch4) (T := TH []) (fun i _ => fun _ h => absurd h List.not_mem_nil)) $$ HA2

end Cert.Proof

end

end
-- ==== Proof.Hops.lean ====
/-
  The hops: the local slot, six slots that arrive and go on, the last slot, and the waits for what was sent.
-/
module

public import proofs.«01_k».proof.Proof.Staging

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### The links in the order they are started -/

def dL (j : Fin 7) (M : List (Fin 2)) : List Lk := M.map fun d => .q d j
def tdL (j : Fin 7) (M : List (Fin 4 × Fin 2)) : List Lk := M.flatMap fun p => [.a p.2 j p.1, .m p.2 j p.1]
/-- The links of the hops `M`, and the contexts. -/
def restF (M : List (Fin 7)) : List Lk := M.flatMap (fun j => dL j dirs ++ tdL j tds) ++ [.x 0, .x 1]

/-- The links of a hop, then those of the hops after it. -/
theorem restF_cons (j : Fin 7) (M : List (Fin 7)) : restF (j :: M) = dL j dirs ++ (tdL j tds ++ restF M) := by
  unfold restF
  rw [List.flatMap_cons, List.append_assoc, List.append_assoc]

/-- What is started at hop `j` arrives at level `j + 2`. -/
theorem dL_lev (j : Fin 7) (M : List (Fin 2)) : ∀ l ∈ dL j M, l.lev = j.val + 2 := fun l hl => by
  obtain ⟨d, -, rfl⟩ := List.mem_map.mp hl; rfl
/-- The tiles of hop `j` arrive at level `j + 2` as well. -/
theorem tdL_lev (j : Fin 7) (M : List (Fin 4 × Fin 2)) : ∀ l ∈ tdL j M, l.lev = j.val + 2 := fun l hl => by
  obtain ⟨p, -, h⟩ := List.mem_flatMap.mp hl
  rcases List.mem_cons.mp h with rfl | h
  · rfl
  · rw [List.mem_singleton.mp h]; rfl
/-- The later hops arrive higher. -/
theorem restF_lev (n : ℕ) (hn : n < 9) (M : List (Fin 7)) (h : ∀ j ∈ M, n < j.val + 2) : ∀ l ∈ restF M, n < l.lev := fun l hl => by
  rcases List.mem_append.mp hl with hl | hl
  · obtain ⟨j, hj, hl⟩ := List.mem_flatMap.mp hl
    rcases List.mem_append.mp hl with hl | hl
    · rw [dL_lev j _ l hl]; exact h j hj
    · rw [tdL_lev j _ l hl]; exact h j hj
  · rcases List.mem_cons.mp hl with rfl | hl
    · exact hn
    · rw [List.mem_singleton.mp hl]; exact hn

/-- A chain of pairs is a pair of chains. -/
theorem chain_sep {α : Type} (Φ Ψ : α → sProp 𝕄) : ∀ L : List α,
    bigSepL L (fun i => iprop(Φ i ∗ Ψ i)) ⊢ iprop(bigSepL L Φ ∗ bigSepL L Ψ)
  | [] => by
    rw [bigSepL_nil, bigSepL_nil, bigSepL_nil]
    iintro -
    isplitr <;> iempintro
  | i :: L => by
    rw [bigSepL_cons', bigSepL_cons', bigSepL_cons']
    iintro ⟨⟨H1, H2⟩, H⟩
    ihave H := (chain_sep Φ Ψ L) $$ H
    icases H with ⟨H3, H4⟩
    isplitl [H1 H3]
    · isplitl [H1]; · iexact H1
      iexact H3
    isplitl [H2]; · iexact H2
    iexact H4

/-- One of the two directions taken out and put back. -/
theorem dirs_at (d : Fin 2) (Φ : Fin 2 → sProp 𝕄) : bigSepL dirs Φ ⊢ iprop(Φ d ∗ (Φ d -∗ bigSepL dirs Φ)) := by
  rw [show bigSepL dirs Φ = iprop(Φ 0 ∗ Φ 1) by
    rw [show dirs = [0, 1] from rfl, bigSepL_cons_cons, bigSepL_singleton]; rfl]
  match d with
  | 0 =>
    iintro ⟨H0, H1⟩
    isplitl [H0]; · iexact H0
    iintro H0
    isplitl [H0]; · iexact H0
    iexact H1
  | 1 =>
    iintro ⟨H0, H1⟩
    isplitl [H1]; · iexact H1
    iintro H1
    isplitl [H0]; · iexact H0
    iexact H1

/-- Tile by tile, or direction by direction. -/
theorem tds_dirs (Φ : Fin 2 → Fin 4 → sProp 𝕄) :
    (bigSepL tds fun p => Φ p.2 p.1) = bigSepL dirs fun d => bigSepL tiles fun t => Φ d t := by
  rw [← bigSep_univ_eq_bigSepL tds (by decide) (by decide), ← bigSep_univ_eq_bigSepL dirs (by decide) (by decide)]
  rw [bigSep_congr (s := Finset.univ) (Φ := fun d => bigSepL tiles fun t => Φ d t) (fun d _ => (bigSep_univ_eq_bigSepL tiles (by decide) (by decide) (fun t => Φ d t)).symm)]
  rw [← bigSep_univ_prod (fun p : Fin 2 × Fin 4 => Φ p.1 p.2)]
  exact (bigSep_univ_equiv (Equiv.prodComm (Fin 4) (Fin 2)) (fun p : Fin 2 × Fin 4 => Φ p.1 p.2)).symm

/-! ### The attention inside a hop -/

/-- The keys and values; -/
abbrev KV (c : Dev nD) : sProp 𝕄 := iprop(krP c (Kb (I.k c)) ∗ vrP c (Kb (I.v c)))
/-- and a slot's queries. -/
abbrev qR (c : Dev nD) (s : Fin 8) (q : PosShare TreeShare) : sProp 𝕄 := bigSepL dirs fun d => qP c d s q (Qb I c)
/-- A tile's numerators, maxima and denominators before -/
abbrev amIn (c : Dev nD) (s : Fin 8) (p : Fin 4 × Fin 2) : sProp 𝕄 := iprop(aP c p.2 s p.1 (AccIn I c) ∗ mP c p.2 s p.1 (MlIn I c))
/-- and after. -/
abbrev amOut (c : Dev nD) (s : Fin 8) (p : Fin 4 × Fin 2) : sProp 𝕄 := iprop(aP c p.2 s p.1 (AccOut I c) ∗ mP c p.2 s p.1 (MlOut I c))
abbrev amTok (c : Dev nD) (j : Fin 7) (b : Bool) (p : Fin 4 × Fin 2) : sProp 𝕄 := iprop(cTok c (.a p.2 j p.1) b ∗ cTok c (.m p.2 j p.1) b)
abbrev amZ (c : Dev nD) (j : Fin 7) (b : Bool) (p : Fin 4 × Fin 2) : sProp 𝕄 := iprop(zTok c (.a p.2 j p.1) b ∗ zTok c (.m p.2 j p.1) b)

/-- One round of attention on a tile: the running values received become those passed on; queries, keys and values
    are only read. -/
theorem wp_att (c : Dev nD) (s : Fin 8) (q : PosShare TreeShare) (p : Fin 4 × Fin 2) (k : PR F) (Q : PUnit → sProp 𝕄) :
    iprop((qR I c s q ∗ KV I c) ∗ amIn I c s p ∗ (((qR I c s q ∗ KV I c) ∗ amOut I c s p) -∗ WP c k Q)) ⊢ WP c (attend p.2 s p.1 k) Q := by
  iintro ⟨⟨Hq, ⟨Hk1, Hk2⟩⟩, Ham, Hk⟩
  ihave Hq := (dirs_at p.2 (fun d => qP c d s q (Qb I c))) $$ Hq
  icases Hq with ⟨Hq, Hb⟩
  iapply (wp_attend I c p.2 s p.1 q k Q)
  isplitl [Hq Hk1 Hk2]
  · isplitl [Hq]; · iexact Hq
    isplitl [Hk1]; · iexact Hk1
    iexact Hk2
  isplitl [Ham]; · iexact Ham
  iintro ⟨⟨Hq, Hk1, Hk2⟩, Ham⟩
  iapply Hk
  isplitr [Ham]; rotate_left; · iexact Ham
  isplitl [Hq Hb]
  · iapply Hb; iexact Hq
  isplitl [Hk1]; · iexact Hk1
  iexact Hk2

/-- A tile's numerators, maxima and denominators are sent on, and a receipt for each is kept. -/
theorem wp_sendAM (c : Dev nD) (j : Fin 7) (p : Fin 4 × Fin 2) (M : List (Fin 4 × Fin 2)) (R : List Lk) (k : PR F) (Q : PUnit → sProp 𝕄) :
    iprop((records I K ∗ Snd c (tdL j (p :: M) ++ R)) ∗ amOut I c j.castSucc p
        ∗ ((Snd c (tdL j M ++ R) ∗ amTok c j false p) -∗ WP c k Q)) ⊢ WP c (sendAM c p.2 j p.1 k) Q := by
  iintro ⟨⟨#HR, HS⟩, ⟨Ha, Hm⟩, Hk⟩
  unfold sendAM
  iapply (wp_sendA I K c p.2 j p.1 (.m p.2 j p.1 :: (tdL j M ++ R)) _ Q)
  isplitr; · iexact HR
  isplitl [HS]; · iexact HS
  isplitl [Ha]
  · iapply (show aP c p.2 j.castSucc p.1 (AccOut I c) ⊢ sent I c (.a p.2 j p.1) from BI.Entails.refl _) $$ Ha
  iintro ⟨HS, Hca⟩
  iapply (wp_sendM I K c p.2 j p.1 (tdL j M ++ R) _ Q)
  isplitr; · iexact HR
  isplitl [HS]; · iexact HS
  isplitl [Hm]
  · iapply (show mP c p.2 j.castSucc p.1 (MlOut I c) ⊢ sent I c (.m p.2 j p.1) from BI.Entails.refl _) $$ Hm
  iintro ⟨HS, Hcm⟩
  iapply Hk
  isplitl [HS]; · iexact HS
  isplitl [Hca]; · iexact Hca
  iexact Hcm

/-- A tile's numerators, maxima and denominators have arrived, holding what the previous device passed on. -/
theorem wp_waitAM (c : Dev nD) (j : Fin 7) (p : Fin 4 × Fin 2) (L : List Lk) (hlev : ∀ l' ∈ L, j.val + 2 < l'.lev) (k : PR F) (Q : PUnit → sProp 𝕄) :
    iprop((records I K ∗ Snd c L) ∗ amTok c j true p ∗ ((Snd c L ∗ amIn I c j.succ p ∗ amZ c j true p) -∗ WP c k Q))
      ⊢ WP c (waitAM p.2 j p.1 k) Q := by
  iintro ⟨⟨#HR, HS⟩, ⟨Ha, Hm⟩, Hk⟩
  unfold waitAM
  iapply (wp_waitAr I K c p.2 j p.1 L hlev _ Q)
  isplitr; · iexact HR
  isplitl [HS]; · iexact HS
  isplitl [Ha]; · iexact Ha
  iintro ⟨HS, Hla, Hza⟩
  iapply (wp_waitMr I K c p.2 j p.1 L hlev _ Q)
  isplitr; · iexact HR
  isplitl [HS]; · iexact HS
  isplitl [Hm]; · iexact Hm
  iintro ⟨HS, Hlm, Hzm⟩
  iapply Hk
  isplitl [HS]; · iexact HS
  isplitl [Hla Hlm]
  · isplitl [Hla]
    · iapply (show landed I c (.a p.2 j p.1) ⊢ aP c p.2 j.succ p.1 (AccIn I c) from BI.Entails.refl _) $$ Hla
    · iapply (show landed I c (.m p.2 j p.1) ⊢ mP c p.2 j.succ p.1 (MlIn I c) from BI.Entails.refl _) $$ Hlm
  isplitl [Hza]; · iexact Hza
  iexact Hzm

/-! ### The device's own slot -/

/-- The device's own queries meet its own keys: all tiles of slot 0 are attended and sent on. -/
theorem wp_phase0 (c : Dev nD) (R : List Lk) (k : PR F) (Q : PUnit → sProp 𝕄) :
    iprop(((records I K ∗ Snd c (tdL 0 tds ++ R)) ∗ qR I c 0 hR ∗ KV I c) ∗ bigSepL tds (amIn I c 0)
        ∗ ((((records I K ∗ Snd c R) ∗ qR I c 0 hR ∗ KV I c) ∗ bigSepL tds (amTok c 0 false)) -∗ WP c k Q))
      ⊢ WP c (phase0 c k) Q := by
  unfold phase0
  refine wp_foldr c Q _ (fun M => iprop((records I K ∗ Snd c (tdL 0 M ++ R)) ∗ qR I c 0 hR ∗ KV I c)) (amIn I c 0)
    (amTok c 0 false) tds (fun p M _ k => ?_) k
  iintro ⟨⟨⟨#HR, HS⟩, Hq⟩, Hp, Hk⟩
  iapply (wp_att I c 0 hR p _ Q)
  isplitl [Hq]; · iexact Hq
  isplitl [Hp]; · iexact Hp
  iintro ⟨Hq, Hp⟩
  iapply (wp_sendAM I K c 0 p M R k Q)
  isplitl [HS]
  · isplitr; · iexact HR
    iexact HS
  isplitl [Hp]; · iexact Hp
  iintro ⟨HS, Ht⟩
  iapply Hk
  isplitr [Ht]; rotate_left; · iexact Ht
  isplitr [Hq]; rotate_left; · iexact Hq
  isplitr; · iexact HR
  iexact HS

/-! ### A hop -/

/-- What hop `j` needs; -/
def hopIn (c : Dev nD) (j : Fin 6) : sProp 𝕄 :=
  iprop((bigSepL dirs fun d => cTok c (.q d j.castSucc) true) ∗ bigSepL tds (amTok c j.castSucc true))
/-- and what it leaves. -/
def hopOut (c : Dev nD) (j : Fin 6) : sProp 𝕄 :=
  iprop(((bigSepL dirs fun d => iprop(zTok c (.q d j.castSucc) true ∗ cTok c (.q d j.succ) false)) ∗ qR I c j.succ.castSucc hR)
    ∗ bigSepL tds fun p => iprop(amZ c j.castSucc true p ∗ amTok c j.succ false p))

/-- The queries of a hop arrive and go on. -/
theorem wp_hopQ (c : Dev nD) (j : Fin 6) (R : List Lk) (hR' : ∀ l ∈ R, j.val + 2 < l.lev) (k : PR F) (Q : PUnit → sProp 𝕄) :
    iprop((records I K ∗ Snd c (dL j.succ dirs ++ R)) ∗ (bigSepL dirs fun d => cTok c (.q d j.castSucc) true)
        ∗ (((records I K ∗ Snd c R) ∗ bigSepL dirs fun d => iprop((zTok c (.q d j.castSucc) true ∗ cTok c (.q d j.succ) false) ∗ qP c d j.succ.castSucc hR (Qb I c)))
          -∗ WP c k Q))
      ⊢ WP c (dirs.foldr (fun d k => waitQr d j.castSucc <| sendQ c d j.succ k) k) Q := by
  refine wp_foldr c Q _ (fun M => iprop(records I K ∗ Snd c (dL j.succ M ++ R))) (fun d => cTok c (.q d j.castSucc) true)
    (fun d => iprop((zTok c (.q d j.castSucc) true ∗ cTok c (.q d j.succ) false) ∗ qP c d j.succ.castSucc hR (Qb I c))) dirs (fun d M _ k => ?_) k
  iintro ⟨⟨#HR, HS⟩, Ht, Hk⟩
  iapply (wp_waitQr I K c d j.castSucc (dL j.succ (d :: M) ++ R) (fun l hl => by
    rcases List.mem_append.mp hl with hl | hl
    · rw [dL_lev _ _ l hl, Fin.val_succ, Fin.val_castSucc]; omega
    · exact hR' l hl) _ Q)
  isplitr; · iexact HR
  isplitl [HS]; · iexact HS
  isplitl [Ht]; · iexact Ht
  iintro ⟨HS, Hl, Hz⟩
  ihave Hl := (show landed I c (.q d j.castSucc) ⊢ iprop(qP c d j.succ.castSucc hS (Qb I c) ∗ qP c d j.succ.castSucc hR (Qb I c)) from
    (pointsTo_share (PosShare.mem_left_op_right fullShare)).1) $$ Hl
  icases Hl with ⟨Hl, Hr⟩
  iapply (wp_sendQ I K c d j.succ (dL j.succ M ++ R) k Q)
  isplitr; · iexact HR
  isplitl [HS]; · iexact HS
  isplitl [Hl]
  · iapply (show qP c d j.succ.castSucc hS (Qb I c) ⊢ sent I c (.q d j.succ) from BI.Entails.refl _) $$ Hl
  iintro ⟨HS, Hc⟩
  iapply Hk
  isplitl [HS]
  · isplitr; · iexact HR
    iexact HS
  isplitr [Hr]; rotate_left; · iexact Hr
  isplitl [Hz]; · iexact Hz
  iexact Hc

/-- One tile of a hop: its state arrives, is brought forward and goes on. -/
theorem wp_hopT (c : Dev nD) (j : Fin 6) (p : Fin 4 × Fin 2) (M : List (Fin 4 × Fin 2)) (R : List Lk) (hR' : ∀ l ∈ R, j.val + 2 < l.lev)
    (k : PR F) (Q : PUnit → sProp 𝕄) :
    iprop(((records I K ∗ Snd c (tdL j.succ (p :: M) ++ R)) ∗ qR I c j.succ.castSucc hR ∗ KV I c) ∗ amTok c j.castSucc true p
        ∗ ((((records I K ∗ Snd c (tdL j.succ M ++ R)) ∗ qR I c j.succ.castSucc hR ∗ KV I c) ∗ amZ c j.castSucc true p ∗ amTok c j.succ false p) -∗ WP c k Q))
      ⊢ WP c (waitAM p.2 j.castSucc p.1 <| attend p.2 j.succ.castSucc p.1 <| sendAM c p.2 j.succ p.1 k) Q := by
  iintro ⟨⟨⟨#HR, HS⟩, Hq⟩, Ht, Hk⟩
  iapply (wp_waitAM I K c j.castSucc p (tdL j.succ (p :: M) ++ R) (fun l hl => by
    rcases List.mem_append.mp hl with hl | hl
    · rw [tdL_lev _ _ l hl, Fin.val_succ, Fin.val_castSucc]; omega
    · exact hR' l hl) _ Q)
  isplitl [HS]
  · isplitr; · iexact HR
    iexact HS
  isplitl [Ht]; · iexact Ht
  iintro ⟨HS, Hp, Hz⟩
  ihave Hp := (show amIn I c j.castSucc.succ p ⊢ amIn I c j.succ.castSucc p from BI.Entails.refl _) $$ Hp
  iapply (wp_att I c j.succ.castSucc hR p _ Q)
  isplitl [Hq]; · iexact Hq
  isplitl [Hp]; · iexact Hp
  iintro ⟨Hq, Hp⟩
  iapply (wp_sendAM I K c j.succ p M R k Q)
  isplitl [HS]
  · isplitr; · iexact HR
    iexact HS
  isplitl [Hp]; · iexact Hp
  iintro ⟨HS, Ht⟩
  iapply Hk
  isplitr [Ht Hz]
  · isplitr [Hq]; rotate_left; · iexact Hq
    isplitr; · iexact HR
    iexact HS
  isplitl [Hz]; · iexact Hz
  iexact Ht

/-- A hop that is not the last. -/
theorem wp_hop (c : Dev nD) (j : Fin 6) (R : List Lk) (hR' : ∀ l ∈ R, j.val + 2 < l.lev) (k : PR F) (Q : PUnit → sProp 𝕄) :
    iprop(((records I K ∗ Snd c (dL j.succ dirs ++ (tdL j.succ tds ++ R))) ∗ KV I c) ∗ hopIn c j
        ∗ ((((records I K ∗ Snd c R) ∗ KV I c) ∗ hopOut I c j) -∗ WP c k Q))
      ⊢ WP c (hop c j k) Q := by
  unfold hop hopIn hopOut
  iintro ⟨⟨HS, HKV⟩, ⟨Hq, Ht⟩, Hk⟩
  iapply (wp_hopQ I K c j (tdL j.succ tds ++ R) (fun l hl => by
    rcases List.mem_append.mp hl with hl | hl
    · rw [tdL_lev _ _ l hl, Fin.val_succ]; omega
    · exact hR' l hl) _ Q)
  isplitl [HS]; · iexact HS
  isplitl [Hq]; · iexact Hq
  iintro ⟨HS, Hq⟩
  ihave Hq := (chain_sep (fun d => iprop(zTok c (.q d j.castSucc) true ∗ cTok c (.q d j.succ) false)) (fun d => qP c d j.succ.castSucc hR (Qb I c)) dirs) $$ Hq
  icases Hq with ⟨Hz, Hq⟩
  iapply (wp_foldr c Q _ (fun M => iprop((records I K ∗ Snd c (tdL j.succ M ++ R)) ∗ qR I c j.succ.castSucc hR ∗ KV I c)) (amTok c j.castSucc true)
    (fun p => iprop(amZ c j.castSucc true p ∗ amTok c j.succ false p)) tds (fun p M _ k => wp_hopT I K c j p M R hR' k Q) k)
  isplitl [HS Hq HKV]
  · isplitl [HS]; · iexact HS
    isplitl [Hq]; · iexact Hq
    iexact HKV
  isplitl [Ht]; · iexact Ht
  iintro ⟨⟨HS, Hq, HKV⟩, Ht⟩
  iapply Hk
  isplitl [HS HKV]
  · isplitl [HS]; · iexact HS
    iexact HKV
  isplitr [Ht]; rotate_left; · iexact Ht
  isplitl [Hz]; · iexact Hz
  iexact Hq

abbrev hopsL : List (Fin 6) := [0, 1, 2, 3, 4, 5]
/-- The middle hops come in order. -/
theorem hops_sorted : hopsL.Pairwise (· < ·) := by decide

/-- The six hops. -/
theorem wp_hops (c : Dev nD) (k : PR F) (Q : PUnit → sProp 𝕄) :
    iprop(((records I K ∗ Snd c (restF (hopsL.map Fin.succ))) ∗ KV I c) ∗ bigSepL hopsL (hopIn c)
        ∗ ((((records I K ∗ Snd c (restF [])) ∗ KV I c) ∗ bigSepL hopsL (hopOut I c)) -∗ WP c k Q))
      ⊢ WP c (hopsL.foldr (hop c) k) Q := by
  refine wp_foldr c Q _ (fun M => iprop((records I K ∗ Snd c (restF (M.map Fin.succ))) ∗ KV I c)) (hopIn c) (hopOut I c) hopsL (fun j M hM k => ?_) k
  have hlt : ∀ i ∈ M, j < i := (List.pairwise_cons.mp (hops_sorted.sublist hM.sublist)).1
  beta_reduce
  rw [List.map_cons, restF_cons]
  exact wp_hop I K c j (restF (M.map Fin.succ)) (restF_lev _ (by omega) _ (fun i hi => by
    obtain ⟨i', hi', rfl⟩ := List.mem_map.mp hi
    have := hlt i' hi'
    rw [Fin.val_succ]; omega)) k Q

/-! ### The last hop -/

/-- The last hop: queries and tiles arrive and are attended; nothing is sent on. -/
theorem wp_hopLast (c : Dev nD) (L : List Lk) (hlev : ∀ l ∈ L, 8 < l.lev) (k : PR F) (Q : PUnit → sProp 𝕄) :
    iprop(((records I K ∗ Snd c L) ∗ KV I c) ∗ ((bigSepL dirs fun d => cTok c (.q d 6) true) ∗ bigSepL tds (amTok c 6 true))
        ∗ ((((records I K ∗ Snd c L) ∗ KV I c) ∗ ((bigSepL dirs fun d => zTok c (.q d 6) true) ∗ qR I c 7 fullShare)
            ∗ bigSepL tds fun p => iprop(amZ c 6 true p ∗ amOut I c 7 p)) -∗ WP c k Q))
      ⊢ WP c (hopLast k) Q := by
  unfold hopLast
  iintro ⟨⟨HS, HKV⟩, ⟨Hq, Ht⟩, Hk⟩
  iapply (wp_foldr c Q _ (fun _ => iprop(records I K ∗ Snd c L)) (fun d => cTok c (.q d 6) true)
    (fun d => iprop(zTok c (.q d 6) true ∗ qP c d 7 fullShare (Qb I c))) dirs (fun d M _ k => by
      iintro ⟨⟨#HR, HS⟩, Ht, Hk⟩
      iapply (wp_waitQr I K c d 6 L hlev _ Q)
      isplitr; · iexact HR
      isplitl [HS]; · iexact HS
      isplitl [Ht]; · iexact Ht
      iintro ⟨HS, Hl, Hz⟩
      iapply Hk
      isplitl [HS]
      · isplitr; · iexact HR
        iexact HS
      isplitl [Hz]; · iexact Hz
      iapply (show landed I c (.q d 6) ⊢ qP c d 7 fullShare (Qb I c) from BI.Entails.refl _) $$ Hl) _)
  isplitl [HS]; · iexact HS
  isplitl [Hq]; · iexact Hq
  iintro ⟨HS, Hq⟩
  ihave Hq := (chain_sep (fun d => zTok c (.q d 6) true) (fun d => qP c d 7 fullShare (Qb I c)) dirs) $$ Hq
  icases Hq with ⟨Hz, Hq⟩
  iapply (wp_foldr c Q _ (fun _ => iprop((records I K ∗ Snd c L) ∗ qR I c 7 fullShare ∗ KV I c)) (amTok c 6 true)
    (fun p => iprop(amZ c 6 true p ∗ amOut I c 7 p)) tds (fun p M _ k => by
      iintro ⟨⟨⟨#HR, HS⟩, Hq⟩, Ht, Hk⟩
      iapply (wp_waitAM I K c 6 p L hlev _ Q)
      isplitl [HS]
      · isplitr; · iexact HR
        iexact HS
      isplitl [Ht]; · iexact Ht
      iintro ⟨HS, Hp, Hz⟩
      iapply (wp_att I c 7 fullShare p _ Q)
      isplitl [Hq]; · iexact Hq
      isplitl [Hp]
      · iapply (show amIn I c (6 : Fin 7).succ p ⊢ amIn I c 7 p from BI.Entails.refl _) $$ Hp
      iintro ⟨Hq, Hp⟩
      iapply Hk
      isplitr [Hz Hp]
      · isplitr [Hq]; rotate_left; · iexact Hq
        isplitr; · iexact HR
        iexact HS
      isplitl [Hz]; · iexact Hz
      iexact Hp) k)
  isplitl [HS Hq HKV]
  · isplitl [HS]; · iexact HS
    isplitl [Hq]; · iexact Hq
    iexact HKV
  isplitl [Ht]; · iexact Ht
  iintro ⟨⟨HS, Hq, HKV⟩, Ht⟩
  iapply Hk
  isplitl [HS HKV]
  · isplitl [HS]; · iexact HS
    iexact HKV
  isplitr [Ht]; rotate_left; · iexact Ht
  isplitl [Hz]; · iexact Hz
  iexact Hq

/-! ### The waits for what was sent -/

abbrev amSent (c : Dev nD) (j : Fin 7) (p : Fin 4 × Fin 2) : sProp 𝕄 := iprop(sent I c (.a p.2 j p.1) ∗ sent I c (.m p.2 j p.1))

def drIn (c : Dev nD) (j : Fin 7) : sProp 𝕄 :=
  iprop((bigSepL dirs fun d => cTok c (.q d j) false) ∗ bigSepL tds (amTok c j false))
def drOut (c : Dev nD) (j : Fin 7) : sProp 𝕄 :=
  iprop((bigSepL dirs fun d => iprop(sent I c (.q d j) ∗ zTok c (.q d j) false)) ∗ bigSepL tds fun p => iprop(amSent I c j p ∗ amZ c j false p))

/-- The sends of hop `j` are waited for, and their sources come back; -/
theorem wp_drain (c : Dev nD) (j : Fin 7) (k : PR F) (Q : PUnit → sProp 𝕄) :
    iprop((records I K ∗ Snd c []) ∗ drIn c j ∗ (((records I K ∗ Snd c []) ∗ drOut I c j) -∗ WP c k Q)) ⊢ WP c (drain j k) Q := by
  unfold drain drIn drOut
  iintro ⟨HS, ⟨Hq, Ht⟩, Hk⟩
  iapply (wp_foldr c Q _ (fun _ => iprop(records I K ∗ Snd c [])) (fun d => cTok c (.q d j) false)
    (fun d => iprop(sent I c (.q d j) ∗ zTok c (.q d j) false)) dirs (fun d M _ k => by
      iintro ⟨⟨#HR, HS⟩, Ht, Hk⟩
      iapply (wp_waitQs I K c d j _ Q)
      isplitr; · iexact HR
      isplitl [HS]; · iexact HS
      isplitl [Ht]; · iexact Ht
      iintro ⟨HS, Hl⟩
      iapply Hk
      isplitl [HS]
      · isplitr; · iexact HR
        iexact HS
      iexact Hl) _)
  isplitl [HS]; · iexact HS
  isplitl [Hq]; · iexact Hq
  iintro ⟨HS, Hq⟩
  iapply (wp_foldr c Q _ (fun _ => iprop(records I K ∗ Snd c [])) (amTok c j false)
    (fun p => iprop(amSent I c j p ∗ amZ c j false p)) tds (fun p M _ k => by
      iintro ⟨⟨#HR, HS⟩, ⟨Ha, Hm⟩, Hk⟩
      iapply (wp_waitAs I K c p.2 j p.1 _ Q)
      isplitr; · iexact HR
      isplitl [HS]; · iexact HS
      isplitl [Ha]; · iexact Ha
      iintro ⟨HS, Ha, Hza⟩
      iapply (wp_waitMs I K c p.2 j p.1 _ Q)
      isplitr; · iexact HR
      isplitl [HS]; · iexact HS
      isplitl [Hm]; · iexact Hm
      iintro ⟨HS, Hm, Hzm⟩
      iapply Hk
      isplitl [HS]
      · isplitr; · iexact HR
        iexact HS
      isplitl [Ha Hm]
      · isplitl [Ha]; · iexact Ha
        iexact Hm
      isplitl [Hza]; · iexact Hza
      iexact Hzm) k)
  isplitl [HS]; · iexact HS
  isplitl [Ht]; · iexact Ht
  iintro ⟨HS, Ht⟩
  iapply Hk
  isplitl [HS]; · iexact HS
  isplitl [Hq]; · iexact Hq
  iexact Ht

/-- so are those of all hops of a list. -/
theorem wp_drains (c : Dev nD) (L : List (Fin 7)) (k : PR F) (Q : PUnit → sProp 𝕄) :
    iprop((records I K ∗ Snd c []) ∗ bigSepL L (drIn c) ∗ (((records I K ∗ Snd c []) ∗ bigSepL L (drOut I c)) -∗ WP c k Q)) ⊢ WP c (L.foldr drain k) Q :=
  wp_foldr c Q _ (fun _ => iprop(records I K ∗ Snd c [])) (drIn c) (drOut I c) L (fun j M _ k => wp_drain I K c j k Q) k

/-- The contexts: sent and arrived. -/
theorem wp_ctx (c : Dev nD) (k : PR F) (Q : PUnit → sProp 𝕄) :
    iprop((records I K ∗ Snd c []) ∗ (bigSepL dirs fun d => iprop(cTok c (.x d) false ∗ cTok c (.x d) true))
        ∗ (((records I K ∗ Snd c []) ∗ bigSepL dirs fun d => iprop((sent I c (.x d) ∗ landed I c (.x d)) ∗ zTok c (.x d) false ∗ zTok c (.x d) true)) -∗ WP c k Q))
      ⊢ WP c (dirs.foldr (fun d k => waitCs d <| waitCr d k) k) Q :=
  wp_foldr c Q _ (fun _ => iprop(records I K ∗ Snd c [])) (fun d => iprop(cTok c (.x d) false ∗ cTok c (.x d) true))
    (fun d => iprop((sent I c (.x d) ∗ landed I c (.x d)) ∗ zTok c (.x d) false ∗ zTok c (.x d) true)) dirs (fun d M _ k => by
      iintro ⟨⟨#HR, HS⟩, ⟨Ha, Hm⟩, Hk⟩
      iapply (wp_waitCs I K c d _ Q)
      isplitr; · iexact HR
      isplitl [HS]; · iexact HS
      isplitl [Ha]; · iexact Ha
      iintro ⟨HS, Ha, Hza⟩
      iapply (wp_waitCr I K c d [] (fun _ h => absurd h List.not_mem_nil) _ Q)
      isplitr; · iexact HR
      isplitl [HS]; · iexact HS
      isplitl [Hm]; · iexact Hm
      iintro ⟨HS, Hm, Hzm⟩
      iapply Hk
      isplitl [HS]
      · isplitr; · iexact HR
        iexact HS
      isplitl [Ha Hm]
      · isplitl [Ha]; · iexact Ha
        iexact Hm
      isplitl [Hza]; · iexact Hza
      iexact Hzm) k

end Cert.Proof

end

end
-- ==== Proof.Pieces.lean ====
/-
  The buffers cut into the pieces the protocol speaks of, and put together again; chains over the links.
-/
module

public import proofs.«01_k».proof.Proof.Hops

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### Chains -/

/-- A chain of pairs is a pair of chains. -/
theorem chain_pair {α : Type} (Φ Ψ : α → sProp 𝕄) (L : List α) :
    bigSepL L (fun i => iprop(Φ i ∗ Ψ i)) = iprop(bigSepL L Φ ∗ bigSepL L Ψ) := by
  induction L with
  | nil =>
    rw [bigSepL_nil, bigSepL_nil, bigSepL_nil]
    exact (equiv_iff.mp emp_sep).symm
  | cons i L ih =>
    rw [bigSepL_cons', bigSepL_cons', bigSepL_cons', ih]
    refine BI.Entails.antisymm (show iprop((Φ i ∗ Ψ i) ∗ bigSepL L Φ ∗ bigSepL L Ψ) ⊢ iprop((Φ i ∗ bigSepL L Φ) ∗ Ψ i ∗ bigSepL L Ψ) from ?_)
      (show iprop((Φ i ∗ bigSepL L Φ) ∗ Ψ i ∗ bigSepL L Ψ) ⊢ iprop((Φ i ∗ Ψ i) ∗ bigSepL L Φ ∗ bigSepL L Ψ) from ?_)
    · iintro ⟨⟨H1, H2⟩, H3, H4⟩
      isplitl [H1 H3]
      · isplitl [H1]; · iexact H1
        iexact H3
      isplitl [H2]; · iexact H2
      iexact H4
    · iintro ⟨⟨H1, H3⟩, H2, H4⟩
      isplitl [H1 H2]
      · isplitl [H1]; · iexact H1
        iexact H2
      isplitl [H3]; · iexact H3
      iexact H4

/-- Chains with equal members are equal. -/
theorem chain_congr {α : Type} {Φ Ψ : α → sProp 𝕄} (L : List α) (h : ∀ i, Φ i = Ψ i) : bigSepL L Φ = bigSepL L Ψ := by
  rw [funext h]

/-- The seven hops, and the eight slots. -/
abbrev hop7 : List (Fin 7) := [0, 1, 2, 3, 4, 5, 6]
abbrev slots8 : List (Fin 8) := [0, 1, 2, 3, 4, 5, 6, 7]

/-- The seven hops: the first, then the others; -/
theorem hop7_first (Φ : Fin 7 → sProp 𝕄) : bigSepL hop7 Φ = iprop(Φ 0 ∗ bigSepL hopsL fun j => Φ j.succ) := by
  rw [bigSepL_cons', ← bigSepL_map Fin.succ hopsL Φ]; rfl
/-- or all but the last, then the last. -/
theorem hop7_last (Φ : Fin 7 → sProp 𝕄) : bigSepL hop7 Φ = iprop((bigSepL hopsL fun j => Φ j.castSucc) ∗ Φ 6) := by
  rw [show hop7 = hopsL.map Fin.castSucc ++ [6] from rfl, bigSepL_append, bigSepL_singleton, bigSepL_map]
/-- The eight slots: the device's own, then those received; -/
theorem slots_first (Φ : Fin 8 → sProp 𝕄) : bigSepL slots8 Φ = iprop(Φ 0 ∗ bigSepL hop7 fun j => Φ j.succ) := by
  rw [bigSepL_cons', ← bigSepL_map Fin.succ hop7 Φ]; rfl
/-- or those passed on, then the last. -/
theorem slots_last (Φ : Fin 8 → sProp 𝕄) : bigSepL slots8 Φ = iprop((bigSepL hop7 fun j => Φ j.castSucc) ∗ Φ 7) := by
  rw [show slots8 = hop7.map Fin.castSucc ++ [7] from rfl, bigSepL_append, bigSepL_singleton, bigSepL_map]

/-! ### All the links -/

/-- All the links, in the order they are started. -/
abbrev prog : List Lk := restF hop7

/-- Every link is started at some time, -/
theorem mem_prog (l : Lk) : l ∈ prog := by
  have h7 : ∀ j : Fin 7, j ∈ hop7 := by decide
  have h2 : ∀ d : Fin 2, d ∈ dirs := by decide
  have h8 : ∀ (t : Fin 4) (d : Fin 2), (t, d) ∈ tds := by decide
  unfold prog restF dL tdL
  rcases l with ⟨d, j⟩ | ⟨d, j, t⟩ | ⟨d, j, t⟩ | d
  · exact List.mem_append_left _ (List.mem_flatMap.mpr ⟨j, h7 j, List.mem_append_left _ (List.mem_map.mpr ⟨d, h2 d, rfl⟩)⟩)
  · exact List.mem_append_left _ (List.mem_flatMap.mpr ⟨j, h7 j, List.mem_append_right _ (List.mem_flatMap.mpr ⟨(t, d), h8 t d, List.mem_cons_self⟩)⟩)
  · exact List.mem_append_left _ (List.mem_flatMap.mpr ⟨j, h7 j, List.mem_append_right _
      (List.mem_flatMap.mpr ⟨(t, d), h8 t d, List.mem_cons_of_mem _ List.mem_cons_self⟩)⟩)
  · refine List.mem_append_right _ ?_
    revert d; decide

/-- and only once. -/
theorem prog_nodup : prog.Nodup := by decide +kernel

/-- A family over the links, in the order they are started. -/
theorem links_prog (Φ : Lk → sProp 𝕄) : bigSep Finset.univ Φ = bigSepL prog Φ :=
  bigSep_univ_eq_bigSepL prog (Finset.ext fun l => ⟨fun _ => List.mem_toFinset.mpr (mem_prog l), fun _ => Finset.mem_univ l⟩) prog_nodup Φ

/-- A chain over the links, hop by hop. -/
theorem links_hops (Φ : Lk → sProp 𝕄) :
    bigSep Finset.univ Φ = iprop((bigSepL hop7 fun j => iprop((bigSepL dirs fun d => Φ (.q d j)) ∗ bigSepL tds fun p => iprop(Φ (.a p.2 j p.1) ∗ Φ (.m p.2 j p.1))))
      ∗ bigSepL dirs fun d => Φ (.x d)) := by
  rw [links_prog, prog, restF, bigSepL_append, bigSepL_flatMap, ← bigSepL_map (fun d => Lk.x d) dirs Φ]
  congr 1
  refine chain_congr _ fun j => ?_
  rw [bigSepL_append, dL, tdL, bigSepL_map, bigSepL_flatMap]
  rfl

/-! ### The pieces of the buffers -/

/-- The query buffer, slot by slot and direction by direction; -/
theorem q_slots (c : Dev nD) (q : PosShare TreeShare) (f : Buf (Elt F) ((c : Thread nD τ).loc cc0_scratch0)) :
    (((c : Thread nD τ).loc cc0_scratch0) ↦{q} f : sProp 𝕄) = bigSepL slots8 fun s => bigSepL dirs fun d => qP c d s q f := by
  rw [← bigSep_univ_eq_bigSepL slots8 (by decide) (by decide)]
  refine (pts_family (ℓ := (c : Thread nD τ).loc cc0_scratch0) _ (fun p : Fin 8 × Fin 2 => (rQs p.2 p.1).set) q f
    (fun i => ⟨fun _ => ⟨((i 1 : Fin 8), (i 0 : Fin 2)), mem_rQs.mpr ⟨rfl, rfl⟩⟩, fun _ => Finset.mem_univ _⟩)
    (fun p p' hne => Finset.disjoint_left.mpr fun i h h' => hne (Prod.ext (Fin.ext ((mem_rQs.mp h).2.symm.trans (mem_rQs.mp h').2))
      (Fin.ext ((mem_rQs.mp h).1.symm.trans (mem_rQs.mp h').1))))).trans ?_
  rw [bigSep_univ_prod]
  exact bigSep_congr fun s _ => bigSep_univ_eq_bigSepL dirs (by decide) (by decide) _
/-- the numerators' buffer, slot by slot and tile by tile; -/
theorem a_slots (c : Dev nD) (f : Buf (Elt F) ((c : Thread nD τ).loc cc0_scratch1)) :
    (((c : Thread nD τ).loc cc0_scratch1) ↦{fullShare} f : sProp 𝕄) = bigSepL slots8 fun s => bigSepL tds fun p => aP c p.2 s p.1 f := by
  rw [← bigSep_univ_eq_bigSepL slots8 (by decide) (by decide)]
  refine (pts_family (ℓ := (c : Thread nD τ).loc cc0_scratch1) _ (fun p : Fin 8 × (Fin 4 × Fin 2) => (rQt p.2.2 p.1 p.2.1).set) fullShare f
    (fun i => ⟨fun _ => ⟨((i 1 : Fin 8), ((i 2 : Fin 4), (i 0 : Fin 2))), mem_rQt.mpr ⟨rfl, rfl, rfl⟩⟩, fun _ => Finset.mem_univ _⟩)
    (fun p p' hne => Finset.disjoint_left.mpr fun i h h' => hne (Prod.ext (Fin.ext ((mem_rQt.mp h).2.1.symm.trans (mem_rQt.mp h').2.1))
      (Prod.ext (Fin.ext ((mem_rQt.mp h).2.2.symm.trans (mem_rQt.mp h').2.2)) (Fin.ext ((mem_rQt.mp h).1.symm.trans (mem_rQt.mp h').1)))))).trans ?_
  rw [bigSep_univ_prod]
  exact bigSep_congr fun s _ => bigSep_univ_eq_bigSepL tds (by decide) (by decide) _
/-- the buffer of the maxima and denominators; -/
theorem m_slots (c : Dev nD) (f : Buf (Elt F) ((c : Thread nD τ).loc cc0_scratch2)) :
    (((c : Thread nD τ).loc cc0_scratch2) ↦{fullShare} f : sProp 𝕄) = bigSepL slots8 fun s => bigSepL tds fun p => mP c p.2 s p.1 f := by
  rw [← bigSep_univ_eq_bigSepL slots8 (by decide) (by decide)]
  refine (pts_family (ℓ := (c : Thread nD τ).loc cc0_scratch2) _ (fun p : Fin 8 × (Fin 4 × Fin 2) => (rMt p.2.2 p.1 p.2.1).set) fullShare f
    (fun i => ⟨fun _ => ⟨((i 1 : Fin 8), ((i 2 : Fin 4), (i 0 : Fin 2))), mem_rMt.mpr ⟨rfl, rfl, rfl⟩⟩, fun _ => Finset.mem_univ _⟩)
    (fun p p' hne => Finset.disjoint_left.mpr fun i h h' => hne (Prod.ext (Fin.ext ((mem_rMt.mp h).2.1.symm.trans (mem_rMt.mp h').2.1))
      (Prod.ext (Fin.ext ((mem_rMt.mp h).2.2.symm.trans (mem_rMt.mp h').2.2)) (Fin.ext ((mem_rMt.mp h).1.symm.trans (mem_rMt.mp h').1)))))).trans ?_
  rw [bigSep_univ_prod]
  exact bigSep_congr fun s _ => bigSep_univ_eq_bigSepL tds (by decide) (by decide) _
/-- the contexts to be sent, direction by direction; -/
theorem cs_dirs (c : Dev nD) (f : Buf (Elt F) ((c : Thread nD τ).loc cc0_scratch5)) :
    (((c : Thread nD τ).loc cc0_scratch5) ↦{fullShare} f : sProp 𝕄) = bigSepL dirs fun d => csP c d f := by
  rw [← bigSep_univ_eq_bigSepL dirs (by decide) (by decide)]
  exact pts_family (ℓ := (c : Thread nD τ).loc cc0_scratch5) _ (fun d : Fin 2 => (rC d).set) fullShare f
    (fun i => ⟨fun _ => ⟨(i 0 : Fin 2), mem_rC.mpr rfl⟩, fun _ => Finset.mem_univ _⟩)
    (fun p p' hne => Finset.disjoint_left.mpr fun i h h' => hne (Fin.ext ((mem_rC.mp h).symm.trans (mem_rC.mp h'))))
/-- and those received. -/
theorem cr_dirs (c : Dev nD) (f : Buf (Elt F) ((c : Thread nD τ).loc cc0_scratch6)) :
    (((c : Thread nD τ).loc cc0_scratch6) ↦{fullShare} f : sProp 𝕄) = bigSepL dirs fun d => crP c d f := by
  rw [← bigSep_univ_eq_bigSepL dirs (by decide) (by decide)]
  exact pts_family (ℓ := (c : Thread nD τ).loc cc0_scratch6) _ (fun d : Fin 2 => (rC d).set) fullShare f
    (fun i => ⟨fun _ => ⟨(i 0 : Fin 2), mem_rC.mpr rfl⟩, fun _ => Finset.mem_univ _⟩)
    (fun p p' hne => Finset.disjoint_left.mpr fun i h h' => hne (Fin.ext ((mem_rC.mp h).symm.trans (mem_rC.mp h'))))

/-- A scratch buffer, whatever it holds. -/
abbrev anyB (c : Dev nD) (b : Ref sig .tc) : sProp 𝕄 := iprop(∃ f : Buf (Elt F) ((c : Thread nD τ).loc b), ((c : Thread nD τ).loc b) ↦{fullShare} f)

/-- The pieces the device itself starts from: the first slots. -/
def first (c : Dev nD) : sProp 𝕄 :=
  iprop((bigSepL dirs fun d => iprop(∃ f, qP c d 0 fullShare f))
    ∗ bigSepL dirs fun d => iprop((∃ f, ((c : Thread nD τ).loc cc0_scratch1) ↦[(rQs d 0).set]{fullShare} f) ∗ bigSepL tiles (fun t => iprop(∃ f, mP c d 0 t f))))

/-- The buffers that transfers land in, cut up. -/
theorem cut (c : Dev nD) :
    iprop(anyB c cc0_scratch0 ∗ anyB c cc0_scratch1 ∗ anyB c cc0_scratch2 ∗ anyB c cc0_scratch6)
      ⊢ iprop(first c ∗ (bigSep Finset.univ (land c) : sProp 𝕄)) := by
  unfold first
  rw [links_hops, chain_pair, chain_pair]
  iintro ⟨⟨%f0, H0⟩, ⟨%f1, H1⟩, ⟨%f2, H2⟩, ⟨%f6, H6⟩⟩
  ihave H0 := (Entails.of_eq ((q_slots c fullShare f0).trans (slots_first _))) $$ H0
  ihave H1 := (Entails.of_eq ((a_slots c f1).trans (slots_first _))) $$ H1
  ihave H2 := (Entails.of_eq ((m_slots c f2).trans (slots_first _))) $$ H2
  ihave H6 := (Entails.of_eq (cr_dirs c f6)) $$ H6
  icases H0 with ⟨H0, H0'⟩
  icases H1 with ⟨H1, H1'⟩
  icases H2 with ⟨H2, H2'⟩
  isplitl [H0 H1 H2]
  · isplitl [H0]
    · iapply (bigSepL_mono (fun d _ => by iintro H; iexists _; iexact H)) $$ H0
    isplitl [H1]
    · ihave H1 := (Entails.of_eq ((tds_dirs (fun d t => aP c d 0 t f1)).trans (chain_congr dirs fun d => (acc_tiles c d 0 f1).symm))) $$ H1
      iapply (bigSepL_mono (fun d _ => by iintro H; iexists _; iexact H)) $$ H1
    · ihave H2 := (Entails.of_eq (tds_dirs (fun d t => mP c d 0 t f2))) $$ H2
      iapply (bigSepL_mono (fun d _ => bigSepL_mono (fun t _ => by iintro H; iexists _; iexact H))) $$ H2
  isplitr [H6]
  · isplitl [H0']
    · iapply (bigSepL_mono (fun j _ => bigSepL_mono (fun d _ => by unfold land; iintro H; iexists _; iexact H))) $$ H0'
    rw [chain_congr hop7 (fun j => chain_pair (fun p : Fin 4 × Fin 2 => land c (.a p.2 j p.1)) (fun p => land c (.m p.2 j p.1)) tds), chain_pair]
    isplitl [H1']
    · iapply (bigSepL_mono (fun j _ => bigSepL_mono (fun p _ => by unfold land; iintro H; iexists _; iexact H))) $$ H1'
    · iapply (bigSepL_mono (fun j _ => bigSepL_mono (fun p _ => by unfold land; iintro H; iexists _; iexact H))) $$ H2'
  · iapply (bigSepL_mono (fun d _ => by unfold land; iintro H; iexists _; iexact H)) $$ H6

/-- The queries put together: every slot but the last in two halves. -/
theorem q_join (c : Dev nD) (f : Buf (Elt F) ((c : Thread nD τ).loc cc0_scratch0)) :
    iprop((bigSepL hop7 fun j => bigSepL dirs fun d => qP c d j.castSucc hS f) ∗ (bigSepL hop7 fun j => bigSepL dirs fun d => qP c d j.castSucc hR f)
        ∗ bigSepL dirs fun d => qP c d 7 fullShare f)
      ⊢ (((c : Thread nD τ).loc cc0_scratch0) ↦{fullShare} f : sProp 𝕄) := by
  rw [q_slots, slots_last]
  iintro ⟨H1, H2, H3⟩
  isplitr [H3]; rotate_left; · iexact H3
  ihave H := (Entails.of_eq (((chain_congr hop7 fun j => chain_pair (fun d => qP c d j.castSucc hS f) (fun d => qP c d j.castSucc hR f) dirs).trans (chain_pair _ _ hop7)).symm)) $$ [H1 H2]
  · isplitl [H1]; · iexact H1
    iexact H2
  iapply (bigSepL_mono (fun j _ => bigSepL_mono (fun d _ => (pointsTo_share (PosShare.mem_left_op_right fullShare)).2))) $$ H

end Cert.Proof

end

end
-- ==== Proof.Opening.lean ====
/-
  The whole body: the barrier, the queries, the keys and values, the hops, the output, and the waits for what was sent.
-/
module

public import proofs.«01_k».proof.Proof.Pieces

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### The barrier -/

/-- What device `c` owes at the start: the links' arrivals and the two signals. -/
def oweB (c : Dev nD) : CellTallies nD τ sig Unit := oweL c prog + tallyAt (barCell (dest 0 c)) () 1
def owe0 (c : Dev nD) : CellTallies nD τ sig Unit := oweB c + tallyAt (barCell (dest 1 c)) () 1

/-- The two directions undo each other, -/
theorem dest_01 (c : Dev nD) : dest 0 (dest 1 c) = c := by revert c; decide
/-- either way round. -/
theorem dest_10 (c : Dev nD) : dest 1 (dest 0 c) = c := by revert c; decide

/-- The landing pieces, one direction and the other. -/
theorem land_split (c : Dev nD) :
    (bigSep Finset.univ (land c) : sProp 𝕄) = iprop(barPay (dest 1 c) 0 ∗ barPay (dest 0 c) 1) := by
  unfold barPay
  rw [← bigSep_sep']
  refine bigSep_congr fun l _ => ?_
  unfold barOne
  rw [dest_01, dest_10]
  have h2 : ∀ d : Fin 2, d = 0 ∨ d = 1 := by decide
  rcases h2 l.dir with h | h
  · rw [if_pos h, if_neg (by rw [h]; decide)]
    exact (equiv_iff.mp sep_emp).symm
  · rw [if_neg (by rw [h]; decide), if_pos h]
    exact (equiv_iff.mp emp_sep).symm
/-- What the neighbours handed over, link by link. -/
theorem land_join (c : Dev nD) :
    iprop(barPay c 0 ∗ barPay c 1) = (bigSep Finset.univ fun l : Lk => land (dest l.dir c) l : sProp 𝕄) := by
  unfold barPay
  rw [← bigSep_sep']
  refine bigSep_congr fun l _ => ?_
  unfold barOne
  have h2 : ∀ d : Fin 2, d = 0 ∨ d = 1 := by decide
  rcases h2 l.dir with h | h
  · rw [if_pos h, if_neg (by rw [h]; decide), h]
    exact equiv_iff.mp sep_emp
  · rw [if_neg (by rw [h]; decide), if_pos h, h]
    exact equiv_iff.mp emp_sep

/-- What starting the links takes besides the landing pieces. -/
def lTok (c : Dev nD) (l : Lk) : sProp 𝕄 :=
  iprop(dutyTok ER (sndCell c l) 0 0 ∗ dutyTok ER (rcvCell (dest l.dir c) l) 0 0 ∗ atPos ER (sndCell c l) 0 ∅ 0)
/-- What the barrier takes. -/
def bTok (c : Dev nD) : sProp 𝕄 :=
  iprop(cred (tallyAt (barCell c) () 2) ∗ atPos ER (barCell c) 0 ∅ 0
    ∗ dutyTok ER (barCell (dest 1 c)) 0 0 ∗ dutyTok ER (barCell (dest 0 c)) 0 1)

/-- The barrier: each neighbour is signalled and handed the places its transfers land in; after the wait the device
    holds the places its own land in. -/
theorem wp_barrier (c : Dev nD) (k : PR F) (Q : PUnit → sProp 𝕄) :
    iprop(records I K ∗ (∃ W, owes (c : Thread nD τ) (owe0 c) W) ∗ bTok c ∗ bigSep Finset.univ (land c) ∗ bigSep Finset.univ (lTok c)
        ∗ ((Snd c prog ∗ semVal (barCell c) 0) -∗ WP c k Q))
      ⊢ WP c (.op (.semSignal (dest 1 c, .tc) barS 1) fun _ => .op (.semSignal (dest 0 c, .tc) barS 1) fun _ => .op (.semWait barS 2) fun _ => k) Q := by
  rw [land_split]
  unfold bTok owe0
  iintro ⟨#HR, ⟨%W, HO⟩, ⟨Hcr, Hat, Ht1, Ht0⟩, ⟨Hp0, Hp1⟩, HL, Hk⟩
  ihave #Hi := (rec_inv I K (c, none)) $$ HR
  ihave #Hi1 := (rec_inv I K (dest 1 c, none)) $$ HR
  ihave #Hi0 := (rec_inv I K (dest 0 c, none)) $$ HR
  ihave #Hr1 := (rec_reached I K (dest 1 c, none)) $$ HR
  ihave #Hr0 := (rec_reached I K (dest 0 c, none)) $$ HR
  ihave #Hlev := (rec_lev I K) $$ HR
  iapply (Rounds.wp_signal 𝒱₀ ER (Rd I) (c : Thread nD τ) none (dst := ((dest 1 c : Dev nD) : Thread nD τ)) (κ := K (dest 1 c, none))
      (d := (0 : Fin 2)) (by erw [duties_cell I (dest 1 c) none]; exact Finset.mem_univ _) ((amount_cell I (dest 1 c) none 0).trans (by decide)) () (oweB c) rfl)
    $$ [HO Ht1 Hp0]
  · isplitr; · iexact Hi1
    isplitl [HO]; · iexact HO
    isplitl [Ht1]; · iexact Ht1
    isplitl [Hp0]
    · iapply (show (barPay (dest 1 c) 0 : sProp 𝕄) ⊢ (Rd I).payload (((dest 1 c : Dev nD) : Thread nD τ), SemLoc.reg barS) 0 0 from
        Entails.of_eq (payload_cell I (dest 1 c) none 0).symm) $$ Hp0
    iexact Hr1
  iintro HO
  unfold oweB
  iapply (Rounds.wp_signal 𝒱₀ ER (Rd I) (c : Thread nD τ) none (dst := ((dest 0 c : Dev nD) : Thread nD τ)) (κ := K (dest 0 c, none))
      (d := (1 : Fin 2)) (by erw [duties_cell I (dest 0 c) none]; exact Finset.mem_univ _) ((amount_cell I (dest 0 c) none 1).trans (by decide)) () (oweL c prog) rfl)
    $$ [HO Ht0 Hp1]
  · isplitr; · iexact Hi0
    isplitl [HO]; · iexact HO
    isplitl [Ht0]; · iexact Ht0
    isplitl [Hp1]
    · iapply (show (barPay (dest 0 c) 1 : sProp 𝕄) ⊢ (Rd I).payload (((dest 0 c : Dev nD) : Thread nD τ), SemLoc.reg barS) 0 1 from
        Entails.of_eq (payload_cell I (dest 0 c) none 1).symm) $$ Hp1
    iexact Hr0
  iintro HO
  iapply (Rounds.wp_wait_rest_token 𝒱₀ ER (Rd I) (c : Thread nD τ) none (κ := K (c, none))
      (wpE_semWait_eq 𝒱₀ (c : Thread nD τ) none Set.univ) (Set.mem_univ _) () (O := oweL c prog) (W := W) (R := 0) (m := 0) (T := ∅)
      (by erw [expect_bar])) $$ [Hcr HO Hat]
  · isplitr; · iexact Hi
    isplitl [Hcr]; · iexact Hcr
    isplitl [HO]; · iexact HO
    isplitr
    · iapply (mayWait c (.reg barS) prog (by
        rw [show dec (.reg barS : SemLoc sig) = some none from dec_csem none]
        exact restF_lev 1 (by decide) hop7 (fun j _ => by omega)))
      iexact Hlev
    iexact Hat
  iintro ⟨HO, Hat, -, Hpay⟩
  ihave Hp := (show bigSep ((Rd I).duties ((c : Thread nD τ), SemLoc.reg barS) 0 \ ∅) (fun d => (Rd I).payload ((c : Thread nD τ), SemLoc.reg barS) 0 d)
    ⊢ (bigSep Finset.univ fun l : Lk => land (dest l.dir c) l : sProp 𝕄) from Entails.of_eq ((rest_bar I c).trans (land_join c))) $$ Hpay
  imod (Rounds.cell_close ER (Rd I) (Set.mem_univ (K (c, none))) (fun h => h) (R := 0 + 1) (duties_later I (barCell c))) $$ [Hat] with Hz
  · isplitr; · iexact Hi
    iexact Hat
  iapply Hk
  isplitr [Hz]; rotate_left; · iexact Hz
  unfold Snd
  isplitl [HO]; · iexists _; iexact HO
  rw [← links_prog]
  ihave H := (Entails.of_eq (bigSep_sep' Finset.univ (fun l : Lk => land (F := F) (dest l.dir c) l) (lTok c)).symm) $$ [Hp HL]
  · isplitl [Hp]; · iexact Hp
    iexact HL
  iexact H

/-! ### The pieces of the body -/

abbrev xP (c : Dev nD) : sProp 𝕄 := ((c : Thread nD τ).loc cc0_stg0_0) ↦{fullShare} (I.x c : Buf (Elt F) ((c : Thread nD τ).loc cc0_stg0_0))
abbrev wqP (c : Dev nD) : sProp 𝕄 := ((c : Thread nD τ).loc cc0_stg1_0) ↦{fullShare} (I.wq c : Buf (Elt F) ((c : Thread nD τ).loc cc0_stg1_0))
abbrev outP (c : Dev nD) (f : Buf (Elt F) ((c : Thread nD τ).loc cc0_stg3_0)) : sProp 𝕄 := ((c : Thread nD τ).loc cc0_stg3_0) ↦{fullShare} f

/-- Three offsets that are all zero; -/
theorem hz3 : (![0, 0, 0] : Fin 3 → Nat) = fun _ => 0 := funext fun a => by fin_cases a <;> rfl
/-- two of them. -/
theorem hz2 : (![0, 0] : Fin 2 → Nat) = fun _ => 0 := funext fun a => by fin_cases a <;> rfl

/-- The finished directions on their way home. -/
theorem wp_fins (c : Dev nD) (k : PR F) (Q : PUnit → sProp 𝕄) :
    iprop((records I K ∗ Snd c (restF [])) ∗ (bigSepL dirs fun d => iprop((bigSepL tiles (fun t => aP c d 7 t (AccOut I c)) ∗ bigSepL tiles (fun t => mP c d 7 t (MlOut I c)))
          ∗ ∃ f, csP c d f))
        ∗ (((records I K ∗ Snd c []) ∗ (bigSepL dirs fun d => iprop((bigSepL tiles (fun t => aP c d 7 t (AccOut I c)) ∗ bigSepL tiles (fun t => mP c d 7 t (MlOut I c)))
          ∗ cTok c (.x d) false))) -∗ WP c k Q))
      ⊢ WP c (dirs.foldr (finD c) k) Q :=
  wp_foldr c Q (finD c) (fun M => iprop(records I K ∗ Snd c (M.map Lk.x))) _
    (fun d => iprop((bigSepL tiles (fun t => aP c d 7 t (AccOut I c)) ∗ bigSepL tiles (fun t => mP c d 7 t (MlOut I c))) ∗ cTok c (.x d) false))
    dirs (fun d M _ k => wp_finD I K c d (M.map Lk.x) k Q) k

/-- The first states of both directions. -/
theorem wp_inits (c : Dev nD) (k : PR F) (Q : PUnit → sProp 𝕄) :
    iprop((bigSepL dirs fun d => iprop((∃ f, ((c : Thread nD τ).loc cc0_scratch1) ↦[(rQs d 0).set]{fullShare} f) ∗ bigSepL tiles (fun t => iprop(∃ f, mP c d 0 t f))))
        ∗ (bigSepL tds (amIn I c 0) -∗ WP c k Q))
      ⊢ WP c (dirs.foldr initD k) Q := by
  iintro ⟨H, Hk⟩
  iapply (wp_foldr c Q initD (fun _ => iprop(emp)) _
    (fun d => iprop(bigSepL tiles (fun t => aP c d 0 t (AccIn I c)) ∗ bigSepL tiles (fun t => mP c d 0 t (MlIn I c)))) dirs
    (fun d M _ k => by
      iintro ⟨-, H, Hk⟩
      iapply (wp_initD I c d k Q)
      isplitl [H]; · iexact H
      iintro H
      iapply Hk
      isplitr; · iempintro
      iexact H) k)
  isplitr; · iempintro
  isplitl [H]; · iexact H
  iintro ⟨-, H⟩
  iapply Hk
  ihave H := (Entails.of_eq (chain_pair (fun d => bigSepL tiles (fun t => aP c d 0 t (AccIn I c))) (fun d => bigSepL tiles (fun t => mP c d 0 t (MlIn I c))) dirs)) $$ H
  icases H with ⟨H1, H2⟩
  iapply (Entails.of_eq (chain_pair (fun p : Fin 4 × Fin 2 => aP c p.2 0 p.1 (AccIn I c)) (fun p : Fin 4 × Fin 2 => mP c p.2 0 p.1 (MlIn I c)) tds).symm)
  isplitl [H1]
  · iapply (Entails.of_eq (tds_dirs (fun d t => aP c d 0 t (AccIn I c))).symm) $$ H1
  · iapply (Entails.of_eq (tds_dirs (fun d t => mP c d 0 t (MlIn I c))).symm) $$ H2

/-- A store over the whole output. -/
theorem write_out (f w : Vec F S1x256x1024 .f32) :
    ((outM : Memref sig .tc .vmem S1x256x1024 .f32).access (Rect.unit (s := S1x256x1024) ![0, 0, 0] S1x256x1024.size inb_S1x256x1024_S1x256x1024_0_0_0) :
      View sig .tc _ _ _).write (Elt F) f w Finset.univ = w :=
  Memref.write_access_unit_zero_univ (Elt F) cc0_stg3_0 hz3 _ f w

/-- The last store. -/
theorem wp_storeOut (c : Dev nD) (acc : FVec F S256x1024 .f32) (k : PR F) (Q : PUnit → sProp 𝕄) :
    iprop((∃ f, outP c f) ∗ (outP c (shapeCast S1x256x1024 acc shapeCasts_S256x1024_S1x256x1024) -∗ WP c k Q)) ⊢ WP c (storeOut acc k) Q := by
  iintro ⟨⟨%f, H⟩, Hk⟩
  unfold storeOut
  iapply (wp_load 𝒱₀ (c : Thread nD τ) none Set.univ (m := outM) (Finset.subset_univ _)) $$ H; iintro H
  iapply (wp_store 𝒱₀ (c : Thread nD τ) none Set.univ (m := outM)
    (r := Rect.unit (s := S1x256x1024) ![0, 0, 0] S1x256x1024.size inb_S1x256x1024_S1x256x1024_0_0_0) (Mk := Finset.univ) (Finset.subset_univ _)) $$ H
  iintro H
  rw [write_out]
  iapply Hk
  iexact H

end Cert.Proof

end

end
-- ==== Proof.Body.lean ====
/-
  The whole body: the first part up to the last hop, the second from the quotients to the end, and the two put together.
-/
module

public import proofs.«01_k».proof.Proof.Opening

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ)

/-! ### Up to the last hop -/

/-- The rights to wait for hop `j`'s arrivals; -/
abbrev rTok (c : Dev nD) (j : Fin 7) : sProp 𝕄 :=
  iprop((bigSepL dirs fun d => cTok c (.q d j) true) ∗ bigSepL tds (amTok c j true))
/-- their semaphores at zero. -/
abbrev rZ (c : Dev nD) (j : Fin 7) : sProp 𝕄 :=
  iprop((bigSepL dirs fun d => zTok c (.q d j) true) ∗ bigSepL tds (amZ c j true))

/-- What the hops leave, sorted. -/
theorem hopOut_sort (c : Dev nD) :
    (bigSepL hopsL (hopOut I c)) ⊢ iprop((bigSepL hopsL fun j => rZ c j.castSucc) ∗ (bigSepL hopsL fun j => drIn c j.succ)
      ∗ bigSepL hopsL fun j => qR I c j.succ.castSucc hR) := by
  rw [← chain_pair, ← chain_pair]
  refine bigSepL_mono fun j _ => ?_
  unfold hopOut drIn
  rw [chain_pair, chain_pair]
  iintro ⟨⟨⟨H1, H2⟩, H3⟩, H4, H5⟩
  isplitl [H1 H4]
  · isplitl [H1]; · iexact H1
    iexact H4
  isplitl [H2 H5]
  · isplitl [H2]; · iexact H2
    iexact H5
  iexact H3

/-- Where the first part ends. -/
def mid (c : Dev nD) : sProp 𝕄 :=
  iprop((records I K ∗ Snd c (restF [])) ∗ KV I c ∗ (bigSepL hop7 (rZ c)) ∗ (bigSepL hop7 (drIn c))
    ∗ ((bigSepL hop7 fun j => qR I c j.castSucc hR) ∗ qR I c 7 fullShare) ∗ bigSepL tds (amOut I c 7))

/-- The hops, from the states of the device's own slot. -/
theorem wp_allHops (c : Dev nD) (k : PR F) (Q : PUnit → sProp 𝕄) :
    iprop((records I K ∗ Snd c (tdL 0 tds ++ restF (hopsL.map Fin.succ))) ∗ (bigSepL dirs fun d => iprop(qP c d 0 hR (Qb I c) ∗ cTok c (.q d 0) false)) ∗ KV I c
        ∗ bigSepL tds (amIn I c 0) ∗ bigSepL hop7 (rTok c) ∗ (mid I K c -∗ WP c k Q))
      ⊢ WP c (phase0 c <| hopsL.foldr (hop c) <| hopLast k) Q := by
  rw [chain_pair, hop7_last]
  iintro ⟨HS, ⟨Hq, Ht0⟩, HKV, Ham, ⟨Hr, Hr6⟩, Hk⟩
  iapply (wp_phase0 I K c (restF (hopsL.map Fin.succ)) _ Q)
  isplitl [HS Hq HKV]
  · isplitl [HS]; · iexact HS
    isplitl [Hq]; · iexact Hq
    iexact HKV
  isplitl [Ham]; · iexact Ham
  iintro ⟨⟨HS, Hq, HKV⟩, Hm0⟩
  iapply (wp_hops I K c _ Q)
  isplitl [HS HKV]
  · isplitl [HS]; · iexact HS
    iexact HKV
  isplitl [Hr]; · iexact Hr
  iintro ⟨⟨HS, HKV⟩, HH⟩
  ihave HH := (hopOut_sort I c) $$ HH
  icases HH with ⟨Hz, Hd, Hqs⟩
  iapply (wp_hopLast I K c (restF []) (restF_lev 8 (by decide) [] (fun _ h => absurd h List.not_mem_nil)) k Q)
  isplitl [HS HKV]
  · isplitl [HS]; · iexact HS
    iexact HKV
  isplitl [Hr6]; · iexact Hr6
  iintro ⟨⟨HS, HKV⟩, ⟨Hz6, Hq7⟩, H6⟩
  ihave H6 := (Entails.of_eq (chain_pair (amZ c 6 true) (amOut I c 7) tds)) $$ H6
  icases H6 with ⟨Hzm6, Ham⟩
  iapply Hk
  unfold mid
  rw [hop7_last (rZ c), hop7_first (drIn c), hop7_first (fun j => qR I c j.castSucc hR)]
  isplitl [HS]; · iexact HS
  isplitl [HKV]; · iexact HKV
  isplitl [Hz Hz6 Hzm6]
  · isplitl [Hz]; · iexact Hz
    isplitl [Hz6]; · iexact Hz6
    iexact Hzm6
  isplitl [Hd Ht0 Hm0]
  · isplitr [Hd]; rotate_left; · iexact Hd
    unfold drIn
    isplitl [Ht0]; · iexact Ht0
    iexact Hm0
  isplitr [Ham]; rotate_left; · iexact Ham
  isplitr [Hq7]; rotate_left; · iexact Hq7
  isplitl [Hq]; · iexact Hq
  iexact Hqs

/-- The first part. -/
theorem wp_firstPart (c : Dev nD) (k : PR F) (Q : PUnit → sProp 𝕄) :
    iprop((records I K ∗ Snd c prog) ∗ first c ∗ (bigSepL [0, 1, 2, 3, 4, 5, 6, 7] (kvPiece I c) ∗ stRes c) ∗ (anyB c cc0_scratch3 ∗ anyB c cc0_scratch4)
        ∗ (xP I c ∗ wqP I c) ∗ bigSepL hop7 (rTok c)
        ∗ ((mid I K c ∗ (bigSepL [0, 1, 2, 3, 4, 5, 6, 7] (kvPiece I c) ∗ stRes c) ∗ (xP I c ∗ wqP I c)) -∗ WP c k Q))
      ⊢ WP c (.op (.load xM (Rect.unit (s := S1x256x1024) ![0, 0, 0] S1x256x1024.size inb_S1x256x1024_S1x256x1024_0_0_0).toLoadRect
          (View.loadsAt_vmem h_S1x256x1024)) fun x =>
        .op (.load wqM (Rect.unit (s := S1024x1024) ![0, 0] S1024x1024.size inb_S1024x1024_S1024x1024_0_0).toLoadRect
          (View.loadsAt_vmem h_S1024x1024)) fun wq =>
        phaseQ c (qVal x wq) <| phaseKV <| dirs.foldr initD <| phase0 c <| hopsL.foldr (hop c) <| hopLast k) Q := by
  unfold first
  iintro ⟨⟨#HR, HS⟩, ⟨Hq, Hi⟩, Hst, Hkv, ⟨Hx, Hw⟩, Hr, Hk⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  rw [show (xM : Memref sig .tc .vmem S1x256x1024 .f32).view.readAt (Elt F)
      (Rect.unit (s := S1x256x1024) ![0, 0, 0] S1x256x1024.size inb_S1x256x1024_S1x256x1024_0_0_0).toLoadRect (I.x c) = I.x c from
        Memref.readAt_unit_zero (Elt F) cc0_stg0_0 hz3 _ (I.x c),
    show (wqM : Memref sig .tc .vmem S1024x1024 .f32).view.readAt (Elt F)
      (Rect.unit (s := S1024x1024) ![0, 0] S1024x1024.size inb_S1024x1024_S1024x1024_0_0).toLoadRect (I.wq c) = I.wq c from
        Memref.readAt_unit_zero (Elt F) cc0_stg1_0 hz2 _ (I.wq c)]
  iapply (wp_phaseQ I K c (tdL 0 tds ++ restF (hopsL.map Fin.succ)) _ Q)
  isplitl [HS]
  · isplitr; · iexact HR
    iapply (show Snd c prog ⊢ Snd c (dirs.map (fun d => Lk.q d 0) ++ (tdL 0 tds ++ restF (hopsL.map Fin.succ))) from Entails.of_eq (congrArg (Snd c) (restF_cons 0 _))) $$ HS
  isplitl [Hq]; · iexact Hq
  iintro ⟨⟨-, HS⟩, Hq⟩
  iapply (wp_phaseKV I K c (tdL 0 tds ++ restF (hopsL.map Fin.succ)) (fun l hl => by
    rcases List.mem_append.mp hl with hl | hl
    · rw [tdL_lev _ _ l hl]; omega
    · exact restF_lev 0 (by decide) _ (fun j _ => by omega) l hl) _ Q)
  isplitl [HS]
  · isplitr; · iexact HR
    iexact HS
  isplitl [Hst]; · iexact Hst
  isplitl [Hkv]; · iexact Hkv
  iintro ⟨HS, Hst, HK, HV⟩
  iapply (wp_inits I c _ Q)
  isplitl [Hi]; · iexact Hi
  iintro Ham
  iapply (wp_allHops I K c _ Q)
  isplitl [HS]
  · isplitr; · iexact HR
    iexact HS
  isplitl [Hq]; · iexact Hq
  isplitl [HK HV]
  · isplitl [HK]; · iexact HK
    iexact HV
  isplitl [Ham]; · iexact Ham
  isplitl [Hr]; · iexact Hr
  iintro Hm
  iapply Hk
  isplitl [Hm]; · iexact Hm
  isplitl [Hst]; · iexact Hst
  isplitl [Hx]; · iexact Hx
  iexact Hw

/-! ### From the quotients to the end -/

/-- The body's return. -/
theorem wp_done (c : Dev nD) (Q : PUnit → sProp 𝕄) : Q ⟨⟩ ⊢ WP c (.ret PUnit.unit : PR F) Q := by
  unfold WP
  rw [wp_ret]
  iintro H
  imodintro
  iexact H

/-- The end of the body: from the finished last slot to the output, with every send waited for and everything
    handed back. -/
theorem wp_secondPart (c : Dev nD) (Q : PUnit → sProp 𝕄) :
    iprop((records I K ∗ Snd c (restF [])) ∗ bigSepL tds (amOut I c 7) ∗ anyB c cc0_scratch5 ∗ (bigSepL dirs fun d => cTok c (.x d) true)
        ∗ woP I c ∗ (∃ f, outP c f) ∗ bigSepL hop7 (drIn c)
        ∗ ((Snd c [] ∗ bigSepL tds (amOut I c 7) ∗ anyB c cc0_scratch5 ∗ anyB c cc0_scratch6
            ∗ woP I c ∗ outP c (outV I c) ∗ bigSepL hop7 (drOut I c) ∗ bigSepL dirs fun d => iprop(zTok c (.x d) false ∗ zTok c (.x d) true)) -∗ Q ⟨⟩))
      ⊢ WP c (dirs.foldr (finD c) <| dirs.foldr (fun d k => waitCs d <| waitCr d k) <|
          outLoop heads (broadcast S256x1024 (Scalar.ofBits .f32 0x00000000#32)) fun acc =>
          storeOut acc <| hop7.foldr drain <| .ret PUnit.unit) Q := by
  have ham : (bigSepL tds (amOut I c 7) : sProp 𝕄) = bigSepL dirs fun d =>
      iprop(bigSepL tiles (fun t => aP c d 7 t (AccOut I c)) ∗ bigSepL tiles (fun t => mP c d 7 t (MlOut I c))) := by
    rw [chain_pair, chain_pair, ← tds_dirs, ← tds_dirs]
  rw [ham]
  iintro ⟨HS, Ham, ⟨%fc, Hc⟩, Hx, Hwo, Hout, Hd, Hk⟩
  iapply (wp_fins I K c _ Q)
  isplitl [HS]; · iexact HS
  isplitl [Ham Hc]
  · iapply (Entails.of_eq (chain_pair (fun d => iprop(bigSepL tiles (fun t => aP c d 7 t (AccOut I c)) ∗ bigSepL tiles (fun t => mP c d 7 t (MlOut I c)))) (fun d => iprop(∃ f, csP c d f)) dirs).symm)
    isplitl [Ham]; · iexact Ham
    ihave Hc := (Entails.of_eq (cs_dirs c fc)) $$ Hc
    iapply (bigSepL_mono (fun d _ => by iintro H; iexists _; iexact H)) $$ Hc
  iintro ⟨HS, H⟩
  ihave H := (Entails.of_eq (chain_pair (fun d => iprop(bigSepL tiles (fun t => aP c d 7 t (AccOut I c)) ∗ bigSepL tiles (fun t => mP c d 7 t (MlOut I c)))) (fun d => cTok c (.x d) false) dirs)) $$ H
  icases H with ⟨Ham, Hcx⟩
  iapply (wp_ctx I K c _ Q)
  isplitl [HS]; · iexact HS
  isplitl [Hx Hcx]
  · iapply (Entails.of_eq (chain_pair (fun d => cTok c (.x d) false) (fun d => cTok c (.x d) true) dirs).symm)
    isplitl [Hcx]; · iexact Hcx
    iexact Hx
  iintro ⟨HS, H⟩
  ihave H := (Entails.of_eq ((chain_pair (fun d => iprop(sent I c (.x d) ∗ landed I c (.x d))) (fun d => iprop(zTok c (.x d) false ∗ zTok c (.x d) true)) dirs).trans
    (congrArg (fun X : sProp 𝕄 => iprop(X ∗ _)) (chain_pair (fun d => sent I c (.x d)) (fun d => landed I c (.x d)) dirs)))) $$ H
  icases H with ⟨⟨Hcs, Hcr⟩, Hzx⟩
  ihave Hcs := (show (bigSepL dirs fun d => sent I c (.x d)) ⊢ (((c : Thread nD τ).loc cc0_scratch5) ↦{fullShare} (Cs I c) : sProp 𝕄) from
    Entails.of_eq (cs_dirs c (Cs I c)).symm) $$ Hcs
  ihave Hcr := (show (bigSepL dirs fun d => landed I c (.x d)) ⊢ (((c : Thread nD τ).loc cc0_scratch6) ↦{fullShare} (Cr I c) : sProp 𝕄) from
    Entails.of_eq (cr_dirs c (Cr I c)).symm) $$ Hcr
  iapply (wp_outLoop I c Q heads _ _)
  isplitl [Hcr]; · iexact Hcr
  isplitl [Hwo]; · iexact Hwo
  iintro ⟨Hcr, Hwo⟩
  iapply (wp_storeOut c _ _ Q)
  isplitl [Hout]; · iexact Hout
  iintro Hout
  iapply (wp_drains I K c hop7 _ Q)
  isplitl [HS]; · iexact HS
  isplitl [Hd]; · iexact Hd
  iintro ⟨⟨-, HS⟩, Hd⟩
  iapply (wp_done c Q)
  iapply Hk
  isplitl [HS]; · iexact HS
  isplitl [Ham]; · iexact Ham
  isplitl [Hcs]; · iexists _; iexact Hcs
  isplitl [Hcr]; · iexists _; iexact Hcr
  isplitl [Hwo]; · iexact Hwo
  isplitl [Hout]; · iexact Hout
  isplitl [Hd]; · iexact Hd
  iexact Hzx

/-! ### The whole -/

/-- The local copies' semaphores. -/
def cpZ (c : Dev nD) : sProp 𝕄 := iprop(kZ c 0 ∗ kZ c 1 ∗ vZ c 0 ∗ vZ c 1)
/-- The scratch buffers. -/
def scr (c : Dev nD) : sProp 𝕄 :=
  iprop(anyB c cc0_scratch0 ∗ anyB c cc0_scratch1 ∗ anyB c cc0_scratch2 ∗ anyB c cc0_scratch3 ∗ anyB c cc0_scratch4 ∗ anyB c cc0_scratch5
    ∗ anyB c cc0_scratch6 ∗ anyB c cc0_scratch7 ∗ anyB c cc0_scratch8)
/-- The keys and values in memory. -/
def kvP (c : Dev nD) : sProp 𝕄 :=
  iprop((((c : Thread nD τ).loc main_arg2) ↦{fullShare} (I.k c : Buf (Elt F) ((c : Thread nD τ).loc main_arg2)))
    ∗ (((c : Thread nD τ).loc main_arg3) ↦{fullShare} (I.v c : Buf (Elt F) ((c : Thread nD τ).loc main_arg3))))

/-- A device's keys and values, held head by head. -/
theorem kv_pieces (c : Dev nD) : kvP I c = (bigSepL [0, 1, 2, 3, 4, 5, 6, 7] (kvPiece I c) : sProp 𝕄) := by
  unfold kvP
  rw [k_pieces, v_pieces, ← chain_pair]

/-- The staging buffers cut in slots. -/
theorem st_cut (c : Dev nD) : iprop(anyB c cc0_scratch7 ∗ anyB c cc0_scratch8 ∗ cpZ c) ⊢ (stRes c : sProp 𝕄) := by
  unfold cpZ stRes
  iintro ⟨⟨%f7, H7⟩, ⟨%f8, H8⟩, Hz1, Hz2, Hz3, Hz4⟩
  ihave H7 := (Entails.of_eq (kg_slots c f7)) $$ H7
  ihave H8 := (Entails.of_eq (vg_slots c f8)) $$ H8
  icases H7 with ⟨H7, H7'⟩
  icases H8 with ⟨H8, H8'⟩
  isplitl [H7 H8 Hz1 Hz3]
  · isplitl [H7]; · iexists _; iexact H7
    isplitl [H8]; · iexists _; iexact H8
    isplitl [Hz1]; · iexact Hz1
    iexact Hz3
  isplitl [H7']; · iexists _; iexact H7'
  isplitl [H8']; · iexists _; iexact H8'
  isplitl [Hz2]; · iexact Hz2
  iexact Hz4
/-- The two slots of a staging buffer make up the whole buffer. -/
theorem rG_all : (rG 0).set ∪ (rG 1).set = Finset.univ := Finset.ext fun i => ⟨fun _ => Finset.mem_univ _, fun _ => by
  obtain ⟨b, hb⟩ := rG_slots i
  have h2 : ∀ b : Fin 2, b = 0 ∨ b = 1 := by decide
  rcases h2 b with rfl | rfl
  · exact Finset.mem_union_left _ hb
  · exact Finset.mem_union_right _ hb⟩
/-- Two slots of a staging buffer together. -/
theorem kg_glue (c : Dev nD) : iprop((∃ f, kgP c 0 f) ∗ (∃ f, kgP c 1 f)) ⊢ (anyB c cc0_scratch7 : sProp 𝕄) := by
  iintro ⟨⟨%f, H⟩, ⟨%g, H'⟩⟩
  ihave H := (pointsTo_join (ℓ := (c : Thread nD τ).loc cc0_scratch7) (q := fullShare) (f := f) (g := g) (I := (rG 0).set) (J := (rG 1).set) (rG_disj 0 1 (by decide))) $$ [H H']
  · isplitl [H]; · iexact H
    iexact H'
  ihave H := (Entails.of_eq (pts_set (ℓ := (c : Thread nD τ).loc cc0_scratch7) (q := fullShare) (f := (rG 1).set.piecewise g f) rG_all)) $$ H
  iexists _
  iexact H
/-- Two slots of a staging buffer together. -/
theorem vg_glue (c : Dev nD) : iprop((∃ f, vgP c 0 f) ∗ (∃ f, vgP c 1 f)) ⊢ (anyB c cc0_scratch8 : sProp 𝕄) := by
  iintro ⟨⟨%f, H⟩, ⟨%g, H'⟩⟩
  ihave H := (pointsTo_join (ℓ := (c : Thread nD τ).loc cc0_scratch8) (q := fullShare) (f := f) (g := g) (I := (rG 0).set) (J := (rG 1).set) (rG_disj 0 1 (by decide))) $$ [H H']
  · isplitl [H]; · iexact H
    iexact H'
  ihave H := (Entails.of_eq (pts_set (ℓ := (c : Thread nD τ).loc cc0_scratch8) (q := fullShare) (f := (rG 1).set.piecewise g f) rG_all)) $$ H
  iexists _
  iexact H
/-- The staging buffers together. -/
theorem st_glue (c : Dev nD) : stRes c ⊢ (iprop(anyB c cc0_scratch7 ∗ anyB c cc0_scratch8 ∗ cpZ c) : sProp 𝕄) := by
  unfold cpZ stRes
  iintro ⟨⟨H7, H8, Hz1, Hz3⟩, H7', H8', Hz2, Hz4⟩
  isplitl [H7 H7']
  · iapply (kg_glue c)
    isplitl [H7]; · iexact H7
    iexact H7'
  isplitl [H8 H8']
  · iapply (vg_glue c)
    isplitl [H8]; · iexact H8
    iexact H8'
  isplitl [Hz1]; · iexact Hz1
  isplitl [Hz2]; · iexact Hz2
  isplitl [Hz3]; · iexact Hz3
  iexact Hz4

/-- What the waits for what was sent give, sorted. -/
theorem drOut_sort (c : Dev nD) :
    (bigSepL hop7 (drOut I c)) ⊢ iprop((bigSepL hop7 fun j => bigSepL dirs fun d => qP c d j.castSucc hS (Qb I c))
      ∗ (bigSepL hop7 fun j => bigSepL tds fun p => aP c p.2 j.castSucc p.1 (AccOut I c))
      ∗ (bigSepL hop7 fun j => bigSepL tds fun p => mP c p.2 j.castSucc p.1 (MlOut I c))
      ∗ bigSepL hop7 fun j => iprop((bigSepL dirs fun d => zTok c (.q d j) false) ∗ bigSepL tds (amZ c j false))) := by
  rw [← chain_pair, ← chain_pair, ← chain_pair]
  refine bigSepL_mono fun j _ => ?_
  unfold drOut
  rw [chain_pair, chain_pair, chain_pair]
  unfold sent
  iintro ⟨⟨H1, H2⟩, ⟨H3, H4⟩, H5⟩
  isplitl [H1]; · iexact H1
  isplitl [H3]; · iexact H3
  isplitl [H4]; · iexact H4
  isplitl [H2]; · iexact H2
  iexact H5

/-- All the links' semaphores at zero. -/
def allZ (c : Dev nD) : sProp 𝕄 := iprop((bigSep Finset.univ fun l => zTok c l false) ∗ bigSep Finset.univ fun l => zTok c l true)

/-- What the body starts from, -/
def bodyIn (c : Dev nD) : sProp 𝕄 :=
  iprop((∃ W, owes (c : Thread nD τ) (owe0 c) W) ∗ bTok c ∗ bigSep Finset.univ (lTok c) ∗ (bigSep Finset.univ fun l => cTok c l true)
    ∗ cpZ c ∗ scr c ∗ kvP I c ∗ (xP I c ∗ wqP I c ∗ woP I c ∗ ∃ f, outP c f))
/-- and what it leaves. -/
def bodyOut (c : Dev nD) : sProp 𝕄 :=
  iprop((∃ W, owes (c : Thread nD τ) (0 : CellTallies nD τ sig Unit) W) ∗ semVal (barCell c) 0 ∗ allZ c
    ∗ cpZ c ∗ scr c ∗ kvP I c ∗ (xP I c ∗ wqP I c ∗ woP I c ∗ outP c (outV I c)))

/-- The whole body: from what the launch provides it runs without fault, leaves the output block `outV` and hands
    everything else back. -/
theorem wp_body (c : Dev nD) (Q : PUnit → sProp 𝕄) :
    iprop(records I K ∗ bodyIn I c ∗ (bodyOut I c -∗ Q ⟨⟩)) ⊢ WP c (bodyS (F := F)) Q := by
  unfold bodyS bodyIn scr
  simp only [wp_deviceId]
  rw [kv_pieces, links_hops (fun l => cTok c l true)]
  iintro ⟨#HR, ⟨HO, Hb, Hl, ⟨Hr, Hx⟩, Hcp, ⟨H0, H1, H2, H3, H4, H5, H6, H7, H8⟩, HKV, ⟨Hxp, Hwq, Hwo, Hout⟩⟩, Hk⟩
  ihave Hcut := (cut c) $$ [H0 H1 H2 H6]
  · isplitl [H0]; · iexact H0
    isplitl [H1]; · iexact H1
    isplitl [H2]; · iexact H2
    iexact H6
  icases Hcut with ⟨Hf, Hland⟩
  ihave Hst := (st_cut c) $$ [H7 H8 Hcp]
  · isplitl [H7]; · iexact H7
    isplitl [H8]; · iexact H8
    iexact Hcp
  iapply (wp_barrier I K c _ Q)
  isplitr; · iexact HR
  isplitl [HO]; · iexact HO
  isplitl [Hb]; · iexact Hb
  isplitl [Hland]; · iexact Hland
  isplitl [Hl]; · iexact Hl
  iintro ⟨HS, Hzb⟩
  iapply (wp_firstPart I K c _ Q)
  isplitl [HS]
  · isplitr; · iexact HR
    iexact HS
  isplitl [Hf]; · iexact Hf
  isplitl [HKV Hst]
  · isplitl [HKV]; · iexact HKV
    iexact Hst
  isplitl [H3 H4]
  · isplitl [H3]; · iexact H3
    iexact H4
  isplitl [Hxp Hwq]
  · isplitl [Hxp]; · iexact Hxp
    iexact Hwq
  isplitl [Hr]; · iexact Hr
  unfold mid
  iintro ⟨⟨HS, ⟨H3, H4⟩, Hrz, Hd, ⟨HqR, Hq7⟩, Ham⟩, ⟨HKV, Hst⟩, Hxp, Hwq⟩
  iapply (wp_secondPart I K c Q)
  isplitl [HS]; · iexact HS
  isplitl [Ham]; · iexact Ham
  isplitl [H5]; · iexact H5
  isplitl [Hx]; · iexact Hx
  isplitl [Hwo]; · iexact Hwo
  isplitl [Hout]; · iexact Hout
  isplitl [Hd]; · iexact Hd
  iintro ⟨HS, Ham, H5, H6, Hwo, Hout, Hd, Hzx⟩
  ihave Hst := (st_glue c) $$ Hst
  icases Hst with ⟨H7, H8, Hcp⟩
  ihave Hd := (drOut_sort I c) $$ Hd
  icases Hd with ⟨HqS, Ha, Hm, Hsz⟩
  ihave Ham := (Entails.of_eq (chain_pair (fun p : Fin 4 × Fin 2 => aP c p.2 7 p.1 (AccOut I c)) (fun p : Fin 4 × Fin 2 => mP c p.2 7 p.1 (MlOut I c)) tds)) $$ Ham
  icases Ham with ⟨Ha7, Hm7⟩
  ihave Hzx := (Entails.of_eq (chain_pair (fun d => zTok (F := F) c (.x d) false) (fun d => zTok c (.x d) true) dirs)) $$ Hzx
  icases Hzx with ⟨Hzx0, Hzx1⟩
  iapply Hk
  unfold bodyOut scr allZ
  rw [kv_pieces, links_hops (fun l => zTok c l true), links_hops (fun l => zTok c l false)]
  isplitl [HS]
  · unfold Snd
    icases HS with ⟨HO, -⟩
    iexact HO
  isplitl [Hzb]; · iexact Hzb
  isplitl [Hrz Hsz Hzx0 Hzx1]
  · isplitl [Hsz Hzx0]
    · isplitl [Hsz]; · iexact Hsz
      iexact Hzx0
    isplitl [Hrz]; · iexact Hrz
    iexact Hzx1
  isplitl [Hcp]; · iexact Hcp
  isplitr [HKV Hxp Hwq Hwo Hout]
  · isplitl [HqS HqR Hq7]
    · ihave H := (q_join c (Qb I c)) $$ [HqS HqR Hq7]
      · isplitl [HqS]; · iexact HqS
        isplitl [HqR]; · iexact HqR
        iexact Hq7
      iexists _; iexact H
    isplitl [Ha Ha7]
    · ihave H := (Entails.of_eq ((a_slots c (AccOut I c)).trans (slots_last _)).symm) $$ [Ha Ha7]
      · isplitl [Ha]; · iexact Ha
        iexact Ha7
      iexists _; iexact H
    isplitl [Hm Hm7]
    · ihave H := (Entails.of_eq ((m_slots c (MlOut I c)).trans (slots_last _)).symm) $$ [Hm Hm7]
      · isplitl [Hm]; · iexact Hm
        iexact Hm7
      iexists _; iexact H
    isplitl [H3]; · iexists _; iexact H3
    isplitl [H4]; · iexists _; iexact H4
    isplitl [H5]; · iexact H5
    isplitl [H6]; · iexact H6
    isplitl [H7]; · iexact H7
    iexact H8
  isplitl [HKV]; · iexact HKV
  isplitl [Hxp]; · iexact Hxp
  isplitl [Hwq]; · iexact Hwq
  isplitl [Hwo]; · iexact Hwo
  iexact Hout

end Cert.Proof

end

end
-- ==== Proof.Launch.lean ====
/-
  The launch: every device's semaphores become the cells of the exchange, the tokens go to the devices that pay with
  them, and each device is credited with what the others owe it.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ### Sums over cells -/

section Sums
variable {M : Type} [URA M]

/-- A chain over a device's cells: the barrier's summand, then the links'. -/
theorem chain_cells (Φ : CK → sProp M) : bigSep Finset.univ Φ = iprop(Φ none ∗ bigSep Finset.univ fun p => Φ (some p)) := by
  rw [bigSep_univ_equiv ((Equiv.optionEquivSumPUnit.{0, 0} (Lk × Bool)).trans (Equiv.sumComm _ _)).symm Φ, bigSep_univ_sum, Finset.univ_unique, bigSep_singleton]
  rfl

/-- A chain over both ends of the links: the sending ends, then the receiving ends. -/
theorem chain_ends (Φ : Lk × Bool → sProp M) :
    bigSep Finset.univ Φ = iprop((bigSep Finset.univ fun l => Φ (l, false)) ∗ bigSep Finset.univ fun l => Φ (l, true)) := by
  rw [bigSep_univ_equiv (Equiv.prodComm Bool Lk) Φ, bigSep_univ_prod, bigSep_univ_eq_bigSepL [false, true] (by decide) (by decide),
    bigSepL_cons_cons, bigSepL_singleton]
  rfl

end Sums

/-! ### The kernel's own semaphores -/

/-- The semaphores the body names: those of the local copies and those of the links. -/
abbrev OS : Type := (Fin 2 × Fin 2) ⊕ (Lk × Bool)

abbrev osem : OS → SemLoc sig
  | .inl p => .dma (cpS p.1 p.2)
  | .inr p => .dma (p.1.sem p.2)

/-- The number of a local copy's semaphore. -/
theorem cpS_val (p : Fin 2 × Fin 2) : (cpS p.1 p.2).val = 4 + 2 * p.1.val + p.2.val := by revert p; decide +kernel

/-- The staging semaphores of the pipeline are the first four. -/
theorem stage_val : ∀ (w : Fin 4) (s : Fin (spec0 w).nbuf), ((spec0 w).sem s).val < 4 := by decide +kernel

/-- Every copy semaphore belongs to the kernel's scope. -/
theorem dma_scoped : ∀ s : DmaSem sig, (SemLoc.dma s : SemLoc sig).isScoped .tc = true := by decide +kernel

/-- The semaphores the body names are apart from each other and from the pipeline's. -/
theorem ownSemFacts : Pipeline.OwnSemFacts spec0 osem where
  isScoped k := by rcases k with p | p <;> exact dma_scoped _
  inj := by
    rintro (p | ⟨l, b⟩) (p' | ⟨l', b'⟩) h
    · have h1 := congrArg Fin.val (SemLoc.dma.inj h)
      rw [cpS_val, cpS_val] at h1
      have h2 := p.2.isLt; have h3 := p'.2.isLt
      exact congrArg Sum.inl (Prod.ext (Fin.ext (by omega)) (Fin.ext (by omega)))
    · have h1 := congrArg Fin.val (SemLoc.dma.inj h)
      have h2 := Lk.num_ge l' b'
      rw [cpS_val, Lk.sem_val] at h1
      dsimp only at h1
      omega
    · have h1 := congrArg Fin.val (SemLoc.dma.inj h)
      have h2 := Lk.num_ge l b
      rw [cpS_val, Lk.sem_val] at h1
      dsimp only at h1
      omega
    · have h1 := congrArg Fin.val (SemLoc.dma.inj h)
      rw [Lk.sem_val, Lk.sem_val] at h1
      obtain ⟨rfl, rfl⟩ := Lk.num_inj h1
      rfl
  disj := by
    rintro (p | ⟨l, b⟩) w s h
    · have h1 := congrArg Fin.val (SemLoc.dma.inj h)
      have h2 := stage_val w s
      rw [cpS_val] at h1
      omega
    · have h1 := congrArg Fin.val (SemLoc.dma.inj h)
      have h2 := stage_val w s
      have h3 := Lk.num_ge l b
      rw [Lk.sem_val] at h1
      dsimp only at h1
      omega

/-- The body's semaphores at zero: those of the local copies, and two for each link. -/
theorem ownSems0_eq (c : Dev nD) :
    (Pipeline.ownSems0 (Ix := Unit) (Name := ℕ) (U := UU) (Lvl := ℕ) (Val := Elt F) (τ := τ) osem c : sProp 𝕄)
      = iprop(cpZ c ∗ bigSep Finset.univ fun p : Lk × Bool => zTok c p.1 p.2) := by
  unfold Pipeline.ownSems0 cpZ
  rw [bigSep_univ_sum, bigSep_univ_eq_bigSepL [((0 : Fin 2), (0 : Fin 2)), (0, 1), (1, 0), (1, 1)] (by decide) (by decide)]
  rw [bigSepL_cons_cons, bigSepL_cons_cons, bigSepL_cons_cons, bigSepL_singleton]
  rfl

/-- The one semaphore outside the scope is the barrier's. -/
theorem unscopedSems0_eq (c : Dev nD) : (unscopedSems0 c : sProp 𝕄) = semVal (barCell c) 0 := by
  unfold unscopedSems0
  rw [bigSep_eq_bigSepL_of_eq [SemLoc.reg barS] (by decide +kernel) (by decide)]
  rfl

/-! ### Cells and tokens -/

/-- Cells of different devices, or of different links, differ. -/
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- The tokens minted: a barrier cell's two duties and each link cell's one. -/
abbrev Mint : Type := Fin 2 ⊕ (Lk × Bool)
abbrev tokOf (p : Dev nD × Mint) : GSem nD τ sig × ℕ × Fin 2 := match p.2 with
  | .inl d => (barCell p.1, 0, d)
  | .inr q => (kcell (p.1, some q), 0, 0)
/-- Different duties have different tokens. -/
theorem tokOf_inj : Function.Injective tokOf := by
  rintro ⟨c, t⟩ ⟨c', t'⟩ h
  rcases t with d | q <;> rcases t' with d' | q'
  · have h1 := kcell_inj (congrArg Prod.fst h)
    have h2 : d = d' := congrArg (fun x : GSem nD τ sig × ℕ × Fin 2 => x.2.2) h
    rw [show c = c' from congrArg Prod.fst h1, h2]
  · exact absurd (congrArg Prod.snd (kcell_inj (congrArg Prod.fst h))) (fun e => by cases e)
  · exact absurd (congrArg Prod.snd (kcell_inj (congrArg Prod.fst h))) (fun e => by cases e)
  · have h1 := kcell_inj (congrArg Prod.fst h)
    have h2 : q = q' := Option.some.inj (congrArg Prod.snd h1)
    rw [show c = c' from congrArg Prod.fst h1, h2]
def allToks : Finset (GSem nD τ sig × ℕ × Fin 2) := Finset.univ.map ⟨tokOf, tokOf_inj⟩

def u₀ : UU :=
  (initOf (Pipeline.cells cfgs cellOf_inj) (Pipeline.launchToks cfgs cellOf_inj), (initOf allCells allToks, 1))

/-- The tokens of a device's own cells. -/
def toks (c : Dev nD) : sProp 𝕄 :=
  iprop((dutyTok ER (barCell c) 0 0 ∗ dutyTok ER (barCell c) 0 1)
    ∗ (bigSep Finset.univ fun l => dutyTok ER (sndCell c l) 0 0) ∗ bigSep Finset.univ fun l => dutyTok ER (rcvCell c l) 0 0)

/-- What each device is dealt. -/
def G0 (c : Dev nD) : sProp 𝕄 :=
  iprop((bigSep Finset.univ fun k : CK => roundState ER (Rd I) (kcell (c, k)) 0)
    ∗ (bigSep Finset.univ fun k : CK => reached ER (kcell (c, k)) 0) ∗ (bigSep Finset.univ fun k : CK => atPos ER (kcell (c, k)) 0 ∅ 0) ∗ toks c)

/-- All tokens, dealt device by device. -/
theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [bigSep_univ_sum, chain_ends, bigSep_univ_eq_bigSepL [(0 : Fin 2), 1] (by decide) (by decide), bigSepL_cons_cons, bigSepL_singleton]
  rfl

/-- A family over all cells, arranged by device. -/
theorem cells_eq (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

/-- The ghost state at the start gives each device its cells' states and tokens. -/
theorem deal : BI.own (ER (initOf allCells allToks)) ⊢ (|==> bigSep Finset.univ (G0 I) : sProp 𝕄) := by
  iintro HX
  imod (Rounds.fund ER (Rd I) allCells allToks) $$ HX with ⟨Hst, Hr, Hat, Htok⟩
  imodintro
  ihave Hst := (Entails.of_eq (cells_eq fun g => roundState ER (Rd I) g 0)) $$ Hst
  ihave Hat := (Entails.of_eq (cells_eq (F := F) fun g => atPos ER g 0 ∅ 0)) $$ Hat
  ihave Hr := (Entails.of_eq (cells_eq (F := F) fun g => reached ER g 0)) $$ Hr
  ihave Htok := (Entails.of_eq (toks_eq (F := F))) $$ Htok
  unfold G0; simp only [bigSep_sep']
  isplitl [Hst]; · iexact Hst
  isplitl [Hr]; · iexact Hr
  isplitl [Hat]; · iexact Hat
  iexact Htok

/-- One device's cells opened for business. -/
theorem open_cells (c : Dev nD) :
    iprop(Pipeline.ownSems0 (Ix := Unit) (Name := ℕ) (U := UU) (Lvl := ℕ) (Val := Elt F) (τ := τ) osem c ∗ unscopedSems0 c ∗ G0 I c)
      ⊢ |={Set.univ}=> iprop((bigSep Finset.univ fun k : CK => iprop(∃ κ : ℕ, cellInv ER (Rd I) κ (kcell (c, k))))
          ∗ (bigSep Finset.univ fun k : CK => reached ER (kcell (c, k)) 0) ∗ (bigSep Finset.univ fun k : CK => atPos ER (kcell (c, k)) 0 ∅ 0)
          ∗ toks c ∗ cpZ c) := by
  unfold G0
  rw [ownSems0_eq, unscopedSems0_eq]
  iintro ⟨⟨Hcp, Hz⟩, Hb, Hst, Hr, Hat, Htok⟩
  imod (show iprop((semVal (barCell c) 0 ∗ bigSep Finset.univ fun p : Lk × Bool => zTok c p.1 p.2)
      ∗ bigSep Finset.univ fun k : CK => roundState ER (Rd I) (kcell (c, k)) 0)
      ⊢ (|={Set.univ}=> bigSep Finset.univ fun k : CK => iprop(∃ κ : ℕ, cellInv ER (Rd I) κ (kcell (c, k))) : sProp 𝕄) from by
        rw [show iprop(semVal (barCell c) 0 ∗ bigSep Finset.univ fun p : Lk × Bool => zTok c p.1 p.2)
          = (bigSep Finset.univ fun k : CK => semVal (kcell (c, k)) 0 : sProp 𝕄) from (chain_cells fun k : CK => semVal (kcell (c, k)) 0).symm, ← bigSep_sep']
        exact (bigSep_mono fun k _ => (Rounds.body_intro ER (Rd I) (kcell (c, k))).trans inv_alloc).trans (bigSep_fupd _ _)) $$ [Hb Hz Hst] with Hinv
  · isplitl [Hb Hz]
    · isplitl [Hb]; · iexact Hb
      iexact Hz
    iexact Hst
  imodintro
  isplitl [Hinv]; · iexact Hinv
  isplitl [Hr]; · iexact Hr
  isplitl [Hat]; · iexact Hat
  isplitl [Htok]; · iexact Htok
  iexact Hcp

/-! ### The tokens go to those who pay -/

def around (d : Fin 2) : Dev nD ≃ Dev nD := ⟨dest d, src d, src_dest d, dest_src d⟩

/-- The tokens a device pays with. -/
def pays (c : Dev nD) : sProp 𝕄 :=
  iprop((dutyTok ER (barCell (dest 1 c)) 0 0 ∗ dutyTok ER (barCell (dest 0 c)) 0 1)
    ∗ (bigSep Finset.univ fun l : Lk => dutyTok ER (sndCell c l) 0 0) ∗ bigSep Finset.univ fun l : Lk => dutyTok ER (rcvCell (dest l.dir c) l) 0 0)

/-- The tokens of all devices' own cells are the tokens all devices pay with: each goes to the device that will
    signal. -/
theorem toks_around : (bigSep Finset.univ fun c : Dev nD => (toks c : sProp 𝕄)) = bigSep Finset.univ fun c : Dev nD => pays c := by
  unfold toks pays
  rw [bigSep_sep', bigSep_sep', bigSep_sep', bigSep_sep', bigSep_sep', bigSep_sep']
  congr 1
  · congr 1
    · exact bigSep_univ_equiv (around 1) (fun c : Dev nD => (dutyTok ER (barCell c) 0 0 : sProp 𝕄))
    · exact bigSep_univ_equiv (around 0) (fun c : Dev nD => (dutyTok ER (barCell c) 0 1 : sProp 𝕄))
  · congr 1
    rw [Pipeline.bigSep_univ_comm, Pipeline.bigSep_univ_comm (fun (c : Dev nD) (l : Lk) => (dutyTok ER (rcvCell (dest l.dir c) l) 0 0 : sProp 𝕄))]
    exact bigSep_congr fun l _ => bigSep_univ_equiv (around l.dir) (fun c : Dev nD => (dutyTok ER (rcvCell c l) 0 0 : sProp 𝕄))

/-- What a device keeps for itself. -/
def mine (c : Dev nD) : sProp 𝕄 :=
  iprop((bigSep Finset.univ fun k : CK => atPos ER (kcell (c, k)) 0 ∅ 0) ∗ pays c ∗ cpZ c)

/-- The cells' records without the levels. -/
def cellsKnown (K : Dev nD × CK → ℕ) : sProp 𝕄 :=
  iprop((bigSep Finset.univ fun p : Dev nD × CK => cellInv ER (Rd I) (K p) (kcell p)) ∗ bigSep Finset.univ fun p : Dev nD × CK => reached ER (kcell p) 0)

instance cellsKnown_persistent (K : Dev nD × CK → ℕ) : BI.Persistent (cellsKnown I K) := by unfold cellsKnown; infer_instance

def G1 (c : Dev nD) : sProp 𝕄 := iprop(∃ K, cellsKnown I K ∗ mine c)

/-- Something everybody may know is given to each member of a family. -/
theorem chain_with {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Opened cells and tokens, regrouped: every device knows all the cells and holds what it pays with. -/
theorem regroup :
    (bigSep Finset.univ fun c : Dev nD => iprop((bigSep Finset.univ fun k : CK => iprop(∃ κ : ℕ, cellInv ER (Rd I) κ (kcell (c, k))))
          ∗ (bigSep Finset.univ fun k : CK => reached ER (kcell (c, k)) 0) ∗ (bigSep Finset.univ fun k : CK => atPos ER (kcell (c, k)) 0 ∅ 0)
          ∗ toks c ∗ cpZ c) : sProp 𝕄)
      ⊢ bigSep Finset.univ (G1 I) := by
  rw [bigSep_sep', bigSep_sep', bigSep_sep', bigSep_sep', ← bigSep_univ_prod (fun p : Dev nD × CK => iprop(∃ κ : ℕ, cellInv ER (Rd I) κ (kcell p))),
    ← bigSep_univ_prod (fun p : Dev nD × CK => (reached ER (kcell p) 0 : sProp 𝕄)), toks_around]
  iintro ⟨HI, #HR, Hat, Htok, Hcp⟩
  ihave HK := (BI.bigSep_exists_pi Finset.univ (fun (p : Dev nD × CK) (κ : ℕ) => (cellInv ER (Rd I) κ (kcell p) : sProp 𝕄))) $$ HI
  icases HK with ⟨%K, #HI⟩
  iapply (chain_with (R := cellsKnown I K) (Φ := mine) fun c _ => show iprop(cellsKnown I K ∗ mine c) ⊢ G1 I c from by
    unfold G1
    iintro H
    iexists K
    iexact H)
  isplitr
  · unfold cellsKnown; isplitl; · iexact HI
    iexact HR
  · unfold mine
    rw [bigSep_sep', bigSep_sep']
    isplitl [Hat]; · iexact Hat
    isplitl [Htok]; · iexact Htok
    iexact Hcp

/-- All devices' semaphores and ghost states together become what each device starts from. -/
theorem glob :
    (bigSep Finset.univ fun c => iprop(Pipeline.ownSems0 (Ix := Unit) (Name := ℕ) (U := UU) (Lvl := ℕ) (Val := Elt F) (τ := τ) osem c ∗ unscopedSems0 c ∗ G0 I c) : sProp 𝕄)
      ⊢ |={Set.univ}=> bigSep Finset.univ (G1 I) :=
  ((bigSep_mono fun c _ => open_cells I c).trans (bigSep_fupd _ _)).trans (BI.fupd_mono (regroup I))

/-! ### Credit -/

/-- Receive cells agree only for the same device and link. -/
theorem rcv_eq_iff {a b : Dev nD} {l l' : Lk} : (rcvCell a l = rcvCell b l') ↔ a = b ∧ l = l' :=
  ⟨fun h => by
    have := kcell_inj h
    exact ⟨congrArg Prod.fst this, (Prod.mk.inj (Option.some.inj (congrArg Prod.snd this))).1⟩, fun ⟨h1, h2⟩ => by rw [h1, h2]⟩
/-- A barrier cell is no receive cell. -/
theorem bar_ne_rcv (a b : Dev nD) (l : Lk) : barCell a ≠ rcvCell b l := fun h => by
  have := congrArg Prod.snd (kcell_inj h); cases this

/-- The links owe nothing to a barrier cell. -/
theorem oweL_bar (d c : Dev nD) (L : List Lk) : oweL d L (barCell c) () = 0 := by
  by_contra h
  obtain ⟨l, -, h1⟩ := oweL_pos (Nat.pos_of_ne_zero h)
  exact bar_ne_rcv _ _ _ h1

/-- What a list of links owes to a receive cell: the link's credit, if the link is in the list and ends there. -/
theorem oweL_rcv (d c : Dev nD) (l : Lk) : ∀ L : List Lk, L.Nodup →
    oweL d L (rcvCell c l) () = if l ∈ L ∧ dest l.dir d = c then credit l else 0
  | [], _ => by rw [if_neg (fun h => absurd h.1 List.not_mem_nil)]; rfl
  | l' :: L, hL => by
    obtain ⟨h1, h2⟩ := List.nodup_cons.mp hL
    rw [oweL, Pi.add_apply, Finsupp.add_apply, tallyAt_apply, oweL_rcv d c l L h2]
    by_cases e : l = l'
    · subst e
      rw [if_neg (fun h => h1 h.1), Nat.zero_add]
      by_cases e' : dest l.dir d = c
      · rw [if_pos ⟨by rw [e'], rfl⟩, if_pos ⟨List.mem_cons_self, e'⟩]
      · rw [if_neg (fun h => e' (rcv_eq_iff.mp h.1).1.symm), if_neg (fun h => e' h.2)]
    · rw [if_neg (c := rcvCell c l = _ ∧ _) (fun h => e (rcv_eq_iff.mp h.1).2), Nat.add_zero]
      refine if_congr ?_ rfl rfl
      rw [List.mem_cons]
      exact ⟨fun h => ⟨Or.inr h.1, h.2⟩, fun h => ⟨h.1.resolve_left e, h.2⟩⟩

/-- Barrier cells agree only for the same device. -/
theorem bar_eq_iff {a b : Dev nD} : (barCell a = barCell b) ↔ a = b :=
  ⟨fun h => congrArg Prod.fst (kcell_inj h), fun h => by rw [h]⟩

/-- At the start a barrier cell is owed one signal by each neighbour. -/
theorem owe0_bar (d c : Dev nD) : owe0 d (barCell c) () = (if d = src 0 c then 1 else 0) + (if d = src 1 c then 1 else 0) := by
  have hd : ∀ e : Fin 2, (if barCell c = barCell (dest e d) ∧ () = () then 1 else 0) = (if d = src e c then 1 else 0 : ℕ) := fun e => by
    refine if_congr ?_ rfl rfl
    rw [bar_eq_iff]
    constructor
    · rintro ⟨rfl, -⟩; exact (src_dest e d).symm
    · rintro rfl; exact ⟨(dest_src e c).symm, rfl⟩
  unfold owe0 oweB
  rw [Pi.add_apply, Finsupp.add_apply, Pi.add_apply, Finsupp.add_apply, oweL_bar, tallyAt_apply, tallyAt_apply, Nat.zero_add, hd, hd]

/-- At the start a receive cell is owed its link's credit by the device the link comes from. -/
theorem owe0_rcv (d c : Dev nD) (l : Lk) : owe0 d (rcvCell c l) () = if d = src l.dir c then credit l else 0 := by
  have hb : ∀ e : Dev nD, tallyAt (Ix := Unit) (barCell e) () 1 (rcvCell c l) () = 0 := fun e => by
    rw [tallyAt_apply, if_neg fun h => bar_ne_rcv _ _ _ h.1.symm]
  unfold owe0 oweB
  rw [Pi.add_apply, Finsupp.add_apply, Pi.add_apply, Finsupp.add_apply, oweL_rcv d c l prog prog_nodup, hb, hb, Nat.add_zero]
  refine if_congr ?_ rfl rfl
  constructor
  · rintro ⟨-, rfl⟩; exact (src_dest _ d).symm
  · rintro rfl; exact ⟨mem_prog l, dest_src _ c⟩

/-- Summed over all devices, a barrier cell is promised two signals; -/
theorem launch_bar (c : Dev nD) :
    tallyOn (barCell c) (launchCredit (Pipeline.owing owe0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owe0_bar d c, Finset.sum_add_distrib,
    Finset.sum_ite_eq' Finset.univ (src 0 c) fun _ => 1, Finset.sum_ite_eq' Finset.univ (src 1 c) fun _ => 1, if_pos (Finset.mem_univ _), if_pos (Finset.mem_univ _)]

/-- and a receive cell its link's credit. -/
theorem launch_rcv (c : Dev nD) (l : Lk) :
    tallyOn (rcvCell c l) (launchCredit (Pipeline.owing owe0) 0 (rcvCell c l)) = (tallyAt (rcvCell c l) () (credit l) : CellTallies nD τ sig Unit) := by
  unfold tallyAt; refine congrArg _ (Finsupp.ext fun u => ?_); cases u
  rw [Pipeline.launchCredit_owing, Finsupp.single_eq_same, Finset.sum_congr rfl fun d _ => owe0_rcv d c l, Finset.sum_ite_eq' Finset.univ (src l.dir c) fun _ => credit l,
    if_pos (Finset.mem_univ _)]

/-- The receiving ends' semaphores, apart. -/
def rcvSem : Lk ↪ SemLoc sig := ⟨fun l => csem (some (l, true)), fun l l' h => (Prod.mk.inj (Option.some.inj (csem_inj h))).1⟩

/-- The credit a device is launched with: two signals at its barrier, and each link's credit at its receive cell. -/
theorem creds (c : Dev nD) :
    (Pipeline.launchCred owe0 c : sProp 𝕄)
      ⊢ iprop(cred (tallyAt (barCell c) () 2) ∗ bigSep Finset.univ fun l : Lk => cred (tallyAt (rcvCell c l) () (credit l))) := by
  unfold Pipeline.launchCred
  rw [bigSep_univ_at _ (SemLoc.reg barS)]
  refine BI.sep_mono (Entails.of_eq (congrArg cred (launch_bar c))) ?_
  refine (bigSep_subset (t := Finset.univ.map rcvSem) fun sm h => ?_).trans ?_
  · obtain ⟨l, -, hl⟩ := Finset.mem_map.mp h
    exact Finset.mem_erase.mpr ⟨fun e => (show rcvSem l ≠ SemLoc.reg barS from fun e => by cases e) (hl.trans e), Finset.mem_univ _⟩
  · rw [bigSep_map]
    exact bigSep_mono fun l _ => Entails.of_eq (congrArg cred (launch_rcv c l))

/-! ### What the body starts from -/

/-- The part of the body's start that the launch provides. -/
def start (c : Dev nD) : sProp 𝕄 :=
  iprop(∃ K, records I K ∗ bTok c ∗ bigSep Finset.univ (lTok c) ∗ (bigSep Finset.univ fun l => cTok c l true) ∗ cpZ c ∗ kvP I c)

/-- The launch's parts, put together to what the body starts from. -/
theorem start_mk (c : Dev nD) :
    iprop(kvP I c ∗ levAts Lix lv ∗ Pipeline.launchCred owe0 c ∗ G1 I c) ⊢ (start I c : sProp 𝕄) := by
  unfold G1 mine cellsKnown pays start records bTok
  rw [chain_cells, chain_ends, show (bigSep Finset.univ (lTok c) : sProp 𝕄)
      = iprop((bigSep Finset.univ fun l : Lk => dutyTok ER (sndCell c l) 0 0) ∗ (bigSep Finset.univ fun l : Lk => dutyTok ER (rcvCell (dest l.dir c) l) 0 0)
        ∗ bigSep Finset.univ fun l : Lk => atPos ER (sndCell c l) 0 ∅ 0) from by rw [← bigSep_sep', ← bigSep_sep']; rfl,
    show (bigSep Finset.univ (fun l => cTok c l true) : sProp 𝕄)
      = iprop((bigSep Finset.univ fun l : Lk => cred (tallyAt (rcvCell c l) () (credit l))) ∗ bigSep Finset.univ fun l : Lk => atPos ER (rcvCell c l) 0 ∅ 0) from by
        rw [← bigSep_sep']; rfl]
  iintro ⟨Hkv, Hlev, Hcr, ⟨%K, ⟨Hi, Hr⟩, ⟨HaB, HaS, HaR⟩, ⟨⟨Ht1, Ht0⟩, HtS, HtR⟩, Hcp⟩⟩
  ihave Hc := (creds (F := F) c) $$ Hcr
  icases Hc with ⟨HcB, HcR⟩
  iexists K
  isplitl [Hi Hr Hlev]
  · isplitl [Hi]; · iexact Hi
    isplitl [Hr]; · iexact Hr
    iexact Hlev
  isplitl [HcB HaB Ht1 Ht0]
  · isplitl [HcB]; · iexact HcB
    isplitl [HaB]; · iexact HaB
    isplitl [Ht1]; · iexact Ht1
    iexact Ht0
  isplitl [HtS HtR HaS]
  · isplitl [HtS]; · iexact HtS
    isplitl [HtR]; · iexact HtR
    iexact HaS
  isplitl [HcR HaR]
  · isplitl [HcR]; · iexact HcR
    iexact HaR
  isplitl [Hcp]; · iexact Hcp
  iexact Hkv

end Cert.Proof

end

end
-- ==== Proof.Unrolled.lean ====
/-
  The printed body is the structured one.
-/
module

public import proofs.«01_k».proof.Proof.Structured
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL.Sem

variable {F : FTy → Type} [FloatOps F]

/-- The printed body, on what the pipeline calls it with, is the structured program. -/
theorem body_eq : (bodyAt0 (F := F) t0_0) = bodyS := by
  sl_kernel_rfl

end Cert.Proof

end

end
-- ==== Proof.Run.lean ====
/-
  The run of the whole program: from any memory with zero counters it ends, the result array holds what the body stores,
  the arguments are as they were and every counter is back at zero.
-/
module

public import proofs.«01_k».proof.Proof.Launch

public import proofs.«01_k».proof.Proof.Unrolled
public import proofs.«01_k».proof.Proof.Gen.KernelIdeal.Launch
public import proofs.«01_k».proof.Proof.Gen.KernelIdeal.Points
public import Idealize.ShloMosaic.Lib.Quiescent
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at the start. -/
def s₀ : MemSt nD τ sig (Elt F) := ⟨m, fun _ => 0, ρ⟩

/-- What the devices hold at the start. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  k c := m ((c : Thread nD τ).loc main_arg2)
  v c := m ((c : Thread nD τ).loc main_arg3)
  wo c := (win0_2.blk (0 : Fin 1)).view.read (Elt F) (m ((c : Thread nD τ).loc main_arg4))

/-- What the body keeps after the point. -/
def done (c : Dev nD) : sProp 𝕄 := iprop(semVal (barCell c) 0 ∗ allZ c ∗ cpZ c ∗ scr c ∗ kvP (ins m) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wo c
    | ⟨3, _⟩ => outV (ins m) c
  Φ t := match t with
    | ⟨0, _⟩ => iprop(start (ins m) c ∗ scr c)
    | ⟨_ + 1, _⟩ => done m c
  q _ := fullShare
  owed t := match t with
    | ⟨0, _⟩ => owe0 c
    | ⟨_ + 1, _⟩ => 0

/-- Owning a whole buffer with given contents is holding all of its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop((start (ins m) c ∗ scr c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def after (c : Dev nD) : sProp 𝕄 :=
  iprop(done m c ∗ (dats m ρ 0 c).owesAt () t0_0.succ ∗ stg c cc0_stg0_0 ((ins m).x c) ∗ stg c cc0_stg1_0 ((ins m).wq c)
    ∗ stg c cc0_stg2_0 ((ins m).wo c) ∗ stg c cc0_stg3_0 (outV (ins m) c))

/-- The one grid point: from the launch's start the body runs to the end, and the output's staging buffer holds
    `outV`. -/
theorem wp_point (c : Dev nD) : before m ρ c ⊢ WP c (bodyS (F := F)) fun _ => after m ρ c := by
  unfold before start
  iintro ⟨⟨⟨%K, #HR, Hb, Hl, Hc, Hcp, Hkv⟩, Hscr⟩, Ho, ⟨%d0, %g0, %hg0, H0⟩, ⟨%d1, %g1, %hg1, H1⟩, ⟨%d2, %g2, %hg2, H2⟩, ⟨%d3, %g3, %hg3, H3⟩⟩
  have h0 : g0 = (ins m).x c := by rw [hg0]; unfold Dat.before; rw [if_pos (fetch0_0 t0_0)]; rfl
  have h1 : g1 = (ins m).wq c := by rw [hg1]; unfold Dat.before; rw [if_pos (fetch0_1 t0_0)]; rfl
  have h2 : g2 = (ins m).wo c := by rw [hg2]; unfold Dat.before; rw [if_pos (fetch0_2 t0_0)]; rfl
  subst h0; subst h1; subst h2
  unfold Dat.owesAt Pipeline.owesWithin
  icases Ho with ⟨%W, %hW, HO⟩
  rw [show (dats m ρ 0 c).owed t0_0.castSucc = owe0 c from rfl]
  iapply (wp_body (ins m) K c (fun _ => after m ρ c))
  isplitr; · iexact HR
  isplitl
  · unfold bodyIn
    isplitl [HO]; · iexists W; iexact HO
    isplitl [Hb]; · iexact Hb
    isplitl [Hl]; · iexact Hl
    isplitl [Hc]; · iexact Hc
    isplitl [Hcp]; · iexact Hcp
    isplitl [Hscr]; · iexact Hscr
    isplitl [Hkv]; · iexact Hkv
    isplitl [H0]; · iexact H0
    isplitl [H1]; · iexact H1
    isplitl [H2]; · iexact H2
    iexists g3
    iexact H3
  · unfold bodyOut after done Dat.owesAt Pipeline.owesWithin
    rw [show (dats m ρ 0 c).owed t0_0.succ = 0 from rfl]
    iintro ⟨⟨%W', HO⟩, Hz, Haz, Hcp, Hscr, Hkv, H0, H1, H2, H3⟩
    isplitl [Hz Haz Hcp Hscr Hkv]
    · isplitl [Hz]; · iexact Hz
      isplitl [Haz]; · iexact Haz
      isplitl [Hcp]; · iexact Hcp
      isplitl [Hscr]; · iexact Hscr
      iexact Hkv
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

/-- The windows one by one. -/
theorem chain_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- The pipeline's row at the point is the structured program. -/
theorem row_eq : defs₀ (F := F) Proc.tc 0 (t0_0, cfg0.slots t0_0) = bodyS := by
  sl_kernel_rfl

set_option maxRecDepth 40000 in
/-- The body does what the pipeline asks of it. -/
theorem body_obligation (c : Dev nD) : BodyObligation (dats (F := F) m ρ 0 c) (defs₀ (F := F)) 𝒱₀ () Set.univ := fun t => by
  rw [show t = t0_0 from fin_N0 t]
  rw [chain_W, chain_W]
  simp only [owns_whole_eq]
  rw [row_eq, show (dats m ρ 0 c).Φ t0_0.castSucc = iprop(start (ins m) c ∗ scr c) from rfl, show (dats m ρ 0 c).Φ t0_0.succ = done m c from rfl,
    show (dats m ρ 0 c).after 0 t0_0 = (ins m).x c from rfl, show (dats m ρ 0 c).after 1 t0_0 = (ins m).wq c from rfl,
    show (dats m ρ 0 c).after 2 t0_0 = (ins m).wo c from rfl, show (dats m ρ 0 c).after 3 t0_0 = outV (ins m) c from rfl]
  have h := wp_point m ρ c
  unfold before after at h
  revert h
  generalize (bodyS (F := F)) = B
  generalize outV (ins m) c = X
  intro h
  exact h

/-! ### The launch's side conditions -/

/-- Every window is held in full. -/
theorem share_eq (c : Dev nD) (w : Fin cfg0.W) : (dats m ρ 0 c).share w = fullShare := by unfold Dat.share; split <;> rfl

/-- What the launch leaves over is the start of the body. -/
theorem start_intro (c : Dev nD) :
    iprop(Pipeline.unscopedRestP Pipeline.Prefetch.none cfg0.spec c (fun b => m ((c : Thread nD τ).loc b)) ∗ levAts Lix lv
        ∗ Pipeline.launchCred owe0 c ∗ prngReg c (ρ c) ∗ G1 (ins m) c)
      ⊢ |={Set.univ}=> iprop(start (ins m) c ∗ emp) := by
  rw [Pipeline.unscopedRestP_none, show (Pipeline.unscopedRest cfg0.spec c (fun b => m ((c : Thread nD τ).loc b)) : sProp 𝕄) = kvP (ins m) c from unscopedRest0_eq c _]
  iintro ⟨Hkv, Hlev, Hcr, -, HG⟩
  imodintro
  isplitl
  · iapply (start_mk (ins m) c)
    isplitl [Hkv]; · iexact Hkv
    isplitl [Hlev]; · iexact Hlev
    isplitl [Hcr]; · iexact Hcr
    iexact HG
  iempintro

/-- The buffers of the scope that stage nothing are the scratch buffers. -/
theorem rest_scr (c : Dev nD) : (Pipeline.scopedRest cfg0.spec c : sProp 𝕄) = scr c := scopedRest0_eq c

/-- Entering the pipeline; -/
theorem enter (c : Dev nD) :
    iprop(start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (ins m) c ∗ scr c) from rfl, rest_scr]
  iintro ⟨Hs, -, Hr⟩
  isplitl [Hs]; · iexact Hs
  iexact Hr

/-- and leaving it, with everything handed back. -/
theorem leave (c : Dev nD) :
    (dats m ρ 0 c).Φ (Fin.last cfg0.N)
      ⊢ iprop((unscopedSems0 c ∗ kvP (ins m) c) ∗ Pipeline.ownSems0 osem c ∗ Pipeline.scopedRest cfg0.spec c) := by
  rw [show (dats m ρ 0 c).Φ (Fin.last cfg0.N) = done m c from rfl, rest_scr, ownSems0_eq, unscopedSems0_eq, chain_ends (fun p : Lk × Bool => zTok (F := F) c p.1 p.2)]
  unfold done allZ
  iintro ⟨Hz, Haz, Hcp, Hscr, Hkv⟩
  isplitl [Hz Hkv]
  · isplitl [Hz]; · iexact Hz
    iexact Hkv
  isplitl [Hcp Haz]
  · isplitl [Hcp]; · iexact Hcp
    iexact Haz
  iexact Hscr

/-- Whatever is owed at the start is owed at a cell above the staging semaphores. -/
theorem owe0_pos {c : Dev nD} {g : GSem nD τ sig} {u : Unit} (h : 0 < owe0 c g u) : ∃ (d : Dev nD) (k : CK), g = kcell (d, k) ∧ 0 < lvl (some k) := by
  unfold owe0 oweB at h
  rw [Pi.add_apply, Finsupp.add_apply, Pi.add_apply, Finsupp.add_apply, tallyAt_apply, tallyAt_apply] at h
  by_cases h1 : g = barCell (dest 0 c)
  · exact ⟨_, none, h1, Nat.one_pos⟩
  by_cases h2 : g = barCell (dest 1 c)
  · exact ⟨_, none, h2, Nat.one_pos⟩
  rw [if_neg (fun e => h1 e.1), if_neg (fun e => h2 e.1)] at h
  obtain ⟨l, -, hg⟩ := oweL_pos (L := prog) (c := c) (g := g) (u := u) h
  refine ⟨_, some (l, true), hg, ?_⟩
  show 0 < l.lev
  cases l <;> exact Nat.succ_pos _

/-- The pipeline may wait on a staging semaphore at any time. -/
theorem mayWait_stage (c : Dev nD) (q : DmaSem sig) (hq : q.val < 8) (O : CellTallies nD τ sig Unit) (hO : O = owe0 c ∨ O = 0) :
    (levAts Lix lv : sProp 𝕄) ⊢ MayWait (c : Thread nD τ) (.dma q) () O := by
  rcases hO with rfl | rfl
  · refine MayOwe.of_cut (L := Lix) (lev := lv) 0 (fun p hp => by rw [Finset.mem_singleton.mp hp, Lix_tc]; exact Finset.mem_singleton_self _)
      (fun g u hg => by obtain ⟨d, k, rfl, -⟩ := owe0_pos hg; exact Finset.mem_singleton_self _)
      (fun p hp => by rw [Finset.mem_singleton.mp hp]; unfold lv; rw [dec_low q hq]; exact le_rfl)
      (fun g u hg => by obtain ⟨d, k, rfl, h⟩ := owe0_pos hg; rw [lv_cell]; exact h)
  · rw [MayWait_zero]; iintro -; iempintro

/-- All the pipeline's waits are allowed. -/
theorem waits (c : Dev nD) : (levAts Lix lv : sProp 𝕄) ⊢ Pipeline.cellsWaits cfgs (dats m ρ) () 0 c :=
  Pipeline.cellsWaits_intro cfgs (dats m ρ) () 0 c fun w s t =>
    mayWait_stage c _ (lt_trans (stage_val w s) (by decide)) _ (by
      rcases t with ⟨_ | _, ht⟩
      · exact Or.inl rfl
      · exact Or.inr rfl)

/-- What is read off the final memory: the counters outside the kernel, the keys and the values. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

/-- At the end the counters outside the kernel are zero, and keys and values are as at the start. -/
theorem read_end (c : Dev nD) (s' : Phys nD τ sig (Elt F)) :
    iprop((unscopedSems0 c ∗ kvP (ins m) c) ∗ emp ∗ SI s') ⊢ (|={Set.univ}=> iprop(⌜QY m c s'.mem⌝ ∗ SI s') : sProp 𝕄) := by
  unfold kvP QY
  iintro ⟨⟨Hu, Hk, Hv⟩, -, HSI⟩
  imod (Pipeline.unscopedSems0_read (X := unscopedSems0 c) (c := c) fupd_intro s') $$ [Hu HSI] with ⟨%hu, HSI⟩
  · isplitl [Hu] <;> iassumption
  icombine HSI Hk gives %hk
  icombine HSI Hv gives %hv
  imodintro
  isplitr
  · ipureintro
    exact ⟨hu, funext fun i => hk i (Finset.mem_univ _), funext fun i => hv i (Finset.mem_univ _)⟩
  iexact HSI

/-! ### The run -/

def finalA (c : Dev nD) (w : Fin cfg0.W) : Buf (Elt F) ((cfg0.win w).arr.view.loc (c : Thread nD τ)) := (dats m ρ 0 c).arrAt w cfg0.N

/-- What holds at the end. -/
def QC (r : PUnit × MemSt nD τ sig (Elt F)) : Prop :=
  (∀ c : Dev nD, (∀ w : Fin cfg0.W, r.2.mem ((cfg0.win w).arr.view.loc (c : Thread nD τ)) = finalA m ρ c w) ∧ QY m c r.2) ∧ r.2.sem = fun _ => 0

set_option maxRecDepth 40000 in
/-- Every weakly fair run of the program from any memory with zero counters ends, in a state `QC` describes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owe0) (howed₀ := fun _ => rfl) (howedN := fun _ => rfl)
    (L := Lix) (lv := lv) (hL := Lix_of_ne) (hwaits := waits m ρ)
    (G := G0 (ins m)) (G' := G1 (ins m)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (deal (ins m)) $$ HX with HG
      imodintro
      isplitl [HP] <;> iassumption)
    (hglob := glob (ins m))
    (hA := fun _ _ => rfl) (hpf := fun _ k => k.elim0)
    (X := start (ins m)) (Y := fun c => iprop(unscopedSems0 c ∗ kvP (ins m) c)) (Z := fun _ => iprop(emp))
    (hX := start_intro m ρ) (hin := enter m ρ) (hout := leave m ρ)
    (QY := QY m) (hY := read_end m)
    (hQ := fun _ h hs => ⟨fun c => ⟨(h c).1, (h c).2.2⟩, sem_eq_zero hs fun c => (h c).2.2.1⟩)

end Cert.Proof

end

end
-- ==== Proof.Frames.lean ====
/-
  The runs of both programs, read as the claims ask: what they leave in the arrays they were given,
  and in the array they write.
-/
module

public import proofs.«01_k».proof.Defs
public import proofs.«01_k».proof.Proof.Run
public import proofs.«01_k».proof.Proof.Gen.Kernel
public import proofs.«01_k».proof.Proof.Gen.KernelIdeal.Points
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- At the end of a run the five argument arrays are as they were, the result is what `outV` says, and every
    counter is zero. -/
theorem ends (r : PUnit × MemSt nD τ sig (Elt F)) (h : QC m ρ r) :
    (∀ c : Dev nD, r.2.mem ((c.tc : Thread nD τ).loc main_v1) = outV (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 := by
  refine ⟨fun c => ?_, h.2⟩
  obtain ⟨hw, hy⟩ := h.1 c
  refine ⟨?_, ?_, ?_, ?_, ?_, ?_⟩
  · refine (hw 3).trans ?_
    unfold finalA
    refine (dats m ρ 0 c).arrAt_eq_of_after_last 3 t0_0 (by decide +kernel) _ fun j => ?_
    blk_simp
    rfl
  · exact (hw 0).trans ((dats m ρ 0 c).arrAt_in 0 rfl _)
  · exact (hw 1).trans ((dats m ρ 0 c).arrAt_in 1 rfl _)
  · exact hy.2.1
  · exact hy.2.2
  · exact (hw 2).trans ((dats m ρ 0 c).arrAt_in 2 rfl _)

/-- The kernel's whole run, ending as `ends` says. -/
theorem run_kernel : θ_run defs (onTc (τ := τ) (main (F := F))) (s₀ m ρ) fun r =>
    (∀ c : Dev nD, r.2.mem ((c.tc : Thread nD τ).loc main_v1) = outV (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (ends m ρ) (run_main m ρ)

/-- What the body's windows bring in is the argument arrays. -/
theorem ins_x (c : Dev nD) : (ins m).x c = m ((c.tc : Thread nD τ).loc main_arg0) := by
  funext j; show (win0_0.blk t0_0).view.read (Elt F) _ j = _; blk_simp; refine congrArg _ (funext fun a => Fin.ext ?_); blk_simp; exact (congrArg (· + _) (Nat.zero_mul _)).trans (Nat.zero_add _)
/-- The query weights are those in the device's memory at the start; -/
theorem ins_wq (c : Dev nD) : (ins m).wq c = m ((c.tc : Thread nD τ).loc main_arg1) := by
  funext j; show (win0_1.blk t0_0).view.read (Elt F) _ j = _; blk_simp; refine congrArg _ (funext fun a => Fin.ext ?_); blk_simp; exact (congrArg (· + _) (Nat.zero_mul _)).trans (Nat.zero_add _)
/-- so are the output weights. -/
theorem ins_wo (c : Dev nD) : (ins m).wo c = m ((c.tc : Thread nD τ).loc main_arg4) := by
  funext j; show (win0_2.blk t0_0).view.read (Elt F) _ j = _; blk_simp; refine congrArg _ (funext fun a => Fin.ext ?_); blk_simp; exact (congrArg (· + _) (Nat.zero_mul _)).trans (Nat.zero_add _)

/-- The kernel ends, with its arguments unchanged and every counter zero. -/
theorem frame_kernelIdeal : Cert.quiescent_KernelIdeal := fun m ρ _ =>
  (θ_run defs _ _).mono (fun _ h => ⟨fun c => (h.1 c).2, h.2⟩) (run_kernel (F := Ideal) m ρ)

/-- The two programs are one text: their body tables are equal, -/
theorem defs₀_eq : Cert.Kernel.defs₀ (F := Bits) = Cert.KernelIdeal.defs₀ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- and so are the tables with the regions in them. -/
theorem defs_eq : Cert.Kernel.defs (F := Bits) = Cert.KernelIdeal.defs := by
  unfold Cert.Kernel.defs Cert.KernelIdeal.defs
  rw [defs₀_eq]
  rfl

/-- The kernel ends so with the machine's own floats too. -/
theorem frame_kernel : Cert.quiescent_Kernel := by
  intro m ρ _
  have key : ∀ D, D = Cert.KernelIdeal.defs (F := Bits) → θ_run D (onTc (τ := τ) (main (F := Bits))) (s₀ (F := Bits) m ρ) fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 := by
    rintro D rfl
    exact (θ_run _ _ _).mono (fun r h => ⟨fun c => ((ends (F := Bits) m ρ r h).1 c).2, (ends (F := Bits) m ρ r h).2⟩)
      (run_main (F := Bits) m ρ)
  exact key Cert.Kernel.defs defs_eq

end Cert.Proof

end

end
-- ==== Proof.RefFrame.lean ====
/-
  The reference's run: it ends, leaves its arguments alone, and has no counters to leave raised.
-/
module

public import proofs.«01_k».proof.Defs
public import proofs.«01_k».proof.Proof.Gen.ReferenceIdeal.Run
public import Idealize.ShloMosaic.Lib.Quiescent

@[expose] public section

noncomputable section

namespace Cert.Proof

open Idealize.ShloMosaic
open Idealize.SL.Sem

/-- The reference ends, with its arguments unchanged and every counter zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end

end
-- ==== Proof.Pre.lean ====
/-
  The precondition: the shapes it is stated over, and the runs under it.
-/
module

public import proofs.«01_k».proof.Proof.Frames
public import proofs.«01_k».proof.Proof.RefFrame

@[expose] public section

noncomputable section

namespace Cert.Proof

open Idealize.ShloMosaic
open Idealize.SL.Sem

/-- The precondition's shapes, on a device's blocks. -/
instance factsPreKernel : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

/-- The precondition's shapes, on the whole arrays. -/
instance factsPreReference : Cert.Pre_finite_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x32768x8x128 := by decide
  reducesTo_S1x32768x8x128_S_d0_1_2_3 := by decide

/-- The kernel's run does not use the precondition, -/
theorem frame_kernelIdeal_pre : Cert.quiescent_KernelIdeal_pre_finite_KernelIdeal := fun m ρ _ =>
  frame_kernelIdeal m ρ trivial

/-- nor does the reference's. -/
theorem frame_reference_pre : Cert.quiescent_ReferenceIdeal_pre_finite_ReferenceIdeal := fun m ρ _ =>
  frame_reference m ρ trivial

end Cert.Proof

end

end
-- ==== Proof.Equation.lean ====
/-
  The claim of equal values: the reference's result is laid out, block by block, on the devices.
-/
module

public import proofs.«01_k».proof.Proof.Whole
public import proofs.«01_k».proof.Proof.Pre
public import Idealize.ShloMosaic.Lib.ReduceAll
public import Idealize.ShloMosaic.Lib.Layout

@[expose] public section

noncomputable section

namespace Cert.Proof

open Idealize.ShloMosaic Cert.ReferenceIdeal.Read
open Idealize.SL.Sem

/-- A value whose absolute value is below infinity is real. -/
theorem real_of_lt (x : EReal) (h : Ideal.cmp .olt (max x (-x)) (Ideal.ofBits .f32 0x7F800000#32) = 1#1) : ∃ r : ℝ, x = r := by
  have top : Ideal.ofBits .f32 0x7F800000#32 = ⊤ := by simp [Ideal.ofBits, Ideal.ieee]
  rw [top] at h
  unfold Ideal.cmp at h
  induction x with
  | bot => simp at h
  | coe r => exact ⟨r, rfl⟩
  | top => simp at h

/-- An array all of whose absolute values are below infinity is real. -/
theorem real_of_all {s u : Shape} {axes : List (Fin s.rank)} [Subsingleton u.Idx] (a : FVec Ideal s .f32)
    (dims : Fin u.rank → Fin s.rank) (hb : u.BroadcastsInDim s dims) (init : u.Idx → BitVec 1) (h : s.ReducesTo axes u) (hu : 0 < u.numel) (j : u.Idx)
    (e : Host.reduce IntOp.andi (cmpf .olt (Host.absf a) (broadcastInDim s dims hb (constant u .f32 0x7F800000#32))) init h hu j = 1#1)
    (i : s.Idx) : ∃ r : ℝ, a i = (r : EReal) :=
  real_of_lt (a i) (Host.reduce_andi_all _ init h hu j e i)

instance : Subsingleton Cert.Pre_finite_KernelIdeal.S_.Idx := ⟨fun _ _ => funext fun a => a.elim0⟩

/-- The precondition makes a device's queries, query weights and keys real. -/
theorem real_of_pre {x : FVec Ideal ⟨3, ![1, 256, 1024]⟩ .f32} {w : FVec Ideal ⟨2, ![1024, 1024]⟩ .f32}
    {k v : FVec Ideal ⟨4, ![1, 4096, 8, 128]⟩ .f32} {o : FVec Ideal ⟨2, ![1024, 1024]⟩ .f32}
    (h : Cert.Pre_finite_KernelIdeal.fn (F := Ideal) x w k v o = fun _ => 1#1) :
    (∀ i, ∃ r : ℝ, x i = (r : EReal)) ∧ (∀ i, ∃ r : ℝ, w i = (r : EReal)) ∧ ∀ i, ∃ r : ℝ, k i = (r : EReal) := by
  have e := congrFun h ix0
  dsimp only [Cert.Pre_finite_KernelIdeal.fn] at e
  obtain ⟨e, e3⟩ := IntOp.andi_eq_one.1 e
  obtain ⟨e1, e2⟩ := IntOp.andi_eq_one.1 e
  exact ⟨real_of_all x _ _ _ _ _ _ e1, real_of_all w _ _ _ _ _ _ e2, real_of_all k _ _ _ _ _ _ e3⟩

/-- Where a row of a device's block is in the whole array of queries, -/
theorem block3_at {α : Type} (c : Dev Cert.KernelIdeal.nD) (z : (⟨3, ![1, 2048, 1024]⟩ : Shape).Idx → α) (r : Fin 256) (e : Fin 1024) :
    Layout.block ⟨3, ![1, 256, 1024]⟩ ⟨3, ![1, 2048, 1024]⟩ 1 8 c z (by decide) (ix3 0 r e) = z (ix3 0 (gq c r) e) := by
  refine congrArg z (funext fun a => Fin.ext ?_)
  match a with
  | ⟨0, _⟩ => rfl
  | ⟨1, _⟩ => rfl
  | ⟨2, _⟩ => rfl

/-- and one of its keys in the whole array of keys. -/
theorem block4_at {α : Type} (c : Dev Cert.KernelIdeal.nD) (z : (⟨4, ![1, 32768, 8, 128]⟩ : Shape).Idx → α) (j : Fin 4096) (h : Fin 8) (y : Fin 128) :
    Layout.block ⟨4, ![1, 4096, 8, 128]⟩ ⟨4, ![1, 32768, 8, 128]⟩ 1 8 c z (by decide) (ix4 0 j h y) = z (ix4 0 (gk c j) h y) := by
  refine congrArg z (funext fun a => Fin.ext ?_)
  match a with
  | ⟨0, _⟩ => rfl
  | ⟨1, _⟩ => rfl
  | ⟨2, _⟩ => rfl
  | ⟨3, _⟩ => rfl

/-- The kernel leaves on every device that device's block of the reference's result. -/
theorem blocks_eq {I : Ins Ideal} {x : RX} {w : RW} {k v : RK} {o : RW}
    (rx : ∀ c i, ∃ r : ℝ, I.x c i = (r : EReal)) (rw' : ∀ c i, ∃ r : ℝ, I.wq c i = (r : EReal)) (rk : ∀ c i, ∃ r : ℝ, I.k c i = (r : EReal))
    (hx : ∀ c, I.x c = Layout.block ⟨3, ![1, 256, 1024]⟩ ⟨3, ![1, 2048, 1024]⟩ 1 8 c x (by decide)) (hw : ∀ c, I.wq c = w)
    (hk : ∀ c, I.k c = Layout.block ⟨4, ![1, 4096, 8, 128]⟩ ⟨4, ![1, 32768, 8, 128]⟩ 1 8 c k (by decide))
    (hv : ∀ c, I.v c = Layout.block ⟨4, ![1, 4096, 8, 128]⟩ ⟨4, ![1, 32768, 8, 128]⟩ 1 8 c v (by decide)) (ho : ∀ c, I.wo c = o)
    (c : Dev Cert.KernelIdeal.nD) :
    outV I c = Layout.block ⟨3, ![1, 256, 1024]⟩ ⟨3, ![1, 2048, 1024]⟩ 1 8 c (val_main_v39 (F := Ideal) x w k v o) (by decide) := by
  have ix : ∀ c r e, I.x c (ix3 0 r e) = x (ix3 0 (gq c r) e) := fun c r e => by rw [hx, block3_at]
  have ik : ∀ c j h y, I.k c (ix4 0 j h y) = k (ix4 0 (gk c j) h y) := fun c j h y => by rw [hk, block4_at]
  have iv : ∀ c j h y, I.v c (ix4 0 j h y) = v (ix4 0 (gk c j) h y) := fun c j h y => by rw [hv, block4_at]
  have X : ∀ i e, ∃ r : ℝ, x (ix3 0 i e) = (r : EReal) := fun i e => by
    obtain ⟨r, hr⟩ := rx ⟨i.val / 256, by show _ < 8; omega⟩ (ix3 0 ⟨i.val % 256, by omega⟩ e)
    refine ⟨r, ((ix _ _ _).trans (congrArg (fun i => x (ix3 0 i e)) (Fin.ext ?_))).symm.trans hr⟩
    simp only [gq]
    omega
  have K : ∀ j h y, ∃ r : ℝ, k (ix4 0 j h y) = (r : EReal) := fun j h y => by
    obtain ⟨r, hr⟩ := rk ⟨j.val / 4096, by show _ < 8; omega⟩ (ix4 0 ⟨j.val % 4096, by omega⟩ h y)
    refine ⟨r, ((ik _ _ _ _).trans (congrArg (fun j => k (ix4 0 j h y)) (Fin.ext ?_))).symm.trans hr⟩
    simp only [gk]
    omega
  have W : ∀ e n, ∃ r : ℝ, w (ix2 e n) = (r : EReal) := fun e n => hw 0 ▸ rw' 0 (ix2 e n)
  choose X hX using X
  choose K hK using K
  choose W hW using W
  funext i
  idx_vars i
  obtain rfl : i0 = 0 := Subsingleton.elim _ _
  rw [block3_at]
  exact equation hX hW hK ix hw ik iv ho c i1 i2

/-- From real queries, query weights and keys, the kernel and the reference leave equal values. -/
theorem algebraic : Cert.algebraic_KernelIdeal_ReferenceIdeal_pre_finite_KernelIdeal := by
  intro m g m' g' pre h
  have R := fun c => real_of_pre (pre c)
  have key := blocks_eq (I := ins m) (fun c => by rw [ins_x]; exact (R c).1) (fun c => by rw [ins_wq]; exact (R c).2.1)
    (fun c => (R c).2.2) (fun c => (ins_x m c).trans (h c).1) (fun c => (ins_wq m c).trans (h c).2.1)
    (fun c => (h c).2.2.1) (fun c => (h c).2.2.2.1) (fun c => (ins_wo m c).trans (h c).2.2.2.2)
  refine ⟨Cert.ReferenceIdeal.Value.res_main_v39 m' 0, (θ_run Cert.KernelIdeal.defs _ _).mono (fun r e c => ?_) (run_kernel (F := Ideal) m g),
    (θ_run Cert.ReferenceIdeal.defs _ _).mono (fun r e => ?_) (Cert.ReferenceIdeal.Value.run (F := Ideal) m' g')⟩
  · refine ⟨(e.1 c).1.trans ?_, (e.1 c).2⟩
    rw [val_main_v39_eq]
    exact key c
  · exact e 0

end Cert.Proof

end

end
-- ==== Proof.lean ====
/-
  The claim, put together from the runs of the programs and the equation of their results.
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Read

@[expose] public section

noncomputable section

namespace Cert.Proof

/-- Every claim holds. -/
theorem claim : Cert.Claim :=
  ⟨Cert.Kernel.Gen.facts, Cert.KernelIdeal.Gen.facts, Cert.ReferenceIdeal.Gen.facts, factsPreKernel, factsPreReference,
    frame_kernel, frame_kernelIdeal, frame_kernelIdeal_pre, frame_reference, frame_reference_pre, trivial, algebraic⟩

end Cert.Proof

end
